-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.2.2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.2.2.2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.2.2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.2.2.2 = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.2.2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.2.2.2 = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).2.2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).2.2.2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).2.2.2.2 = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Kernel26Ideal_finite26 [hPre_finite26 : Cert.Pre_finite26.Facts] (m : (ℓ : Loc Cert.Kernel26Ideal.nD Cert.Kernel26Ideal.τ Cert.Kernel26Ideal.sig) → Buf (Elt Ideal) ℓ) : Prop :=
  ∀ c : Dev Cert.Kernel26Ideal.nD,
    (Cert.Pre_finite26.fn (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1))).1 = (fun _ => 1#1)
    ∧ (Cert.Pre_finite26.fn (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1))).2 = (fun _ => 1#1)

def Pre_Reference26Ideal (m : (ℓ : Loc Cert.Reference26Ideal.nD Cert.Reference26Ideal.τ Cert.Reference26Ideal.sig) → Buf (Elt Ideal) ℓ) : Prop :=
  True

def Pre_Reference26Ideal_finite26 [hPre_finite26 : Cert.Pre_finite26.Facts] (m : (ℓ : Loc Cert.Reference26Ideal.nD Cert.Reference26Ideal.τ Cert.Reference26Ideal.sig) → Buf (Elt Ideal) ℓ) : Prop :=
  ∀ c : Dev Cert.Reference26Ideal.nD,
    (Cert.Pre_finite26.fn (F := Ideal) (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1))).1 = (fun _ => 1#1)
    ∧ (Cert.Pre_finite26.fn (F := Ideal) (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Kernel26Ideal_pre_finite26 [hKernel26Ideal : Cert.Kernel26Ideal.Facts] [hPre_finite26 : Cert.Pre_finite26.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal_finite26 m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Reference26Ideal_pre_finite26 [hReference26Ideal : Cert.Reference26Ideal.Facts] [hPre_finite26 : Cert.Pre_finite26.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal_finite26 m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_v47) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)) (v3 : (c : Dev Cert.Kernel8Ideal.nD) → Buf (Elt Ideal) ((c.tc : Thread Cert.Kernel8Ideal.nD Cert.Kernel8Ideal.τ).loc Cert.Kernel8Ideal.main_v2_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_v2_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v65) = v0 c
          ∧ r.2.mem ((c.tc : Thread Cert.Reference8Ideal.nD Cert.Reference8Ideal.τ).loc Cert.Reference8Ideal.main_v69) = v1 c
          ∧ r.2.mem ((c.tc : Thread Cert.Reference8Ideal.nD Cert.Reference8Ideal.τ).loc Cert.Reference8Ideal.main_v70) = v2 c
          ∧ r.2.mem ((c.tc : Thread Cert.Reference8Ideal.nD Cert.Reference8Ideal.τ).loc Cert.Reference8Ideal.main_v71) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)) (v2 : (c : Dev Cert.Kernel9Ideal.nD) → Buf (Elt Ideal) ((c.tc : Thread Cert.Kernel9Ideal.nD Cert.Kernel9Ideal.τ).loc Cert.Kernel9Ideal.main_v1_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_v1_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v56) = v0 c
          ∧ r.2.mem ((c.tc : Thread Cert.Reference9Ideal.nD Cert.Reference9Ideal.τ).loc Cert.Reference9Ideal.main_v55) = v1 c
          ∧ r.2.mem ((c.tc : Thread Cert.Reference9Ideal.nD Cert.Reference9Ideal.τ).loc Cert.Reference9Ideal.main_v57) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v41) = v0 c
          ∧ r.2.mem ((c.tc : Thread Cert.Reference14Ideal.nD Cert.Reference14Ideal.τ).loc Cert.Reference14Ideal.main_v42) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v41) = v0 c
          ∧ r.2.mem ((c.tc : Thread Cert.Reference15Ideal.nD Cert.Reference15Ideal.τ).loc Cert.Reference15Ideal.main_v42) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v18) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v8) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v1_0)) (v1 : (c : Dev Cert.Kernel20Ideal.nD) → Buf (Elt Ideal) ((c.tc : Thread Cert.Kernel20Ideal.nD Cert.Kernel20Ideal.τ).loc Cert.Kernel20Ideal.main_v1_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1_0) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v16) = v0 c
          ∧ r.2.mem ((c.tc : Thread Cert.Reference20Ideal.nD Cert.Reference20Ideal.τ).loc Cert.Reference20Ideal.main_v17) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v2_0)) (v1 : (c : Dev Cert.Kernel21Ideal.nD) → Buf (Elt Ideal) ((c.tc : Thread Cert.Kernel21Ideal.nD Cert.Kernel21Ideal.τ).loc Cert.Kernel21Ideal.main_v2_1)) (v2 : (c : Dev Cert.Kernel21Ideal.nD) → Buf (Elt Ideal) ((c.tc : Thread Cert.Kernel21Ideal.nD Cert.Kernel21Ideal.τ).loc Cert.Kernel21Ideal.main_v2_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2_0) = v0 c
          ∧ r.2.mem ((c.tc : Thread Cert.Kernel21Ideal.nD Cert.Kernel21Ideal.τ).loc Cert.Kernel21Ideal.main_v2_1) = v1 c
          ∧ r.2.mem ((c.tc : Thread Cert.Kernel21Ideal.nD Cert.Kernel21Ideal.τ).loc Cert.Kernel21Ideal.main_v2_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v30) = v0 c
          ∧ r.2.mem ((c.tc : Thread Cert.Reference21Ideal.nD Cert.Reference21Ideal.τ).loc Cert.Reference21Ideal.main_v27) = v1 c
          ∧ r.2.mem ((c.tc : Thread Cert.Reference21Ideal.nD Cert.Reference21Ideal.τ).loc Cert.Reference21Ideal.main_v31) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v7) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v13) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal_pre_finite26 [hKernel26Ideal : Cert.Kernel26Ideal.Facts] [hReference26Ideal : Cert.Reference26Ideal.Facts] [hPre_finite26 : Cert.Pre_finite26.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal_finite26 m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v24) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_finite : Cert.Pre_finite.Facts) (hPre_finite2 : Cert.Pre_finite2.Facts) (hPre_finite3 : Cert.Pre_finite3.Facts) (hPre_finite8 : Cert.Pre_finite8.Facts) (hPre_finite9 : Cert.Pre_finite9.Facts) (hPre_finite14 : Cert.Pre_finite14.Facts) (hPre_finite15 : Cert.Pre_finite15.Facts) (hPre_finite26 : Cert.Pre_finite26.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Kernel26Ideal_pre_finite26 (hKernel26Ideal := hKernel26Ideal) (hPre_finite26 := hPre_finite26)
    ∧ quiescent_Reference26Ideal (hReference26Ideal := hReference26Ideal)
    ∧ quiescent_Reference26Ideal_pre_finite26 (hReference26Ideal := hReference26Ideal) (hPre_finite26 := hPre_finite26)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite14 (hKernel14Ideal := hKernel14Ideal) (hReference14Ideal := hReference14Ideal) (hPre_finite14 := hPre_finite14)
    ∧ preserves_Kernel15_Kernel15Ideal
    ∧ algebraic_Kernel15Ideal_Reference15Ideal_pre_finite15 (hKernel15Ideal := hKernel15Ideal) (hReference15Ideal := hReference15Ideal) (hPre_finite15 := hPre_finite15)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal_pre_finite26 (hKernel26Ideal := hKernel26Ideal) (hReference26Ideal := hReference26Ideal) (hPre_finite26 := hPre_finite26)
-- ==== Pre_finite.lean ====
abbrev S4x2048x1024 : Shape := ⟨3, ![4, 2048, 1024]⟩
abbrev S4x256x2048 : Shape := ⟨3, ![4, 256, 2048]⟩
abbrev S_ : Shape := ⟨0, ![]⟩

class Facts : Prop where
  bitsLt_bf16_f32 : FTy.bits .bf16 < FTy.bits .f32
  bcast_S_S4x2048x1024 : S_.BroadcastsInDim S4x2048x1024 (![] : Fin 0 → Fin S4x2048x1024.rank)
  bcast_S_S4x256x2048 : S_.BroadcastsInDim S4x256x2048 (![] : Fin 0 → Fin S4x256x2048.rank)

variable [Facts]

def fn {F : FTy → Type} [FloatOps F] (main_arg0 : FVec F S4x2048x1024 .bf16) (main_arg1 : FVec F S4x256x2048 .bf16) (main_arg2 : FVec F S4x2048x1024 .bf16) : IVec S4x2048x1024 1 × IVec S4x256x2048 1 × IVec S4x2048x1024 1 :=
  let main_v0 : FVec F S4x2048x1024 .f32 := (extf .f32 · bitsLt_bf16_f32) main_arg0
  let main_v1 : FVec F S4x256x2048 .f32 := (extf .f32 · bitsLt_bf16_f32) main_arg1
  let main_v2 : FVec F S4x2048x1024 .f32 := (extf .f32 · bitsLt_bf16_f32) main_arg2
  let main_v3 : FVec F S4x2048x1024 .f32 := Host.absf main_v0
  let main_cst : FVec F S_ .f32 := constant S_ .f32 0x7F800000#32
  let main_v4 : FVec F S4x2048x1024 .f32 := broadcastInDim S4x2048x1024 ![] bcast_S_S4x2048x1024 main_cst
  let main_v5 : IVec S4x2048x1024 1 := cmpf .olt main_v3 main_v4
  let main_v6 : FVec F S4x256x2048 .f32 := Host.absf main_v1
  let main_cst_0 : FVec F S_ .f32 := constant S_ .f32 0x7F800000#32
  let main_v7 : FVec F S4x256x2048 .f32 := broadcastInDim S4x256x2048 ![] bcast_S_S4x256x2048 main_cst_0
  let main_v8 : IVec S4x256x2048 1 := cmpf .olt main_v6 main_v7
  let main_v9 : FVec F S4x2048x1024 .f32 := Host.absf main_v2
  let main_cst_1 : FVec F S_ .f32 := constant S_ .f32 0x7F800000#32
  let main_v10 : FVec F S4x2048x1024 .f32 := broadcastInDim S4x2048x1024 ![] bcast_S_S4x2048x1024 main_cst_1
  let main_v11 : IVec S4x2048x1024 1 := cmpf .olt main_v9 main_v10
  (main_v5, main_v8, main_v11)
-- ==== Pre_finite14.lean ====
abbrev S8192x1024 : Shape := ⟨2, ![8192, 1024]⟩
abbrev S1x1024x1024 : Shape := ⟨3, ![1, 1024, 1024]⟩
abbrev S1024 : Shape := ⟨1, ![1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1x1024x1024 : S_.BroadcastsInDim S1x1024x1024 (![] : Fin 0 → Fin S1x1024x1024.rank)
  bcast_S_S1024 : S_.BroadcastsInDim S1024 (![] : Fin 0 → Fin S1024.rank)

variable [Facts]

def fn {F : FTy → Type} [FloatOps F] (main_arg0 : FVec F S8192x1024 .bf16) (main_arg1 : FVec F S1x1024x1024 .bf16) (main_arg2 : FVec F S8192x1024 .f32) (main_arg3 : FVec F S1024 .f32) (main_arg4 : FVec F S8192x1024 .f32) : IVec S8192x1024 1 × IVec S1x1024x1024 1 × IVec S8192x1024 1 × IVec S1024 1 × IVec S8192x1024 1 :=
  let main_v0 : FVec F S8192x1024 .f32 := (extf .f32 · bitsLt_bf16_f32) main_arg0
  let main_v1 : FVec F S1x1024x1024 .f32 := (extf .f32 · bitsLt_bf16_f32) main_arg1
  let main_v2 : FVec F S8192x1024 .f32 := Host.absf main_v0
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_v5 : FVec F S1x1024x1024 .f32 := Host.absf main_v1
  let main_cst_0 : FVec F S_ .f32 := constant S_ .f32 0x7F800000#32
  let main_v6 : FVec F S1x1024x1024 .f32 := broadcastInDim S1x1024x1024 ![] bcast_S_S1x1024x1024 main_cst_0
  let main_v7 : IVec S1x1024x1024 1 := cmpf .olt main_v5 main_v6
  let main_v8 : FVec F S8192x1024 .f32 := Host.absf main_arg2
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S1024 .f32 := Host.absf main_arg3
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_v14 : FVec F S8192x1024 .f32 := Host.absf main_arg4
  let main_cst_3 : FVec F S_ .f32 := constant S_ .f32 0x7F800000#32
  let main_v15 : FVec F S8192x1024 .f32 := broadcastInDim S8192x1024 ![] bcast_S_S8192x1024 main_cst_3
  let main_v16 : IVec S8192x1024 1 := cmpf .olt main_v14 main_v15
  (main_v4, main_v7, main_v10, main_v13, main_v16)
-- ==== Pre_finite15.lean ====
abbrev S8192x2048 : Shape := ⟨2, ![8192, 2048]⟩
abbrev S1x1024x2048 : Shape := ⟨3, ![1, 1024, 2048]⟩
abbrev S8192x1024 : Shape := ⟨2, ![8192, 1024]⟩
abbrev S1024 : Shape := ⟨1, ![1024]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S1x1024x2048 : S_.BroadcastsInDim S1x1024x2048 (![] : Fin 0 → Fin S1x1024x2048.rank)
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x2048 .bf16) (main_arg1 : FVec F S1x1024x2048 .bf16) (main_arg2 : FVec F S8192x1024 .f32) (main_arg3 : FVec F S1024 .f32) (main_arg4 : FVec F S8192x1024 .f32) : IVec S8192x2048 1 × IVec S1x1024x2048 1 × IVec S8192x1024 1 × IVec S1024 1 × IVec S8192x1024 1 :=
  let main_v0 : FVec F S8192x2048 .f32 := (extf .f32 · bitsLt_bf16_f32) main_arg0
  let main_v1 : FVec F S1x1024x2048 .f32 := (extf .f32 · bitsLt_bf16_f32) main_arg1
  let main_v2 : FVec F S8192x2048 .f32 := Host.absf main_v0
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  let main_v5 : FVec F S1x1024x2048 .f32 := Host.absf main_v1
  let main_cst_0 : FVec F S_ .f32 := constant S_ .f32 0x7F800000#32
  let main_v6 : FVec F S1x1024x2048 .f32 := broadcastInDim S1x1024x2048 ![] bcast_S_S1x1024x2048 main_cst_0
  let main_v7 : IVec S1x1024x2048 1 := cmpf .olt main_v5 main_v6
  let main_v8 : FVec F S8192x1024 .f32 := Host.absf main_arg2
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S1024 .f32 := Host.absf main_arg3
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_v14 : FVec F S8192x1024 .f32 := Host.absf main_arg4
  let main_cst_3 : FVec F S_ .f32 := constant S_ .f32 0x7F800000#32
  let main_v15 : FVec F S8192x1024 .f32 := broadcastInDim S8192x1024 ![] bcast_S_S8192x1024 main_cst_3
  let main_v16 : IVec S8192x1024 1 := cmpf .olt main_v14 main_v15
  (main_v4, main_v7, main_v10, main_v13, main_v16)
-- ==== Pre_finite2.lean ====
abbrev S8192x1024 : Shape := ⟨2, ![8192, 1024]⟩
abbrev S1x2816x1024 : Shape := ⟨3, ![1, 2816, 1024]⟩
abbrev S2x8192x2816 : Shape := ⟨3, ![2, 8192, 2816]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1x2816x1024 : S_.BroadcastsInDim S1x2816x1024 (![] : Fin 0 → Fin S1x2816x1024.rank)
  bcast_S_S2x8192x2816 : S_.BroadcastsInDim S2x8192x2816 (![] : Fin 0 → Fin S2x8192x2816.rank)

variable [Facts]

def fn {F : FTy → Type} [FloatOps F] (main_arg0 : FVec F S8192x1024 .f32) (main_arg1 : FVec F S1x2816x1024 .bf16) (main_arg2 : FVec F S2x8192x2816 .bf16) : IVec S8192x1024 1 × IVec S1x2816x1024 1 × IVec S2x8192x2816 1 :=
  let main_v0 : FVec F S1x2816x1024 .f32 := (extf .f32 · bitsLt_bf16_f32) main_arg1
  let main_v1 : FVec F S2x8192x2816 .f32 := (extf .f32 · bitsLt_bf16_f32) main_arg2
  let main_v2 : FVec F S8192x1024 .f32 := Host.absf main_arg0
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_v5 : FVec F S1x2816x1024 .f32 := Host.absf main_v0
  let main_cst_0 : FVec F S_ .f32 := constant S_ .f32 0x7F800000#32
  let main_v6 : FVec F S1x2816x1024 .f32 := broadcastInDim S1x2816x1024 ![] bcast_S_S1x2816x1024 main_cst_0
  let main_v7 : IVec S1x2816x1024 1 := cmpf .olt main_v5 main_v6
  let main_v8 : FVec F S2x8192x2816 .f32 := Host.absf main_v1
  let main_cst_1 : FVec F S_ .f32 := constant S_ .f32 0x7F800000#32
  let main_v9 : FVec F S2x8192x2816 .f32 := broadcastInDim S2x8192x2816 ![] bcast_S_S2x8192x2816 main_cst_1
  let main_v10 : IVec S2x8192x2816 1 := cmpf .olt main_v8 main_v9
  (main_v4, main_v7, main_v10)
-- ==== Pre_finite26.lean ====
abbrev S4x2048x1024 : Shape := ⟨3, ![4, 2048, 1024]⟩
abbrev S4x256x2048 : Shape := ⟨3, ![4, 256, 2048]⟩
abbrev S_ : Shape := ⟨0, ![]⟩

class Facts : Prop where
  bitsLt_bf16_f32 : FTy.bits .bf16 < FTy.bits .f32
  bcast_S_S4x2048x1024 : S_.BroadcastsInDim S4x2048x1024 (![] : Fin 0 → Fin S4x2048x1024.rank)
  bcast_S_S4x256x2048 : S_.BroadcastsInDim S4x256x2048 (![] : Fin 0 → Fin S4x256x2048.rank)

variable [Facts]

def fn {F : FTy → Type} [FloatOps F] (main_arg0 : FVec F S4x2048x1024 .bf16) (main_arg1 : FVec F S4x256x2048 .bf16) : IVec S4x2048x1024 1 × IVec S4x256x2048 1 :=
  let main_v0 : FVec F S4x2048x1024 .f32 := (extf .f32 · bitsLt_bf16_f32) main_arg0
  let main_v1 : FVec F S4x256x2048 .f32 := (extf .f32 · bitsLt_bf16_f32) main_arg1
  let main_v2 : FVec F S4x2048x1024 .f32 := Host.absf main_v0
  let main_cst : FVec F S_ .f32 := constant S_ .f32 0x7F800000#32
  let main_v3 : FVec F S4x2048x1024 .f32 := broadcastInDim S4x2048x1024 ![] bcast_S_S4x2048x1024 main_cst
  let main_v4 : IVec S4x2048x1024 1 := cmpf .olt main_v2 main_v3
  let main_v5 : FVec F S4x256x2048 .f32 := Host.absf main_v1
  let main_cst_0 : FVec F S_ .f32 := constant S_ .f32 0x7F800000#32
  let main_v6 : FVec F S4x256x2048 .f32 := broadcastInDim S4x256x2048 ![] bcast_S_S4x256x2048 main_cst_0
  let main_v7 : IVec S4x256x2048 1 := cmpf .olt main_v5 main_v6
  (main_v4, main_v7)
-- ==== Pre_finite3.lean ====
abbrev S2x8192x2816 : Shape := ⟨3, ![2, 8192, 2816]⟩
abbrev S1x1024x5632 : Shape := ⟨3, ![1, 1024, 5632]⟩
abbrev S8192x1024 : Shape := ⟨2, ![8192, 1024]⟩
abbrev S1024 : Shape := ⟨1, ![1024]⟩
abbrev S_ : Shape := ⟨0, ![]⟩

class Facts : Prop where
  bitsLt_bf16_f32 : FTy.bits .bf16 < FTy.bits .f32
  bcast_S_S2x8192x2816 : S_.BroadcastsInDim S2x8192x2816 (![] : Fin 0 → Fin S2x8192x2816.rank)
  bcast_S_S1x1024x5632 : S_.BroadcastsInDim S1x1024x5632 (![] : Fin 0 → Fin S1x1024x5632.rank)
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S2x8192x2816 .bf16) (main_arg1 : FVec F S1x1024x5632 .bf16) (main_arg2 : FVec F S8192x1024 .f32) (main_arg3 : FVec F S1024 .f32) (main_arg4 : FVec F S8192x1024 .f32) : IVec S2x8192x2816 1 × IVec S1x1024x5632 1 × IVec S8192x1024 1 × IVec S1024 1 × IVec S8192x1024 1 :=
  let main_v0 : FVec F S2x8192x2816 .f32 := (extf .f32 · bitsLt_bf16_f32) main_arg0
  let main_v1 : FVec F S1x1024x5632 .f32 := (extf .f32 · bitsLt_bf16_f32) main_arg1
  let main_v2 : FVec F S2x8192x2816 .f32 := Host.absf main_v0
  let main_cst : FVec F S_ .f32 := constant S_ .f32 0x7F800000#32
  let main_v3 : FVec F S2x8192x2816 .f32 := broadcastInDim S2x8192x2816 ![] bcast_S_S2x8192x2816 main_cst
  let main_v4 : IVec S2x8192x2816 1 := cmpf .olt main_v2 main_v3
  let main_v5 : FVec F S1x1024x5632 .f32 := Host.absf main_v1
  let main_cst_0 : FVec F S_ .f32 := constant S_ .f32 0x7F800000#32
  let main_v6 : FVec F S1x1024x5632 .f32 := broadcastInDim S1x1024x5632 ![] bcast_S_S1x1024x5632 main_cst_0
  let main_v7 : IVec S1x1024x5632 1 := cmpf .olt main_v5 main_v6
  let main_v8 : FVec F S8192x1024 .f32 := Host.absf main_arg2
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S1024 .f32 := Host.absf main_arg3
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_v14 : FVec F S8192x1024 .f32 := Host.absf main_arg4
  let main_cst_3 : FVec F S_ .f32 := constant S_ .f32 0x7F800000#32
  let main_v15 : FVec F S8192x1024 .f32 := broadcastInDim S8192x1024 ![] bcast_S_S8192x1024 main_cst_3
  let main_v16 : IVec S8192x1024 1 := cmpf .olt main_v14 main_v15
  (main_v4, main_v7, main_v10, main_v13, main_v16)
-- ==== Pre_finite8.lean ====
abbrev S8192x1024 : Shape := ⟨2, ![8192, 1024]⟩
abbrev S1x1024x1024 : Shape := ⟨3, ![1, 1024, 1024]⟩
abbrev S1024 : Shape := ⟨1, ![1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1x1024x1024 : S_.BroadcastsInDim S1x1024x1024 (![] : Fin 0 → Fin S1x1024x1024.rank)
  bcast_S_S1024 : S_.BroadcastsInDim S1024 (![] : Fin 0 → Fin S1024.rank)

variable [Facts]

def fn {F : FTy → Type} [FloatOps F] (main_arg0 : FVec F S8192x1024 .f32) (main_arg1 : FVec F S8192x1024 .f32) (main_arg2 : FVec F S1x1024x1024 .bf16) (main_arg3 : FVec F S1024 .f32) (main_arg4 : FVec F S1024 .f32) : IVec S8192x1024 1 × IVec S8192x1024 1 × IVec S1x1024x1024 1 × IVec S1024 1 × IVec S1024 1 :=
  let main_v0 : FVec F S1x1024x1024 .f32 := (extf .f32 · bitsLt_bf16_f32) main_arg2
  let main_v1 : FVec F S8192x1024 .f32 := Host.absf main_arg0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_v7 : FVec F S1x1024x1024 .f32 := Host.absf main_v0
  let main_cst_1 : FVec F S_ .f32 := constant S_ .f32 0x7F800000#32
  let main_v8 : FVec F S1x1024x1024 .f32 := broadcastInDim S1x1024x1024 ![] bcast_S_S1x1024x1024 main_cst_1
  let main_v9 : IVec S1x1024x1024 1 := cmpf .olt main_v7 main_v8
  let main_v10 : FVec F S1024 .f32 := Host.absf main_arg3
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_v13 : FVec F S1024 .f32 := Host.absf main_arg4
  let main_cst_3 : FVec F S_ .f32 := constant S_ .f32 0x7F800000#32
  let main_v14 : FVec F S1024 .f32 := broadcastInDim S1024 ![] bcast_S_S1024 main_cst_3
  let main_v15 : IVec S1024 1 := cmpf .olt main_v13 main_v14
  (main_v3, main_v6, main_v9, main_v12, main_v15)
-- ==== Pre_finite9.lean ====
abbrev S8192x2816 : Shape := ⟨2, ![8192, 2816]⟩
abbrev S1x2816x1024 : Shape := ⟨3, ![1, 2816, 1024]⟩
abbrev S8192x1024 : Shape := ⟨2, ![8192, 1024]⟩
abbrev S1024 : Shape := ⟨1, ![1024]⟩
abbrev S_ : Shape := ⟨0, ![]⟩

class Facts : Prop where
  bitsLt_bf16_f32 : FTy.bits .bf16 < FTy.bits .f32
  bcast_S_S8192x2816 : S_.BroadcastsInDim S8192x2816 (![] : Fin 0 → Fin S8192x2816.rank)
  bcast_S_S1x2816x1024 : S_.BroadcastsInDim S1x2816x1024 (![] : Fin 0 → Fin S1x2816x1024.rank)
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x2816 .bf16) (main_arg1 : FVec F S1x2816x1024 .bf16) (main_arg2 : FVec F S8192x1024 .f32) (main_arg3 : FVec F S1024 .f32) (main_arg4 : FVec F S8192x1024 .f32) : IVec S8192x2816 1 × IVec S1x2816x1024 1 × IVec S8192x1024 1 × IVec S1024 1 × IVec S8192x1024 1 :=
  let main_v0 : FVec F S8192x2816 .f32 := (extf .f32 · bitsLt_bf16_f32) main_arg0
  let main_v1 : FVec F S1x2816x1024 .f32 := (extf .f32 · bitsLt_bf16_f32) main_arg1
  let main_v2 : FVec F S8192x2816 .f32 := Host.absf main_v0
  let main_cst : FVec F S_ .f32 := constant S_ .f32 0x7F800000#32
  let main_v3 : FVec F S8192x2816 .f32 := broadcastInDim S8192x2816 ![] bcast_S_S8192x2816 main_cst
  let main_v4 : IVec S8192x2816 1 := cmpf .olt main_v2 main_v3
  let main_v5 : FVec F S1x2816x1024 .f32 := Host.absf main_v1
  let main_cst_0 : FVec F S_ .f32 := constant S_ .f32 0x7F800000#32
  let main_v6 : FVec F S1x2816x1024 .f32 := broadcastInDim S1x2816x1024 ![] bcast_S_S1x2816x1024 main_cst_0
  let main_v7 : IVec S1x2816x1024 1 := cmpf .olt main_v5 main_v6
  let main_v8 : FVec F S8192x1024 .f32 := Host.absf main_arg2
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S1024 .f32 := Host.absf main_arg3
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_v14 : FVec F S8192x1024 .f32 := Host.absf main_arg4
  let main_cst_3 : FVec F S_ .f32 := constant S_ .f32 0x7F800000#32
  let main_v15 : FVec F S8192x1024 .f32 := broadcastInDim S8192x1024 ![] bcast_S_S8192x1024 main_cst_3
  let main_v16 : IVec S8192x1024 1 := cmpf .olt main_v14 main_v15
  (main_v4, main_v7, main_v10, main_v13, main_v16)
-- ==== Kernel.lean ====
abbrev S4x2048x1024 : Shape := ⟨3, ![4, 2048, 1024]⟩
abbrev S4x256x2048 : Shape := ⟨3, ![4, 256, 2048]⟩
abbrev S1x512x1024 : Shape := ⟨3, ![1, 512, 1024]⟩
abbrev S1x256x2048 : Shape := ⟨3, ![1, 256, 2048]⟩
abbrev S1x512x256 : Shape := ⟨3, ![1, 512, 256]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S4x2048x1024, .bf16⟩
  | .hbm, ⟨1, _⟩ => ⟨S4x256x2048, .bf16⟩
  | .hbm, ⟨2, _⟩ => ⟨S4x2048x1024, .bf16⟩
  | .hbm, ⟨3, _⟩ => ⟨S4x2048x1024, .bf16⟩
  | .hbm, ⟨4, _⟩ => ⟨S4x256x2048, .f32⟩
  | .local _ .vmem, ⟨0, _⟩ => ⟨S1x512x1024, .bf16⟩
  | .local _ .vmem, ⟨1, _⟩ => ⟨S1x512x1024, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x256x2048, .f32⟩
  | .local _ .vmem, ⟨9, _⟩ => ⟨S1x256x2048, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S4x2048x1024 : Shape := ⟨3, ![4, 2048, 1024]⟩
abbrev S4x256x2048 : Shape := ⟨3, ![4, 256, 2048]⟩
abbrev S4x2048x4x256 : Shape := ⟨4, ![4, 2048, 4, 256]⟩
abbrev S_ : Shape := ⟨0, ![]⟩
abbrev S4x256x1024 : Shape := ⟨3, ![4, 256, 1024]⟩
abbrev S4x256x4x256 : Shape := ⟨4, ![4, 256, 4, 256]⟩
abbrev S4x4x2048x256 : Shape := ⟨4, ![4, 4, 2048, 256]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩
abbrev S4x4x256x256 : Shape := ⟨4, ![4, 4, 256, 256]⟩

abbrev nBuf : Space → Nat
  | .hbm => 87
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x256x2048, .bf16⟩
  | .hbm, ⟨2, _⟩ => ⟨S4x2048x1024, .bf16⟩
  | .hbm, ⟨3, _⟩ => ⟨S4x2048x1024, .f32⟩
  | .hbm, ⟨4, _⟩ => ⟨S4x256x2048, .f32⟩
  | .hbm, ⟨5, _⟩ => ⟨S4x2048x1024, .f32⟩
  | .hbm, ⟨6, _⟩ => ⟨S4x2048x4x256, .f32⟩
  | .hbm, ⟨7, _⟩ => ⟨S_, .f32⟩
  | .hbm, ⟨8, _⟩ => ⟨S4x2048x4x256, .f32⟩
  | .hbm, ⟨9, _⟩ => ⟨S4x2048x4x256, .f32⟩
  | .hbm, ⟨10, _⟩ => ⟨S4x256x1024, .f32⟩
  | .hbm, ⟨11, _⟩ => ⟨S4x256x1024, .f32⟩
  | .hbm, ⟨12, _⟩ => ⟨S4x256x4x256, .f32⟩
  | .hbm, ⟨13, _⟩ => ⟨S4x256x4x256, .f32⟩
  | .hbm, ⟨14, _⟩ => ⟨S4x4x2048x256, .f32⟩
  | .hbm, ⟨15, _⟩ => ⟨S_, .f32⟩
  | .hbm, ⟨16, _⟩ => ⟨S4x4x2048, .f32⟩
  | .hbm, ⟨17, _⟩ => ⟨S4x4x2048x1, .f32⟩
  | .hbm, ⟨18, _⟩ => ⟨S4x4x2048x256, .f32⟩
  | .hbm, ⟨19, _⟩ => ⟨S4x4x2048x256, .i1⟩
  | .hbm, ⟨20, _⟩ => ⟨S4x4x2048x256, .f32⟩
  | .hbm, ⟨21, _⟩ => ⟨S_, .f32⟩
  | .hbm, ⟨22, _⟩ => ⟨S4x4x2048, .f32⟩
  | .hbm, ⟨23, _⟩ => ⟨S_, .f32⟩
  | .hbm, ⟨24, _⟩ => ⟨S4x4x2048, .f32⟩
  | .hbm, ⟨25, _⟩ => ⟨S4x4x2048, .f32⟩
  | .hbm, ⟨26, _⟩ => ⟨S_, .f32⟩
  | .hbm, ⟨27, _⟩ => ⟨S4x4x2048, .f32⟩
  | .hbm, ⟨28, _⟩ => ⟨S4x4x2048, .i1⟩
  | .hbm, ⟨29, _⟩ => ⟨S_, .f32⟩
  | .hbm, ⟨30, _⟩ => ⟨S4x4x2048, .f32⟩
  | .hbm, ⟨31, _⟩ => ⟨S4x4x2048, .i1⟩
  | .hbm, ⟨32, _⟩ => ⟨S_, .f32⟩
  | .hbm, ⟨33, _⟩ => ⟨S4x4x2048, .f32⟩
  | .hbm, ⟨34, _⟩ => ⟨S_, .f32⟩
  | .hbm, ⟨35, _⟩ => ⟨S4x4x2048, .f32⟩
  | .hbm, ⟨36, _⟩ => ⟨S_, .f32⟩
  | .hbm, ⟨37, _⟩ => ⟨S4x4x2048, .f32⟩
  | .hbm, ⟨38, _⟩ => ⟨S4x4x2048, .f32⟩
  | .hbm, ⟨39, _⟩ => ⟨S4x4x2048, .f32⟩
  | .hbm, ⟨40, _⟩ => ⟨S4x4x2048x1, .f32⟩
  | .hbm, ⟨41, _⟩ => ⟨S4x4x2048x256, .f32⟩
  | .hbm, ⟨42, _⟩ => ⟨S4x4x2048x256, .f32⟩
  | .hbm, ⟨43, _⟩ => ⟨S4x4x2048x256, .f32⟩
  | .hbm, ⟨44, _⟩ => ⟨S_, .f32⟩
  | .hbm, ⟨45, _⟩ => ⟨S4x4x2048, .f32⟩
  | .hbm, ⟨46, _⟩ => ⟨S4x4x2048x1, .f32⟩
  | .hbm, ⟨47, _⟩ => ⟨S4x4x2048x256, .f32⟩
  | .hbm, ⟨48, _⟩ => ⟨S4x4x2048x256, .f32⟩
  | .hbm, ⟨49, _⟩ => ⟨S4x4x2048x1, .f32⟩
  | .hbm, ⟨50, _⟩ => ⟨S_, .f32⟩
  | .hbm, ⟨51, _⟩ => ⟨S4x4x2048x1, .f32⟩
  | .hbm, ⟨52, _⟩ => ⟨S4x4x2048x1, .f32⟩
  | .hbm, ⟨53, _⟩ => ⟨S4x4x256x2048, .f32⟩
  | .hbm, ⟨54, _⟩ => ⟨S4x2048x4x256, .f32⟩
  | .hbm, ⟨55, _⟩ => ⟨S4x2048x1024, .f32⟩
  | .hbm, ⟨56, _⟩ => ⟨S4x2048x4x256, .f32⟩
  | .hbm, ⟨57, _⟩ => ⟨S4x4x256x2048, .f32⟩
  | .hbm, ⟨58, _⟩ => ⟨S4x4x2048x256, .f32⟩
  | .hbm, ⟨59, _⟩ => ⟨S4x4x256x256, .f32⟩
  | .hbm, ⟨60, _⟩ => ⟨S4x256x4x256, .f32⟩
  | .hbm, ⟨61, _⟩ => ⟨S4x4x2048x256, .f32⟩
  | .hbm, ⟨62, _⟩ => ⟨S4x4x2048x256, .f32⟩
  | .hbm, ⟨63, _⟩ => ⟨S4x4x2048x256, .f32⟩
  | .hbm, ⟨64, _⟩ => ⟨S_, .f32⟩
  | .hbm, ⟨65, _⟩ => ⟨S4x4x2048, .f32⟩
  | .hbm, ⟨66, _⟩ => ⟨S4x4x2048x1, .f32⟩
  | .hbm, ⟨67, _⟩ => ⟨S4x4x2048x1, .f32⟩
  | .hbm, ⟨68, _⟩ => ⟨S4x4x2048x256, .f32⟩
  | .hbm, ⟨69, _⟩ => ⟨S4x4x2048x256, .f32⟩
  | .hbm, ⟨70, _⟩ => ⟨S_, .f32⟩
  | .hbm, ⟨71, _⟩ => ⟨S4x4x2048, .f32⟩
  | .hbm, ⟨72, _⟩ => ⟨S4x4x2048x256, .f32⟩
  | .hbm, ⟨73, _⟩ => ⟨S4x4x2048x256, .f32⟩
  | .hbm, ⟨74, _⟩ => ⟨S4x4x2048x256, .f32⟩
  | .hbm, ⟨75, _⟩ => ⟨S4x4x256x256, .f32⟩
  | .hbm, ⟨76, _⟩ => ⟨S4x256x4x256, .f32⟩
  | .hbm, ⟨77, _⟩ => ⟨S4x4x2048x256, .f32⟩
  | .hbm, ⟨78, _⟩ => ⟨S4x2048x4x256, .f32⟩
  | .hbm, ⟨79, _⟩ => ⟨S4x256x1024, .f32⟩
  | .hbm, ⟨80, _⟩ => ⟨S4x256x1024, .f32⟩
  | .hbm, ⟨81, _⟩ => ⟨S4x256x2048, .f32⟩
  | .hbm, ⟨82, _⟩ => ⟨S_, .f32⟩
  | .hbm, ⟨83, _⟩ => ⟨S4x2048x4x256, .f32⟩
  | .hbm, ⟨84, _⟩ => ⟨S4x2048x4x256, .f32⟩
  | .hbm, ⟨85, _⟩ => ⟨S4x2048x1024, .f32⟩
  | .hbm, ⟨86, _⟩ => ⟨S4x2048x1024, .bf16⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_12 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== Kernel2.lean ====
abbrev S8192x1024 : Shape := ⟨2, ![8192, 1024]⟩
abbrev S1x2816x1024 : Shape := ⟨3, ![1, 2816, 1024]⟩
abbrev S2x8192x2816 : Shape := ⟨3, ![2, 8192, 2816]⟩
abbrev S512x1024 : Shape := ⟨2, ![512, 1024]⟩
abbrev S1x1408x1024 : Shape := ⟨3, ![1, 1408, 1024]⟩
abbrev S2x512x1408 : Shape := ⟨3, ![2, 512, 1408]⟩
abbrev S1408x1024 : Shape := ⟨2, ![1408, 1024]⟩
abbrev S512x1408 : Shape := ⟨2, ![512, 1408]⟩
abbrev S1x512x1408 : Shape := ⟨3, ![1, 512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x2816x1024, .bf16⟩
  | .hbm, ⟨2, _⟩ => ⟨S2x8192x2816, .bf16⟩
  | .hbm, ⟨3, _⟩ => ⟨S2x8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1408x1024, .bf16⟩
  | .local _ .vmem, ⟨3, _⟩ => ⟨S1x1408x1024, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x1024 : Shape := ⟨2, ![8192, 1024]⟩
abbrev S1x2816x1024 : Shape := ⟨3, ![1, 2816, 1024]⟩
abbrev S2x8192x2816 : Shape := ⟨3, ![2, 8192, 2816]⟩
abbrev S2816x1024 : Shape := ⟨2, ![2816, 1024]⟩
abbrev S1x8192x2816 : Shape := ⟨3, ![1, 8192, 2816]⟩
abbrev S8192x2816 : Shape := ⟨2, ![8192, 2816]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x2816x1024, .bf16⟩
  | .hbm, ⟨2, _⟩ => ⟨S2x8192x2816, .bf16⟩
  | .hbm, ⟨3, _⟩ => ⟨S2816x1024, .bf16⟩
  | .hbm, ⟨4, _⟩ => ⟨S2816x1024, .f32⟩
  | .hbm, ⟨5, _⟩ => ⟨S2x8192x2816, .f32⟩
  | .hbm, ⟨6, _⟩ => ⟨S1x8192x2816, .f32⟩
  | .hbm, ⟨7, _⟩ => ⟨S8192x2816, .f32⟩
  | .hbm, ⟨8, _⟩ => ⟨S1x8192x2816, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S_, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x1024, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S1x8192x2816, .f32⟩
  | .hbm, ⟨33, _⟩ => ⟨S_, .f32⟩
  | .hbm, ⟨34, _⟩ => ⟨S2x8192x2816, .f32⟩
  | .hbm, ⟨35, _⟩ => ⟨S1x8192x2816, .f32⟩
  | .hbm, ⟨36, _⟩ => ⟨S_, .f32⟩
  | .hbm, ⟨37, _⟩ => ⟨S2x8192x2816, .f32⟩
  | .hbm, ⟨38, _⟩ => ⟨S2x8192x2816, .f32⟩
  | .hbm, ⟨39, _⟩ => ⟨S2x8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v7_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v7_1 : Ref sig .tc := ⟨.hbm, 21, rfl⟩
abbrev main_v7_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_v16 : Ref sig .tc := ⟨.hbm, 35, rfl⟩
abbrev main_cst_0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩

abbrev nD : Nat := 1
abbrev τ : Topo := Topo.v7x

variable {F : FTy → Type} [FloatOps F]
-- ==== Kernel3.lean ====
abbrev S2x8192x2816 : Shape := ⟨3, ![2, 8192, 2816]⟩
abbrev S1x1024x5632 : Shape := ⟨3, ![1, 1024, 5632]⟩
abbrev S8192x1024 : Shape := ⟨2, ![8192, 1024]⟩
abbrev S1024 : Shape := ⟨1, ![1024]⟩
abbrev S1x1024 : Shape := ⟨2, ![1, 1024]⟩
abbrev S1x512x2816 : Shape := ⟨3, ![1, 512, 2816]⟩
abbrev S1x1024x2816 : Shape := ⟨3, ![1, 1024, 2816]⟩
abbrev S512x1024 : Shape := ⟨2, ![512, 1024]⟩
abbrev S512x2816 : Shape := ⟨2, ![512, 2816]⟩
abbrev S1024x2816 : Shape := ⟨2, ![1024, 2816]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S2x8192x2816, .bf16⟩
  | .hbm, ⟨1, _⟩ => ⟨S1x1024x5632, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v16 : BitVec 32 := Scalar.extui v0
  let c0_i32_12 : BitVec 32 := 0#32
  let v17 : BitVec 1 := Scalar.cmpi .ne v16 c0_i32_12
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference3Ideal.lean ====
abbrev S2x8192x2816 : Shape := ⟨3, ![2, 8192, 2816]⟩
abbrev S1x1024x5632 : Shape := ⟨3, ![1, 1024, 5632]⟩
abbrev S8192x1024 : Shape := ⟨2, ![8192, 1024]⟩
abbrev S1024 : Shape := ⟨1, ![1024]⟩
abbrev S1x8192x2816 : Shape := ⟨3, ![1, 8192, 2816]⟩
abbrev S8192x2816 : Shape := ⟨2, ![8192, 2816]⟩
abbrev S8192x5632 : Shape := ⟨2, ![8192, 5632]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S1x1024x5632, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x8192x2816, .bf16⟩
  | .hbm, ⟨6, _⟩ => ⟨S8192x2816, .bf16⟩
  | .hbm, ⟨7, _⟩ => ⟨S1x8192x2816, .bf16⟩
  | .hbm, ⟨8, _⟩ => ⟨S8192x2816, .bf16⟩
  | .hbm, ⟨9, _⟩ => ⟨S8192x5632, .bf16⟩
  | .hbm, ⟨10, _⟩ => ⟨S8192x5632, .f32⟩
  | .hbm, ⟨11, _⟩ => ⟨S1024x5632, .bf16⟩
  | .hbm, ⟨12, _⟩ => ⟨S1024x5632, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x5632, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S1x1024, .f32⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Kernel4.lean ====
abbrev S8192x1024 : Shape := ⟨2, ![8192, 1024]⟩
abbrev S2x8192x2816 : Shape := ⟨3, ![2, 8192, 2816]⟩
abbrev S1024x2816 : Shape := ⟨2, ![1024, 2816]⟩
abbrev S2048x1024 : Shape := ⟨2, ![2048, 1024]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S1024x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S2x8192x2816 : Shape := ⟨3, ![2, 8192, 2816]⟩
abbrev S1x8192x2816 : Shape := ⟨3, ![1, 8192, 2816]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S8192x1024, .f32⟩
  | .hbm, ⟨3, _⟩ => ⟨S1x8192x2816, .bf16⟩
  | .hbm, ⟨4, _⟩ => ⟨S8192x2816, .bf16⟩
  | .hbm, ⟨5, _⟩ => ⟨S8192x2816, .f32⟩
  | .hbm, ⟨6, _⟩ => ⟨S_, .f32⟩
  | .hbm, ⟨7, _⟩ => ⟨S1024x2816, .f32⟩
  | .hbm, ⟨8, _⟩ => ⟨S8192x2816, .f32⟩
  | .hbm, ⟨9, _⟩ => ⟨S2816x1024, .f32⟩
  | .hbm, ⟨10, _⟩ => ⟨S1024x2816, .f32⟩
  | .hbm, ⟨11, _⟩ => ⟨S1024x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .f32⟩
  | .local _ .vmem, ⟨3, _⟩ => ⟨S2048x512, .f32⟩
  | .local _ .vmem, ⟨4, _⟩ => ⟨S1408x512, .bf16⟩
  | .local _ .vmem, ⟨5, _⟩ => ⟨S1408x512, .bf16⟩
  | .local _ .vmem, ⟨6, _⟩ => ⟨S1408x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x2816, .f32⟩
  | .hbm, ⟨3, _⟩ => ⟨S_, .f32⟩
  | .hbm, ⟨4, _⟩ => ⟨S2816x1024, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x1024 : Shape := ⟨2, ![8192, 1024]⟩
abbrev S2x8192x2816 : Shape := ⟨3, ![2, 8192, 2816]⟩
abbrev S1024x2816 : Shape := ⟨2, ![1024, 2816]⟩
abbrev S2048x1024 : Shape := ⟨2, ![2048, 1024]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S1024x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S2x8192x2816 : Shape := ⟨3, ![2, 8192, 2816]⟩
abbrev S1x8192x2816 : Shape := ⟨3, ![1, 8192, 2816]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S8192x1024, .f32⟩
  | .hbm, ⟨3, _⟩ => ⟨S1x8192x2816, .bf16⟩
  | .hbm, ⟨4, _⟩ => ⟨S8192x2816, .bf16⟩
  | .hbm, ⟨5, _⟩ => ⟨S8192x2816, .f32⟩
  | .hbm, ⟨6, _⟩ => ⟨S_, .f32⟩
  | .hbm, ⟨7, _⟩ => ⟨S1024x2816, .f32⟩
  | .hbm, ⟨8, _⟩ => ⟨S8192x2816, .f32⟩
  | .hbm, ⟨9, _⟩ => ⟨S2816x1024, .f32⟩
  | .hbm, ⟨10, _⟩ => ⟨S1024x2816, .f32⟩
  | .hbm, ⟨11, _⟩ => ⟨S1024x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .f32⟩
  | .local _ .vmem, ⟨3, _⟩ => ⟨S4096x512, .f32⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x1024 : Shape := ⟨2, ![8192, 1024]⟩
abbrev S1x1024x1024 : Shape := ⟨3, ![1, 1024, 1024]⟩
abbrev S1024 : Shape := ⟨1, ![1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024x1024, .bf16⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference8Ideal.lean ====
abbrev S8192x1024 : Shape := ⟨2, ![8192, 1024]⟩
abbrev S1x1024x1024 : Shape := ⟨3, ![1, 1024, 1024]⟩
abbrev S1024 : Shape := ⟨1, ![1024]⟩
abbrev S1024x1024 : Shape := ⟨2, ![1024, 1024]⟩
abbrev S_ : Shape := ⟨0, ![]⟩
abbrev S1x1024 : Shape := ⟨2, ![1, 1024]⟩
abbrev S8192 : Shape := ⟨1, ![8192]⟩
abbrev S8192x1 : Shape := ⟨2, ![8192, 1]⟩

abbrev nBuf : Space → Nat
  | .hbm => 111
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024x1024, .bf16⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1024x1024, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S_, .f32⟩
  | .hbm, ⟨66, _⟩ => ⟨S1024, .f32⟩
  | .hbm, ⟨67, _⟩ => ⟨S8192x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S1024, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x1024, .f32⟩
  | .hbm, ⟨80, _⟩ => ⟨S8192x1024, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S_, .f32⟩
  | .hbm, ⟨94, _⟩ => ⟨S8192, .f32⟩
  | .hbm, ⟨95, _⟩ => ⟨S8192x1, .f32⟩
  | .hbm, ⟨96, _⟩ => ⟨S_, .f32⟩
  | .hbm, ⟨97, _⟩ => ⟨S8192x1, .f32⟩
  | .hbm, ⟨98, _⟩ => ⟨S8192x1, .f32⟩
  | .hbm, ⟨99, _⟩ => ⟨S_, .f32⟩
  | .hbm, ⟨100, _⟩ => ⟨S8192, .f32⟩
  | .hbm, ⟨101, _⟩ => ⟨S8192x1024, .f32⟩
  | .hbm, ⟨102, _⟩ => ⟨S8192x1024, .f32⟩
  | .hbm, ⟨103, _⟩ => ⟨S_, .f32⟩
  | .hbm, ⟨104, _⟩ => ⟨S1024, .f32⟩
  | .hbm, ⟨105, _⟩ => ⟨S1x1024, .f32⟩
  | .hbm, ⟨106, _⟩ => ⟨S_, .f32⟩
  | .hbm, ⟨107, _⟩ => ⟨S1024, .f32⟩
  | .hbm, ⟨108, _⟩ => ⟨S1x1024, .f32⟩
  | .hbm, ⟨109, _⟩ => ⟨S1x1024, .f32⟩
  | .hbm, ⟨110, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v31_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v31_1 : Ref sig .tc := ⟨.hbm, 54, rfl⟩
abbrev main_v31_0 : Ref sig .tc := ⟨.hbm, 55, rfl⟩
abbrev main_v32 : Ref sig .tc := ⟨.hbm, 56, rfl⟩
abbrev main_v33 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v34 : Ref sig .tc := ⟨.hbm, 61, rfl⟩
abbrev main_cst_6 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩
abbrev main_v38 : Ref sig .tc := ⟨.hbm, 67, rfl⟩
abbrev main_cst_8 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_v43 : Ref sig .tc := ⟨.hbm, 74, rfl⟩
abbrev main_v44 : Ref sig .tc := ⟨.hbm, 75, rfl⟩
abbrev main_cst_10 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_11 : Ref sig .tc := ⟨.hbm, 82, rfl⟩
abbrev main_v50 : Ref sig .tc := ⟨.hbm, 83, rfl⟩
abbrev main_v51 : Ref sig .tc := ⟨.hbm, 84, rfl⟩
abbrev main_cst_12 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_13 : Ref sig .tc := ⟨.hbm, 93, rfl⟩
abbrev main_v59 : Ref sig .tc := ⟨.hbm, 94, rfl⟩
abbrev main_v60 : Ref sig .tc := ⟨.hbm, 95, rfl⟩
abbrev main_cst_14 : Ref sig .tc := ⟨.hbm, 96, rfl⟩
abbrev main_v61 : Ref sig .tc := ⟨.hbm, 97, rfl⟩
abbrev main_v62 : Ref sig .tc := ⟨.hbm, 98, rfl⟩
abbrev main_cst_15 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_16 : Ref sig .tc := ⟨.hbm, 103, rfl⟩
abbrev main_v66 : Ref sig .tc := ⟨.hbm, 104, rfl⟩
abbrev main_v67 : Ref sig .tc := ⟨.hbm, 105, rfl⟩
abbrev main_cst_17 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel9.lean ====
abbrev S8192x2816 : Shape := ⟨2, ![8192, 2816]⟩
abbrev S1x2816x1024 : Shape := ⟨3, ![1, 2816, 1024]⟩
abbrev S8192x1024 : Shape := ⟨2, ![8192, 1024]⟩
abbrev S1024 : Shape := ⟨1, ![1024]⟩
abbrev S1x1024 : Shape := ⟨2, ![1, 1024]⟩
abbrev S8x128 : Shape := ⟨2, ![8, 128]⟩
abbrev S512x2816 : Shape := ⟨2, ![512, 2816]⟩
abbrev S512x1024 : Shape := ⟨2, ![512, 1024]⟩
abbrev S2816x1024 : Shape := ⟨2, ![2816, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x2816, .bf16⟩
  | .hbm, ⟨1, _⟩ => ⟨S1x2816x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8x128, .f32⟩
  | .hbm, ⟨7, _⟩ => ⟨S8192x1024, .f32⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S8x128, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference9Ideal.lean ====
abbrev S8192x2816 : Shape := ⟨2, ![8192, 2816]⟩
abbrev S1x2816x1024 : Shape := ⟨3, ![1, 2816, 1024]⟩
abbrev S8192x1024 : Shape := ⟨2, ![8192, 1024]⟩
abbrev S1024 : Shape := ⟨1, ![1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩

abbrev nBuf : Space → Nat
  | .hbm => 80
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1x2816x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x2816, .f32⟩
  | .hbm, ⟨6, _⟩ => ⟨S2816x1024, .bf16⟩
  | .hbm, ⟨7, _⟩ => ⟨S2816x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8x128, .f32⟩
  | .hbm, ⟨79, _⟩ => ⟨S1x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_cst_15 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S8192x1024 : Shape := ⟨2, ![8192, 1024]⟩
abbrev S8192x2048 : Shape := ⟨2, ![8192, 2048]⟩
abbrev S1024x2048 : Shape := ⟨2, ![1024, 2048]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .f32⟩
  | .hbm, ⟨3, _⟩ => ⟨S8192x2048, .f32⟩
  | .hbm, ⟨4, _⟩ => ⟨S_, .f32⟩
  | .hbm, ⟨5, _⟩ => ⟨S1024x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8192x1024 : Shape := ⟨2, ![8192, 1024]⟩
abbrev S8192x2688 : Shape := ⟨2, ![8192, 2688]⟩
abbrev S1024x2688 : Shape := ⟨2, ![1024, 2688]⟩
abbrev S4096x1024 : Shape := ⟨2, ![4096, 1024]⟩
abbrev S4096x896 : Shape := ⟨2, ![4096, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2688, .bf16⟩
  | .hbm, ⟨2, _⟩ => ⟨S1024x2688, .bf16⟩
  | .local _ .vmem, ⟨0, _⟩ => ⟨S4096x1024, .bf16⟩
  | .local _ .vmem, ⟨1, _⟩ => ⟨S4096x1024, .bf16⟩
  | .local _ .vmem, ⟨2, _⟩ => ⟨S4096x896, .bf16⟩
  | .local _ .vmem, ⟨3, _⟩ => ⟨S4096x896, .bf16⟩
  | .local _ .vmem, ⟨4, _⟩ => ⟨S1024x896, .bf16⟩
  | .local _ .vmem, ⟨5, _⟩ => ⟨S1024x896, .bf16⟩
  | .local _ .vmem, ⟨6, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S8192x2688 : Shape := ⟨2, ![8192, 2688]⟩
abbrev S_ : Shape := ⟨0, ![]⟩
abbrev S1024x2688 : Shape := ⟨2, ![1024, 2688]⟩
abbrev S2688x1024 : Shape := ⟨2, ![2688, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2688, .bf16⟩
  | .hbm, ⟨2, _⟩ => ⟨S8192x1024, .f32⟩
  | .hbm, ⟨3, _⟩ => ⟨S8192x2688, .f32⟩
  | .hbm, ⟨4, _⟩ => ⟨S_, .f32⟩
  | .hbm, ⟨5, _⟩ => ⟨S1024x2688, .f32⟩
  | .hbm, ⟨6, _⟩ => ⟨S8192x2688, .f32⟩
  | .hbm, ⟨7, _⟩ => ⟨S2688x1024, .f32⟩
  | .hbm, ⟨8, _⟩ => ⟨S1024x2688, .f32⟩
  | .hbm, ⟨9, _⟩ => ⟨S1024x2688, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S8192x1024 : Shape := ⟨2, ![8192, 1024]⟩
abbrev S1x1024x1024 : Shape := ⟨3, ![1, 1024, 1024]⟩
abbrev S1024x1024 : Shape := ⟨2, ![1024, 1024]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .bf16⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1024x512, .bf16⟩
  | .local _ .vmem, ⟨5, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .bf16⟩
  | .hbm, ⟨2, _⟩ => ⟨S1024x1024, .bf16⟩
  | .hbm, ⟨3, _⟩ => ⟨S1024x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S8192x1024 : Shape := ⟨2, ![8192, 1024]⟩
abbrev S1x1024x1024 : Shape := ⟨3, ![1, 1024, 1024]⟩
abbrev S1024 : Shape := ⟨1, ![1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference14Ideal.lean ====
abbrev S8192x1024 : Shape := ⟨2, ![8192, 1024]⟩
abbrev S1x1024x1024 : Shape := ⟨3, ![1, 1024, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S1024x1024, .bf16⟩
  | .hbm, ⟨7, _⟩ => ⟨S1024x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel15.lean ====
abbrev S8192x2048 : Shape := ⟨2, ![8192, 2048]⟩
abbrev S1x1024x2048 : Shape := ⟨3, ![1, 1024, 2048]⟩
abbrev S8192x1024 : Shape := ⟨2, ![8192, 1024]⟩
abbrev S1024 : Shape := ⟨1, ![1024]⟩
abbrev S1x1024 : Shape := ⟨2, ![1, 1024]⟩
abbrev S512x2048 : Shape := ⟨2, ![512, 2048]⟩
abbrev S512x1024 : Shape := ⟨2, ![512, 1024]⟩
abbrev S1024x2048 : Shape := ⟨2, ![1024, 2048]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S1x1024x2048, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1x1024x2048, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference15Ideal.lean ====
abbrev S8192x2048 : Shape := ⟨2, ![8192, 2048]⟩
abbrev S1x1024x2048 : Shape := ⟨3, ![1, 1024, 2048]⟩
abbrev S8192x1024 : Shape := ⟨2, ![8192, 1024]⟩
abbrev S1024 : Shape := ⟨1, ![1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x1024x2048, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x2048, .f32⟩
  | .hbm, ⟨6, _⟩ => ⟨S1024x2048, .bf16⟩
  | .hbm, ⟨7, _⟩ => ⟨S1024x2048, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x2048, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel16.lean ====
abbrev S1024x1024 : Shape := ⟨2, ![1024, 1024]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .f32⟩
  | .hbm, ⟨2, _⟩ => ⟨S1024x2048, .bf16⟩
  | .local _ .vmem, ⟨0, _⟩ => ⟨S1024x1024, .bf16⟩
  | .local _ .vmem, ⟨1, _⟩ => ⟨S1024x512, .f32⟩
  | .local _ .vmem, ⟨2, _⟩ => ⟨S1024x512, .f32⟩
  | .local _ .vmem, ⟨3, _⟩ => ⟨S1024x512, .bf16⟩
  | .local _ .vmem, ⟨4, _⟩ => ⟨S1024x512, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S1024x1024 : Shape := ⟨2, ![1024, 1024]⟩
abbrev S1024x2048 : Shape := ⟨2, ![1024, 2048]⟩
abbrev S_ : Shape := ⟨0, ![]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .f32⟩
  | .hbm, ⟨2, _⟩ => ⟨S1024x1024, .f32⟩
  | .hbm, ⟨3, _⟩ => ⟨S_, .f32⟩
  | .hbm, ⟨4, _⟩ => ⟨S1024x2048, .f32⟩
  | .hbm, ⟨5, _⟩ => ⟨S1024x2048, .f32⟩
  | .hbm, ⟨6, _⟩ => ⟨S2048x1024, .f32⟩
  | .hbm, ⟨7, _⟩ => ⟨S1024x2048, .f32⟩
  | .hbm, ⟨8, _⟩ => ⟨S1024x2048, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S1024x2048 : Shape := ⟨2, ![1024, 2048]⟩
abbrev S1x1024x2048 : Shape := ⟨3, ![1, 1024, 2048]⟩
abbrev S1024x1024 : Shape := ⟨2, ![1024, 1024]⟩
abbrev S1x512x2048 : Shape := ⟨3, ![1, 512, 2048]⟩
abbrev S1024x512 : Shape := ⟨2, ![1024, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S1024x2048, .f32⟩
  | .hbm, ⟨1, _⟩ => ⟨S1x1024x2048, .bf16⟩
  | .hbm, ⟨2, _⟩ => ⟨S1024x1024, .f32⟩
  | .local _ .vmem, ⟨0, _⟩ => ⟨S1024x2048, .f32⟩
  | .local _ .vmem, ⟨1, _⟩ => ⟨S1x512x2048, .bf16⟩
  | .local _ .vmem, ⟨2, _⟩ => ⟨S1x512x2048, .bf16⟩
  | .local _ .vmem, ⟨3, _⟩ => ⟨S1024x512, .f32⟩
  | .local _ .vmem, ⟨4, _⟩ => ⟨S1024x512, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S1024x2048 : Shape := ⟨2, ![1024, 2048]⟩
abbrev S1x1024x2048 : Shape := ⟨3, ![1, 1024, 2048]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1x1024x2048, .bf16⟩
  | .hbm, ⟨2, _⟩ => ⟨S1024x2048, .bf16⟩
  | .hbm, ⟨3, _⟩ => ⟨S1024x2048, .f32⟩
  | .hbm, ⟨4, _⟩ => ⟨S_, .f32⟩
  | .hbm, ⟨5, _⟩ => ⟨S1024x1024, .f32⟩
  | .hbm, ⟨6, _⟩ => ⟨S1024x2048, .f32⟩
  | .hbm, ⟨7, _⟩ => ⟨S1024x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S1024x1024 : Shape := ⟨2, ![1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference18Ideal.lean ====
abbrev S1024x1024 : Shape := ⟨2, ![1024, 1024]⟩
abbrev S_ : Shape := ⟨0, ![]⟩
abbrev S1024 : Shape := ⟨1, ![1024]⟩
abbrev S1024x1 : Shape := ⟨2, ![1024, 1]⟩
abbrev S1x1024 : Shape := ⟨2, ![1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S_, .f32⟩
  | .hbm, ⟨3, _⟩ => ⟨S1024, .f32⟩
  | .hbm, ⟨4, _⟩ => ⟨S1024x1024, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x1024, .f32⟩
  | .hbm, ⟨16, _⟩ => ⟨S1024x1024, .f32⟩
  | .hbm, ⟨17, _⟩ => ⟨S1x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S_, .f32⟩
  | .hbm, ⟨25, _⟩ => ⟨S1024, .f32⟩
  | .hbm, ⟨26, _⟩ => ⟨S1x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel19.lean ====
abbrev S8192x1024 : Shape := ⟨2, ![8192, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 2
  | .vmem => 3
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== Reference19Ideal.lean ====
abbrev S8192x1024 : Shape := ⟨2, ![8192, 1024]⟩
abbrev S_ : Shape := ⟨0, ![]⟩
abbrev S1024 : Shape := ⟨1, ![1024]⟩
abbrev S1x1024 : Shape := ⟨2, ![1, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S_, .f32⟩
  | .hbm, ⟨2, _⟩ => ⟨S8192x1024, .f32⟩
  | .hbm, ⟨3, _⟩ => ⟨S_, .f32⟩
  | .hbm, ⟨4, _⟩ => ⟨S1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S_, .f32⟩
  | .hbm, ⟨12, _⟩ => ⟨S1024, .f32⟩
  | .hbm, ⟨13, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel20.lean ====
abbrev S8192x1024 : Shape := ⟨2, ![8192, 1024]⟩
abbrev S1x1024x1024 : Shape := ⟨3, ![1, 1024, 1024]⟩
abbrev S1024 : Shape := ⟨1, ![1024]⟩
abbrev S1x1024 : Shape := ⟨2, ![1, 1024]⟩
abbrev S1024x1024 : Shape := ⟨2, ![1024, 1024]⟩
abbrev S1x1024x512 : Shape := ⟨3, ![1, 1024, 512]⟩
abbrev S1024x512 : Shape := ⟨2, ![1024, 512]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .bf16⟩
  | .hbm, ⟨2, _⟩ => ⟨S1024, .f32⟩
  | .hbm, ⟨3, _⟩ => ⟨S1x1024, .f32⟩
  | .hbm, ⟨4, _⟩ => ⟨S8192x1024, .bf16⟩
  | .hbm, ⟨5, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024, .f32⟩
  | .local _ .vmem, ⟨5, _⟩ => ⟨S1024x512, .bf16⟩
  | .local _ .vmem, ⟨6, _⟩ => ⟨S1024x512, .bf16⟩
  | .local _ .vmem, ⟨7, _⟩ => ⟨S1024x1024, .bf16⟩
  | .local _ .vmem, ⟨8, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== Reference20Ideal.lean ====
abbrev S8192x1024 : Shape := ⟨2, ![8192, 1024]⟩
abbrev S1x1024x1024 : Shape := ⟨3, ![1, 1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x1024 : Shape := ⟨2, ![1024, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .bf16⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1024x1024, .bf16⟩
  | .hbm, ⟨20, _⟩ => ⟨S1024x1024, .f32⟩
  | .hbm, ⟨21, _⟩ => ⟨S8192x1024, .f32⟩
  | .hbm, ⟨22, _⟩ => ⟨S8192x1024, .bf16⟩
  | .hbm, ⟨23, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel21.lean ====
abbrev S8192x1024 : Shape := ⟨2, ![8192, 1024]⟩
abbrev S1x1024x2048 : Shape := ⟨3, ![1, 1024, 2048]⟩
abbrev S2048 : Shape := ⟨1, ![2048]⟩
abbrev S1024 : Shape := ⟨1, ![1024]⟩
abbrev S1x2048 : Shape := ⟨2, ![1, 2048]⟩
abbrev S1x1024 : Shape := ⟨2, ![1, 1024]⟩
abbrev S2x8192x1024 : Shape := ⟨3, ![2, 8192, 1024]⟩
abbrev S512x1024 : Shape := ⟨2, ![512, 1024]⟩
abbrev S1x1024x1024 : Shape := ⟨3, ![1, 1024, 1024]⟩
abbrev S2x512x1024 : Shape := ⟨3, ![2, 512, 1024]⟩
abbrev S512 : Shape := ⟨1, ![512]⟩
abbrev S512x1 : Shape := ⟨2, ![512, 1]⟩
abbrev S1024x1024 : Shape := ⟨2, ![1024, 1024]⟩
abbrev S1x512x1024 : Shape := ⟨3, ![1, 512, 1024]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024x2048, .bf16⟩
  | .hbm, ⟨2, _⟩ => ⟨S2048, .f32⟩
  | .hbm, ⟨3, _⟩ => ⟨S1024, .f32⟩
  | .hbm, ⟨4, _⟩ => ⟨S1x2048, .f32⟩
  | .hbm, ⟨5, _⟩ => ⟨S1x1024, .f32⟩
  | .hbm, ⟨6, _⟩ => ⟨S2x8192x1024, .f32⟩
  | .hbm, ⟨7, _⟩ => ⟨S8192x1024, .f32⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S2x512x1024, .f32⟩
  | .local _ .vmem, ⟨8, _⟩ => ⟨S2x512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference21Ideal.lean ====
abbrev S8192x1024 : Shape := ⟨2, ![8192, 1024]⟩
abbrev S1x1024x2048 : Shape := ⟨3, ![1, 1024, 2048]⟩
abbrev S2048 : Shape := ⟨1, ![2048]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x2048 : Shape := ⟨2, ![1024, 2048]⟩
abbrev S8192x2048 : Shape := ⟨2, ![8192, 2048]⟩
abbrev S1x2048 : Shape := ⟨2, ![1, 2048]⟩
abbrev S1x8192x1024 : Shape := ⟨3, ![1, 8192, 1024]⟩
abbrev S2x8192x1024 : Shape := ⟨3, ![2, 8192, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x2048, .bf16⟩
  | .hbm, ⟨2, _⟩ => ⟨S2048, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S1024x2048, .bf16⟩
  | .hbm, ⟨21, _⟩ => ⟨S1024x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S1x8192x1024, .f32⟩
  | .hbm, ⟨38, _⟩ => ⟨S1x8192x1024, .f32⟩
  | .hbm, ⟨39, _⟩ => ⟨S2x8192x1024, .f32⟩
  | .hbm, ⟨40, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Kernel22.lean ====
abbrev S8192x1024 : Shape := ⟨2, ![8192, 1024]⟩
abbrev S1x1024x1024 : Shape := ⟨3, ![1, 1024, 1024]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference22Ideal.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .hbm, ⟨3, _⟩ => ⟨S8192x1024, .f32⟩
  | .hbm, ⟨4, _⟩ => ⟨S1024x1024, .bf16⟩
  | .hbm, ⟨5, _⟩ => ⟨S1024x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel23.lean ====
abbrev S8192x1024 : Shape := ⟨2, ![8192, 1024]⟩
abbrev S1x1024x1024 : Shape := ⟨3, ![1, 1024, 1024]⟩
abbrev S1024 : Shape := ⟨1, ![1024]⟩
abbrev S1x1024 : Shape := ⟨2, ![1, 1024]⟩
abbrev S1024x1024 : Shape := ⟨2, ![1024, 1024]⟩
abbrev S1x1024x512 : Shape := ⟨3, ![1, 1024, 512]⟩
abbrev S1x512 : Shape := ⟨2, ![1, 512]⟩
abbrev S1024x512 : Shape := ⟨2, ![1024, 512]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S1024, .f32⟩
  | .hbm, ⟨3, _⟩ => ⟨S8192x1024, .f32⟩
  | .hbm, ⟨4, _⟩ => ⟨S1x1024, .f32⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference23Ideal.lean ====
abbrev S8192x1024 : Shape := ⟨2, ![8192, 1024]⟩
abbrev S1x1024x1024 : Shape := ⟨3, ![1, 1024, 1024]⟩
abbrev S1024 : Shape := ⟨1, ![1024]⟩
abbrev S1024x1024 : Shape := ⟨2, ![1024, 1024]⟩
abbrev S1x1024 : Shape := ⟨2, ![1, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S1024, .f32⟩
  | .hbm, ⟨3, _⟩ => ⟨S8192x1024, .f32⟩
  | .hbm, ⟨4, _⟩ => ⟨S8192x1024, .f32⟩
  | .hbm, ⟨5, _⟩ => ⟨S1024x1024, .bf16⟩
  | .hbm, ⟨6, _⟩ => ⟨S1024x1024, .f32⟩
  | .hbm, ⟨7, _⟩ => ⟨S8192x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel24.lean ====
abbrev S1024x1024 : Shape := ⟨2, ![1024, 1024]⟩
abbrev S1x1024x2048 : Shape := ⟨3, ![1, 1024, 2048]⟩
abbrev S1024x2048 : Shape := ⟨2, ![1024, 2048]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S1x1024x2048, .bf16⟩
  | .hbm, ⟨2, _⟩ => ⟨S1024x2048, .bf16⟩
  | .local _ .vmem, ⟨0, _⟩ => ⟨S1024x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S1024x512, .bf16⟩
  | .local _ .vmem, ⟨4, _⟩ => ⟨S1024x512, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S1024x1024 : Shape := ⟨2, ![1024, 1024]⟩
abbrev S1x1024x2048 : Shape := ⟨3, ![1, 1024, 2048]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1x1024x2048, .bf16⟩
  | .hbm, ⟨2, _⟩ => ⟨S1024x1024, .f32⟩
  | .hbm, ⟨3, _⟩ => ⟨S1024x2048, .bf16⟩
  | .hbm, ⟨4, _⟩ => ⟨S1024x2048, .f32⟩
  | .hbm, ⟨5, _⟩ => ⟨S1024x2048, .f32⟩
  | .hbm, ⟨6, _⟩ => ⟨S1024x2048, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel25.lean ====
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1x1024, .f32⟩
  | .hbm, ⟨3, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference25Ideal.lean ====
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x1024, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x1, .f32⟩
  | .hbm, ⟨13, _⟩ => ⟨S1024x1024, .f32⟩
  | .hbm, ⟨14, _⟩ => ⟨S1024x1024, .f32⟩
  | .hbm, ⟨15, _⟩ => ⟨S1x1024, .f32⟩
  | .hbm, ⟨16, _⟩ => ⟨S1024x1024, .f32⟩
  | .hbm, ⟨17, _⟩ => ⟨S1024x1024, .f32⟩
  | .hbm, ⟨18, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel26.lean ====
abbrev S4x2048x1024 : Shape := ⟨3, ![4, 2048, 1024]⟩
abbrev S4x256x2048 : Shape := ⟨3, ![4, 256, 2048]⟩
abbrev S1x512x1024 : Shape := ⟨3, ![1, 512, 1024]⟩
abbrev S1x256x2048 : Shape := ⟨3, ![1, 256, 2048]⟩
abbrev S1x512x256 : Shape := ⟨3, ![1, 512, 256]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x1024, .bf16⟩
  | .hbm, ⟨1, _⟩ => ⟨S4x256x2048, .bf16⟩
  | .hbm, ⟨2, _⟩ => ⟨S4x2048x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x512x1024, .bf16⟩
  | .local _ .vmem, ⟨5, _⟩ => ⟨S1x512x1024, .bf16⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference26Ideal.lean ====
abbrev S4x2048x1024 : Shape := ⟨3, ![4, 2048, 1024]⟩
abbrev S4x256x2048 : Shape := ⟨3, ![4, 256, 2048]⟩
abbrev S4x2048x4x256 : Shape := ⟨4, ![4, 2048, 4, 256]⟩
abbrev S_ : Shape := ⟨0, ![]⟩
abbrev S4x256x1024 : Shape := ⟨3, ![4, 256, 1024]⟩
abbrev S4x256x4x256 : Shape := ⟨4, ![4, 256, 4, 256]⟩
abbrev S4x4x2048x256 : Shape := ⟨4, ![4, 4, 2048, 256]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x256x2048, .bf16⟩
  | .hbm, ⟨2, _⟩ => ⟨S4x2048x1024, .f32⟩
  | .hbm, ⟨3, _⟩ => ⟨S4x256x2048, .f32⟩
  | .hbm, ⟨4, _⟩ => ⟨S4x2048x4x256, .f32⟩
  | .hbm, ⟨5, _⟩ => ⟨S_, .f32⟩
  | .hbm, ⟨6, _⟩ => ⟨S4x2048x4x256, .f32⟩
  | .hbm, ⟨7, _⟩ => ⟨S4x2048x4x256, .f32⟩
  | .hbm, ⟨8, _⟩ => ⟨S4x256x1024, .f32⟩
  | .hbm, ⟨9, _⟩ => ⟨S4x256x1024, .f32⟩
  | .hbm, ⟨10, _⟩ => ⟨S4x256x4x256, .f32⟩
  | .hbm, ⟨11, _⟩ => ⟨S4x256x4x256, .f32⟩
  | .hbm, ⟨12, _⟩ => ⟨S4x4x2048x256, .f32⟩
  | .hbm, ⟨13, _⟩ => ⟨S_, .f32⟩
  | .hbm, ⟨14, _⟩ => ⟨S4x4x2048, .f32⟩
  | .hbm, ⟨15, _⟩ => ⟨S_, .f32⟩
  | .hbm, ⟨16, _⟩ => ⟨S4x4x2048, .f32⟩
  | .hbm, ⟨17, _⟩ => ⟨S4x4x2048, .f32⟩
  | .hbm, ⟨18, _⟩ => ⟨S4x4x2048x1, .f32⟩
  | .hbm, ⟨19, _⟩ => ⟨S4x4x2048x256, .f32⟩
  | .hbm, ⟨20, _⟩ => ⟨S4x4x2048x256, .f32⟩
  | .hbm, ⟨21, _⟩ => ⟨S4x4x2048x256, .f32⟩
  | .hbm, ⟨22, _⟩ => ⟨S_, .f32⟩
  | .hbm, ⟨23, _⟩ => ⟨S4x4x2048, .f32⟩
  | .hbm, ⟨24, _⟩ => ⟨S4x4x2048x1, .f32⟩
  | .hbm, ⟨25, _⟩ => ⟨S4x4x2048x256, .f32⟩
  | .hbm, ⟨26, _⟩ => ⟨S4x4x2048x256, .f32⟩
  | .hbm, ⟨27, _⟩ => ⟨S4x4x256x2048, .f32⟩
  | .hbm, ⟨28, _⟩ => ⟨S4x2048x4x256, .f32⟩
  | .hbm, ⟨29, _⟩ => ⟨S4x2048x1024, .f32⟩
  | .hbm, ⟨30, _⟩ => ⟨S4x2048x1024, .bf16⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Proof.Reals.lean ====
module

public import Idealize.ShloMosaic.Lib.Pipeline.ValueKit
public import Idealize.ShloMosaic.Lib.Pointwise

/-! Real numbers inside the extended reals: the arithmetic of a kernel over finite arguments stays finite, and
is the arithmetic of real numbers. -/

@[expose] public section

noncomputable section

namespace Proofs.Reals

open Idealize.ShloMosaic

/-- A finite sum of real numbers, read in the extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The bits of `1/16`. -/
theorem sixteenth : Ideal.ofBits .f32 0x3D800000#32 = ((1 / 16 : ℝ) : EReal) := by
  simp [Ideal.ofBits, Ideal.ieee, -EReal.coe_mul]
  norm_num

/-- The bits of minus infinity. -/
theorem minus_infinity : Ideal.ofBits .f32 0xFF800000#32 = ⊥ := by
  simp [Ideal.ofBits, Ideal.ieee]

/-- The bits of plus infinity. -/
theorem plus_infinity : Ideal.ofBits .f32 0x7F800000#32 = ⊤ := by
  simp [Ideal.ofBits, Ideal.ieee]

/-- The bits of one. -/
theorem one_bits : Ideal.ofBits .f32 0x3F800000#32 = ((1 : ℝ) : EReal) := by
  simp [Ideal.ofBits, Ideal.ieee, -EReal.coe_mul]
  norm_num

/-- A quotient of real numbers, the divisor not zero. -/
theorem div_coe_coe (x : ℝ) {y : ℝ} (h : y ≠ 0) : Ideal.div (x : EReal) (y : EReal) = ((x / y : ℝ) : EReal) := by
  rw [Ideal.div_coe h, ← EReal.coe_mul, mul_one_div]

/-- The maximum of a finite family of real numbers, folded from minus infinity, is a real number. -/
theorem fold_max_coe {ι : Type*} (s : Finset ι) (hs : s.Nonempty) (f : ι → ℝ) :
    ∃ M : ℝ, Finset.fold max ⊥ (fun i => (f i : EReal)) s = (M : EReal) := by
  classical
  induction hs using Finset.Nonempty.cons_induction with
  | singleton a => exact ⟨f a, by simp⟩
  | cons a s ha hs ih =>
    obtain ⟨M, hM⟩ := ih
    refine ⟨max (f a) M, ?_⟩
    rw [Finset.fold_cons, hM]
    exact (EReal.coe_strictMono.monotone.map_max (a := f a) (b := M)).symm

/-- A finite extended real is a real number: neither it nor its negation reaches plus infinity. -/
theorem real_of_abs_lt_top {x : EReal} (h : max x (-x) < ⊤) : ∃ r : ℝ, x = (r : EReal) := by
  induction x with
  | bot => simp at h
  | top => simp at h
  | coe r => exact ⟨r, rfl⟩

end Proofs.Reals
-- ==== Proof.Finite.lean ====
module

public import proofs.«01_k».proof.Proof.Reals
public import Idealize.ShloMosaic.Lib.Pointwise

/-! An array whose entries all compare below +∞ in absolute value is an array of real numbers. -/

@[expose] public section

set_option maxRecDepth 16384

noncomputable section

open Idealize.ShloMosaic Idealize.ShloMosaic.TcCoe

namespace Proofs.Finite

open Proofs.Reals

/-- The comparison `|y| < +∞` holding at every index. -/
theorem real_of_cmp {s : Shape} (y : FVec Ideal s .f32) (h0 : (⟨0, ![]⟩ : Shape).BroadcastsInDim s (![] : Fin 0 → Fin s.rank))
    (h : cmpf .olt (Host.absf y) (broadcastInDim s ![] h0 (constant (F := Ideal) ⟨0, ![]⟩ .f32 0x7F800000#32)) = fun _ => 1#1)
    (i : s.Idx) : ∃ r : ℝ, y i = (r : EReal) := by
  have e := congrFun h i
  refine real_of_abs_lt_top ?_
  rw [← plus_infinity]
  by_contra hn
  have : (0#1 : BitVec 1) = 1#1 := by
    rw [← e]
    pointwise []
    exact (congrArg BitVec.ofBool (decide_eq_false hn)).symm
  exact absurd this (by decide)

end Proofs.Finite

end
-- ==== Proof.Row.lean ====
module

public import proofs.«01_k».proof.Proof.Reals

/-! One query row of softmax attention over a fixed set of memory tokens, and its gradient, in real numbers. -/

@[expose] public section

noncomputable section

namespace Proofs.Row

open Idealize.ShloMosaic Proofs.Reals

variable {D N : Type} [Fintype D] [Fintype N]

/-- The scaled score of the query row `q` against key `i`. -/
def sc (q : D → ℝ) (K : N → D → ℝ) (i : N) : ℝ := (∑ d, q d * K i d) * (1 / 16)

/-- The attention weight of key `i`: the softmax of the scores. -/
def pr (q : D → ℝ) (K : N → D → ℝ) (i : N) : ℝ := Real.exp (sc q K i) / ∑ k, Real.exp (sc q K k)

/-- The cotangent of the attention weight of key `i`. -/
def dp (V : N → D → ℝ) (o : D → ℝ) (i : N) : ℝ := ∑ d, o d * V i d

/-- The cotangent of the score of key `i`. -/
def ds (q : D → ℝ) (K V : N → D → ℝ) (o : D → ℝ) (i : N) : ℝ :=
  pr q K i * (dp V o i - ∑ k, pr q K k * dp V o k)

/-- The cotangent of the query row. -/
def dq (q : D → ℝ) (K V : N → D → ℝ) (o : D → ℝ) (d : D) : ℝ := (∑ i, ds q K V o i * K i d) * (1 / 16)

/-- The sum of the exponentials is positive. -/
theorem sumExp_pos [Nonempty N] (s : N → ℝ) : 0 < ∑ k, Real.exp (s k) :=
  Finset.sum_pos (fun _ _ => Real.exp_pos _) Finset.univ_nonempty

/-- The softmax does not change when the scores are shifted. -/
theorem softmax_shift (s : N → ℝ) (M : ℝ) (i : N) :
    Real.exp (s i - M) / ∑ k, Real.exp (s k - M) = Real.exp (s i) / ∑ k, Real.exp (s k) := by
  simp only [Real.exp_sub, ← Finset.sum_div]
  rw [div_div_div_cancel_right₀ (Real.exp_ne_zero M)]

/-- The softmax computed from shifted scores in the extended reals is the real softmax. -/
theorem softmax_coe [Nonempty N] (s : N → ℝ) (M : ℝ) (i : N) :
    Ideal.div (Ideal.exp ((s i : EReal) - (M : EReal))) (∑ k, Ideal.exp ((s k : EReal) - (M : EReal)))
      = ((Real.exp (s i) / ∑ k, Real.exp (s k) : ℝ) : EReal) := by
  simp only [← EReal.coe_sub, Ideal.exp_coe, ← coe_sum]
  rw [div_coe_coe _ (sumExp_pos _).ne', softmax_shift]

/-- The gradient of the softmax written through the quotient rule, from shifted exponentials `e` with sum `Z`:
`(g i / Z - ∑ k, g k * (1 / Z²) * e k) * e i` is the product form of the gradient. -/
theorem softmax_grad (e g : N → ℝ) (Z : ℝ) (i : N) :
    (-(∑ k, g k * (1 / (Z * Z)) * e k) + g i / Z) * e i = e i / Z * (g i - ∑ k, e k / Z * g k) := by
  have h : ∑ k, g k * (1 / (Z * Z)) * e k = (∑ k, e k / Z * g k) / Z := by
    rw [Finset.sum_div]
    refine Finset.sum_congr rfl fun k _ => ?_
    by_cases hZ : Z = 0
    · simp [hZ]
    · field_simp
  rw [h]
  ring

end Proofs.Row
-- ==== Proof.Tile.lean ====
module

public import proofs.«01_k».proof.Proof.Gen.KernelIdeal.Value
public import proofs.«01_k».proof.Proof.Row

/-! One head of one tile of 512 query rows: what the kernel stores for it, in real numbers. -/

@[expose] public section

set_option maxRecDepth 16384

noncomputable section

open Idealize.ShloMosaic Idealize.ShloMosaic.TcCoe Idealize.SL.Sem

namespace Cert.KernelIdeal.Tile

open Cert.KernelIdeal Cert.KernelIdeal.Gen Proofs.Reals Proofs

variable (q o : Vec Ideal S1x512x256 .bf16) (k v : Vec Ideal S1x256x256 .bf16) (prev : Vec Ideal S1x256x256 .f32)
variable {Q O : Fin 512 → Fin 256 → ℝ} {K V : Fin 256 → Fin 256 → ℝ}

/-- The attention weights of the tile. -/
theorem weight (hq : ∀ r d, q (ix3 0 r d) = ↑(Q r d)) (hk : ∀ i d, k (ix3 0 i d) = ↑(K i d)) (r : Fin 512) (i : Fin 256) :
    k0_pay17 (k0_pay13 q) (k0_pay14 k) (ix2 r i) = ↑(Row.pr (Q r) K i) := by
  have hs : ∀ j, (∑ x, k0_pay13 q (ix2 r x) * k0_pay14 k (ix2 j x)) * Ideal.ofBits FTy.f32 0x3D800000#32
      = ((Row.sc (Q r) K j : ℝ) : EReal) := by
    intro j
    pointwise [k0_pay13, k0_pay14]
    rw [sixteenth]
    simp only [hq, hk, ← EReal.coe_mul, ← coe_sum]
    rfl
  pointwise [k0_pay17]
  simp only [hs]
  obtain ⟨M, hM⟩ := fold_max_coe (Finset.univ : Finset (Fin 256)) Finset.univ_nonempty (fun x => Row.sc (Q r) K x)
  rw [minus_infinity, hM, Row.softmax_coe]
  rfl

/-- The cotangents of the scores of the tile. -/
theorem score (hq : ∀ r d, q (ix3 0 r d) = ↑(Q r d)) (hk : ∀ i d, k (ix3 0 i d) = ↑(K i d))
    (hv : ∀ i d, v (ix3 0 i d) = ↑(V i d)) (ho : ∀ r d, o (ix3 0 r d) = ↑(O r d)) (r : Fin 512) (i : Fin 256) :
    k0_pay19 (k0_pay13 q) (k0_pay14 k) (k0_pay15 v) o (ix2 r i) = ↑(Row.ds (Q r) K V (O r) i) := by
  have hd : ∀ j, ∑ x, k0_pay16 o (ix2 r x) * k0_pay15 v (ix2 j x) = ((Row.dp V (O r) j : ℝ) : EReal) := by
    intro j
    pointwise [k0_pay16, k0_pay15]
    simp only [hv, ho, ← EReal.coe_mul, ← coe_sum]
    rfl
  pointwise [k0_pay19]
  simp only [hd, weight q k hq hk, ← EReal.coe_mul, ← coe_sum, ← EReal.coe_sub]
  rfl

/-- The tile's rows of the cotangent of the queries. -/
theorem dq_piece (hq : ∀ r d, q (ix3 0 r d) = ↑(Q r d)) (hk : ∀ i d, k (ix3 0 i d) = ↑(K i d))
    (hv : ∀ i d, v (ix3 0 i d) = ↑(V i d)) (ho : ∀ r d, o (ix3 0 r d) = ↑(O r d)) (r : Fin 512) (d : Fin 256) :
    k0_pay20 (k0_pay13 q) (k0_pay14 k) (k0_pay15 v) o (ix3 0 r d) = ↑(Row.dq (Q r) K V (O r) d) := by
  pointwise [k0_pay20]
  simp only [score q o k v hq hk hv ho, sixteenth]
  pointwise [k0_pay14]
  simp only [hk, ← EReal.coe_mul, ← coe_sum]
  rfl

/-- The tile's part of the cotangent of the keys, added to what the block held. -/
theorem dk_piece (hq : ∀ r d, q (ix3 0 r d) = ↑(Q r d)) (hk : ∀ i d, k (ix3 0 i d) = ↑(K i d))
    (hv : ∀ i d, v (ix3 0 i d) = ↑(V i d)) (ho : ∀ r d, o (ix3 0 r d) = ↑(O r d)) (i : Fin 256) (d : Fin 256) :
    k0_pay21 (k0_pay13 q) (k0_pay19 (k0_pay13 q) (k0_pay14 k) (k0_pay15 v) o) prev (ix3 0 i d)
      = prev (ix3 0 i d) + ↑(∑ r, Row.ds (Q r) K V (O r) i * Q r d * (1 / 16)) := by
  pointwise [k0_pay21]
  simp only [score q o k v hq hk hv ho, sixteenth]
  pointwise [k0_pay13]
  simp only [hq, ← EReal.coe_mul, ← coe_sum, Finset.sum_mul]

/-- The tile's part of the cotangent of the values, added to what the block held. -/
theorem dv_piece (hq : ∀ r d, q (ix3 0 r d) = ↑(Q r d)) (hk : ∀ i d, k (ix3 0 i d) = ↑(K i d))
    (ho : ∀ r d, o (ix3 0 r d) = ↑(O r d)) (i : Fin 256) (d : Fin 256) :
    k0_pay18 (k0_pay13 q) (k0_pay14 k) o prev (ix3 0 i d)
      = prev (ix3 0 i d) + ↑(∑ r, Row.pr (Q r) K i * O r d) := by
  pointwise [k0_pay18]
  simp only [weight q k hq hk]
  pointwise [k0_pay16]
  simp only [ho, ← EReal.coe_mul, ← coe_sum]

/-! The other three heads store the same functions of their own blocks. -/

theorem dq_head0 : k0_pay11 (F := Ideal) (k0_pay5 k) (k0_pay6 v) (k0_pay7 o) (k0_pay8 q k)
    = k0_pay20 (k0_pay13 q) (k0_pay14 k) (k0_pay15 v) o := rfl

theorem dk_head0 : k0_pay12 (F := Ideal) (k0_pay4 q) (k0_pay6 v) (k0_pay7 o) (k0_pay8 q k) prev
    = k0_pay21 (k0_pay13 q) (k0_pay19 (k0_pay13 q) (k0_pay14 k) (k0_pay15 v) o) prev := rfl

theorem dv_head0 : k0_pay9 (F := Ideal) q k o prev = k0_pay18 (k0_pay13 q) (k0_pay14 k) o prev := rfl

theorem dq_head2 : k0_pay30 (F := Ideal) (k0_pay23 k) (k0_pay24 v) (k0_pay25 o) (k0_pay26 q k)
    = k0_pay20 (k0_pay13 q) (k0_pay14 k) (k0_pay15 v) o := rfl

theorem dk_head2 : k0_pay31 (F := Ideal) (k0_pay22 q) (k0_pay24 v) (k0_pay25 o) (k0_pay26 q k) prev
    = k0_pay21 (k0_pay13 q) (k0_pay19 (k0_pay13 q) (k0_pay14 k) (k0_pay15 v) o) prev := rfl

theorem dv_head2 : k0_pay28 (F := Ideal) (k0_pay27 q k o prev) = k0_pay18 (k0_pay13 q) (k0_pay14 k) o prev := rfl

theorem dq_head3 : k0_pay1 (F := Ideal) (k0_pay38 (k0_pay32 q) (k0_pay33 k) v o)
    = k0_pay20 (k0_pay13 q) (k0_pay14 k) (k0_pay15 v) o := rfl

theorem dk_head3 : k0_pay2 (F := Ideal) (k0_pay32 q) (k0_pay37 (k0_pay32 q) (k0_pay33 k) v o) prev
    = k0_pay21 (k0_pay13 q) (k0_pay19 (k0_pay13 q) (k0_pay14 k) (k0_pay15 v) o) prev := rfl

theorem dv_head3 : k0_pay36 (F := Ideal) (k0_pay32 q) (k0_pay33 k) o prev
    = k0_pay18 (k0_pay13 q) (k0_pay14 k) o prev := rfl

end Cert.KernelIdeal.Tile
-- ==== Proof.Model.lean ====
module

public import proofs.«01_k».proof.Proof.Row

/-! Four-head attention of one row over 256 memory tokens, and its gradient, in real numbers. A row has 1024
columns, 256 for each head; a memory token has 2048, the keys of the four heads and then their values. -/

@[expose] public section

noncomputable section

namespace Proofs.Model

open Proofs

/-- Head `h` of a row. -/
def hd (x : Fin 1024 → ℝ) (h : Fin 4) (d : Fin 256) : ℝ := x ⟨256 * h + d, by omega⟩

/-- The keys of head `h`. -/
def keys (kv : Fin 256 → Fin 2048 → ℝ) (h : Fin 4) (i d : Fin 256) : ℝ := kv i ⟨256 * h + d, by omega⟩

/-- The values of head `h`. -/
def vals (kv : Fin 256 → Fin 2048 → ℝ) (h : Fin 4) (i d : Fin 256) : ℝ := kv i ⟨1024 + 256 * h + d, by omega⟩

/-- The cotangent of the scores of the row `q` in head `h`, for the cotangent `o` of its output. -/
def ds (q o : Fin 1024 → ℝ) (kv : Fin 256 → Fin 2048 → ℝ) (h : Fin 4) (i : Fin 256) : ℝ :=
  Row.ds (hd q h) (keys kv h) (vals kv h) (hd o h) i

/-- The cotangent of the row `q`. -/
def dq (q o : Fin 1024 → ℝ) (kv : Fin 256 → Fin 2048 → ℝ) (c : Fin 1024) : ℝ :=
  Row.dq (hd q ⟨c / 256, by omega⟩) (keys kv ⟨c / 256, by omega⟩) (vals kv ⟨c / 256, by omega⟩)
    (hd o ⟨c / 256, by omega⟩) ⟨c % 256, by omega⟩

/-- What the row `q` contributes to the cotangent of the keys. -/
def dk (q o : Fin 1024 → ℝ) (kv : Fin 256 → Fin 2048 → ℝ) (i : Fin 256) (c : Fin 1024) : ℝ :=
  ds q o kv ⟨c / 256, by omega⟩ i * q c * (1 / 16)

/-- What the row `q` contributes to the cotangent of the values. -/
def dv (q o : Fin 1024 → ℝ) (kv : Fin 256 → Fin 2048 → ℝ) (i : Fin 256) (c : Fin 1024) : ℝ :=
  Row.pr (hd q ⟨c / 256, by omega⟩) (keys kv ⟨c / 256, by omega⟩) i * o c

/-- What the row `q` contributes to the cotangent of the memory tokens: the keys' part, then the values'. -/
def dkv (q o : Fin 1024 → ℝ) (kv : Fin 256 → Fin 2048 → ℝ) (i : Fin 256) (c : Fin 2048) : ℝ :=
  if h : (c : ℕ) < 1024 then dk q o kv i ⟨c, h⟩ else dv q o kv i ⟨c - 1024, by omega⟩

variable {q o : Fin 1024 → ℝ} {kv : Fin 256 → Fin 2048 → ℝ}

/-- A column is lane `d` of head `h`. -/
theorem col_of {h : Fin 4} {d : Fin 256} {c : Fin 1024} (hc : (c : ℕ) = 256 * h + d) :
    (⟨c / 256, by omega⟩ : Fin 4) = h ∧ (⟨c % 256, by omega⟩ : Fin 256) = d ∧ c = ⟨256 * h + d, by omega⟩ :=
  ⟨Fin.ext (by simp only; omega), Fin.ext (by simp only; omega), Fin.ext hc⟩

theorem dq_at (h : Fin 4) (d : Fin 256) (c : Fin 1024) (hc : (c : ℕ) = 256 * h + d) :
    dq q o kv c = Row.dq (hd q h) (keys kv h) (vals kv h) (hd o h) d := by
  obtain ⟨h1, h2, -⟩ := col_of hc
  rw [dq, h1, h2]

theorem dk_at (h : Fin 4) (i d : Fin 256) (c : Fin 1024) (hc : (c : ℕ) = 256 * h + d) :
    dk q o kv i c = Row.ds (hd q h) (keys kv h) (vals kv h) (hd o h) i * hd q h d * (1 / 16) := by
  obtain ⟨h1, -, h3⟩ := col_of hc
  rw [dk, h1, ds, h3]; rfl

theorem dv_at (h : Fin 4) (i d : Fin 256) (c : Fin 1024) (hc : (c : ℕ) = 256 * h + d) :
    dv q o kv i c = Row.pr (hd q h) (keys kv h) i * hd o h d := by
  obtain ⟨h1, -, h3⟩ := col_of hc
  rw [dv, h1, h3]; rfl

theorem dkv_at_keys (h : Fin 4) (i d : Fin 256) (c : Fin 2048) (hc : (c : ℕ) = 256 * h + d) :
    dkv q o kv i c = Row.ds (hd q h) (keys kv h) (vals kv h) (hd o h) i * hd q h d * (1 / 16) := by
  rw [dkv, dif_pos (by omega)]
  exact dk_at h i d _ hc

theorem dkv_at_vals (h : Fin 4) (i d : Fin 256) (c : Fin 2048) (hc : (c : ℕ) = 1024 + 256 * h + d) :
    dkv q o kv i c = Row.pr (hd q h) (keys kv h) i * hd o h d := by
  rw [dkv, dif_neg (by omega)]
  exact dv_at h i d _ (by simp only; omega)

end Proofs.Model
-- ==== Proof.Block.lean ====
module

public import proofs.«01_k».proof.Proof.Tile
public import proofs.«01_k».proof.Proof.Model

/-! What the kernel stores for one head of a block of 512 query rows, as columns of the model. -/

@[expose] public section

set_option maxRecDepth 16384

noncomputable section

open Idealize.ShloMosaic Idealize.ShloMosaic.TcCoe Idealize.SL.Sem

namespace Cert.KernelIdeal.Block

open Cert.KernelIdeal Cert.KernelIdeal.Gen Proofs.Reals Proofs

variable {q o : Vec Ideal S1x512x1024 .bf16} {kv : Vec Ideal S1x256x2048 .bf16}
variable {Q O : Fin 512 → Fin 1024 → ℝ} {KV : Fin 256 → Fin 2048 → ℝ}

/-- The columns of head `h` of a block of rows. -/
theorem ld_rows {x : Vec Ideal S1x512x1024 .bf16} {X : Fin 512 → Fin 1024 → ℝ} (hx : ∀ r c, x (ix3 0 r c) = ↑(X r c))
    (h : Fin 4) {f : ℕ} (e : f = 256 * (h : ℕ)) (inb : ∀ a, (![0, 0, f] : Fin 3 → ℕ) a + (![1, 512, 256] : Fin 3 → ℕ) a ≤ S1x512x1024.size a)
    (r : Fin 512) (d : Fin 256) :
    View.ld x (Rect.unit (s := S1x512x1024) ![0, 0, f] ![1, 512, 256] inb) (ix3 0 r d) = ↑(Model.hd (X r) h d) := by
  subst e
  refine (View.ld_unit_apply_of x _ _ inb _ (ix3 0 r ⟨256 * h + d, by omega⟩) fun a => ?_).trans (hx r _)
  match a with
  | 0 => rfl
  | 1 => exact (Nat.zero_add _).symm
  | 2 => rfl

/-- The keys of head `h` of the memory tokens. -/
theorem ld_keys (hkv : ∀ i c, kv (ix3 0 i c) = ↑(KV i c)) (h : Fin 4) {f : ℕ} (e : f = 256 * (h : ℕ))
    (inb : ∀ a, (![0, 0, f] : Fin 3 → ℕ) a + (![1, 256, 256] : Fin 3 → ℕ) a ≤ S1x256x2048.size a) (i d : Fin 256) :
    View.ld kv (Rect.unit (s := S1x256x2048) ![0, 0, f] ![1, 256, 256] inb) (ix3 0 i d) = ↑(Model.keys KV h i d) := by
  subst e
  refine (View.ld_unit_apply_of kv _ _ inb _ (ix3 0 i ⟨256 * h + d, by omega⟩) fun a => ?_).trans (hkv i _)
  match a with
  | 0 => rfl
  | 1 => exact (Nat.zero_add _).symm
  | 2 => rfl

/-- The values of head `h` of the memory tokens. -/
theorem ld_vals (hkv : ∀ i c, kv (ix3 0 i c) = ↑(KV i c)) (h : Fin 4) {f : ℕ} (e : f = 1024 + 256 * (h : ℕ))
    (inb : ∀ a, (![0, 0, f] : Fin 3 → ℕ) a + (![1, 256, 256] : Fin 3 → ℕ) a ≤ S1x256x2048.size a) (i d : Fin 256) :
    View.ld kv (Rect.unit (s := S1x256x2048) ![0, 0, f] ![1, 256, 256] inb) (ix3 0 i d) = ↑(Model.vals KV h i d) := by
  subst e
  refine (View.ld_unit_apply_of kv _ _ inb _ (ix3 0 i ⟨1024 + 256 * h + d, by omega⟩) fun a => ?_).trans (hkv i _)
  match a with
  | 0 => rfl
  | 1 => exact (Nat.zero_add _).symm
  | 2 => rfl

/-- Head `h` of the block's rows of the cotangent of the queries. -/
theorem dq_store (hq : ∀ r c, q (ix3 0 r c) = ↑(Q r c)) (hkv : ∀ i c, kv (ix3 0 i c) = ↑(KV i c))
    (ho : ∀ r c, o (ix3 0 r c) = ↑(O r c)) (h : Fin 4) {f g : ℕ} (e : f = 256 * (h : ℕ)) (e' : g = 1024 + 256 * (h : ℕ))
    (i1 i2 i3 i4) (x : S1x512x256.Idx) (r : Fin 512) (c : Fin 1024) (hr : (r : ℕ) = x 1) (hc : (c : ℕ) = f + x 2) :
    k0_pay20 (F := Ideal) (k0_pay13 (View.ld q (Rect.unit (s := S1x512x1024) ![0, 0, f] ![1, 512, 256] i1)))
      (k0_pay14 (View.ld kv (Rect.unit (s := S1x256x2048) ![0, 0, f] ![1, 256, 256] i2)))
      (k0_pay15 (View.ld kv (Rect.unit (s := S1x256x2048) ![0, 0, g] ![1, 256, 256] i3)))
      (View.ld o (Rect.unit (s := S1x512x1024) ![0, 0, f] ![1, 512, 256] i4)) x = ↑(Model.dq (Q r) (O r) KV c) := by
  have hx : x = ix3 0 r ⟨x 2, (x 2).isLt⟩ := by blk_ext
  rw [Model.dq_at h ⟨x 2, (x 2).isLt⟩ c (by rw [hc, e]), hx]
  exact Tile.dq_piece _ _ _ _ (ld_rows hq h e i1) (ld_keys hkv h e i2) (ld_vals hkv h e' i3) (ld_rows ho h e i4) _ _

/-- Head `h` of the block's part of the cotangent of the keys, over what the block held. -/
theorem dk_store (hq : ∀ r c, q (ix3 0 r c) = ↑(Q r c)) (hkv : ∀ i c, kv (ix3 0 i c) = ↑(KV i c))
    (ho : ∀ r c, o (ix3 0 r c) = ↑(O r c)) (h : Fin 4) {f g : ℕ} (e : f = 256 * (h : ℕ)) (e' : g = 1024 + 256 * (h : ℕ))
    (i1 i2 i3 i4) (prev : Vec Ideal S1x256x256 .f32) (x : S1x256x256.Idx) (i : Fin 256) (c : Fin 2048)
    (hi : (i : ℕ) = x 1) (hc : (c : ℕ) = f + x 2) :
    k0_pay21 (F := Ideal) (k0_pay13 (View.ld q (Rect.unit (s := S1x512x1024) ![0, 0, f] ![1, 512, 256] i1)))
      (k0_pay19 (k0_pay13 (View.ld q (Rect.unit (s := S1x512x1024) ![0, 0, f] ![1, 512, 256] i1)))
        (k0_pay14 (View.ld kv (Rect.unit (s := S1x256x2048) ![0, 0, f] ![1, 256, 256] i2)))
        (k0_pay15 (View.ld kv (Rect.unit (s := S1x256x2048) ![0, 0, g] ![1, 256, 256] i3)))
        (View.ld o (Rect.unit (s := S1x512x1024) ![0, 0, f] ![1, 512, 256] i4))) prev x
      = prev x + ↑(∑ r : Fin 512, Model.dkv (Q r) (O r) KV i c) := by
  have hx : x = ix3 0 i ⟨x 2, (x 2).isLt⟩ := by blk_ext
  simp only [Model.dkv_at_keys h i ⟨x 2, (x 2).isLt⟩ c (by rw [hc, e])]
  rw [hx]
  exact Tile.dk_piece _ _ _ _ _ (ld_rows hq h e i1) (ld_keys hkv h e i2) (ld_vals hkv h e' i3) (ld_rows ho h e i4) _ _

/-- Head `h` of the block's part of the cotangent of the values, over what the block held. -/
theorem dv_store (hq : ∀ r c, q (ix3 0 r c) = ↑(Q r c)) (hkv : ∀ i c, kv (ix3 0 i c) = ↑(KV i c))
    (ho : ∀ r c, o (ix3 0 r c) = ↑(O r c)) (h : Fin 4) {f g : ℕ} (e : f = 256 * (h : ℕ)) (e' : g = 1024 + 256 * (h : ℕ))
    (i1 i2 i4) (prev : Vec Ideal S1x256x256 .f32) (x : S1x256x256.Idx) (i : Fin 256) (c : Fin 2048)
    (hi : (i : ℕ) = x 1) (hc : (c : ℕ) = g + x 2) :
    k0_pay18 (F := Ideal) (k0_pay13 (View.ld q (Rect.unit (s := S1x512x1024) ![0, 0, f] ![1, 512, 256] i1)))
      (k0_pay14 (View.ld kv (Rect.unit (s := S1x256x2048) ![0, 0, f] ![1, 256, 256] i2)))
      (View.ld o (Rect.unit (s := S1x512x1024) ![0, 0, f] ![1, 512, 256] i4)) prev x
      = prev x + ↑(∑ r : Fin 512, Model.dkv (Q r) (O r) KV i c) := by
  have hx : x = ix3 0 i ⟨x 2, (x 2).isLt⟩ := by blk_ext
  simp only [Model.dkv_at_vals h i ⟨x 2, (x 2).isLt⟩ c (by rw [hc, e'])]
  rw [hx]
  exact Tile.dv_piece _ _ _ _ (ld_rows hq h e i1) (ld_keys hkv h e i2) (ld_rows ho h e i4) _ _

end Cert.KernelIdeal.Block
-- ==== Proof.KernelValue.lean ====
module

public import proofs.«01_k».proof.Proof.Block
public import Idealize.ShloMosaic.Lib.Pipeline.ReadBack

/-! The two results of the kernel, over real arguments: the cotangent of the queries, written block by block, and the
cotangent of the memory tokens, accumulated over the four blocks of query rows of a batch entry. -/

@[expose] public section

set_option maxRecDepth 16384

noncomputable section

open Idealize.ShloMosaic Idealize.ShloMosaic.TcCoe Idealize.SL.Sem

namespace Cert.KernelIdeal.Value

open Cert.KernelIdeal Cert.KernelIdeal.Gen Proofs.Reals Proofs

variable (m : (ℓ : Loc nD τ sig) → Buf (Elt Ideal) ℓ) (c : Dev nD)
variable (X0 X2 : Fin 4 → Fin 2048 → Fin 1024 → ℝ) (X1 : Fin 4 → Fin 256 → Fin 2048 → ℝ)

/-- The block indices of the windows at each point of the grid. -/
theorem idx : ∀ t : Fin cfg0.N, win0_0.index t = ![t.val / 4, t.val % 4, 0] ∧ win0_1.index t = ![t.val / 4, 0, 0]
    ∧ win0_2.index t = ![t.val / 4, t.val % 4, 0] ∧ win0_3.index t = ![t.val / 4, t.val % 4, 0]
    ∧ win0_4.index t = ![t.val / 4, 0, 0] :=
  (by decide +kernel : ∀ t : Fin grid0.N, _)

/-- The grid has sixteen points. -/
theorem lt16 (t : Fin cfg0.N) : t.val < 16 := lt_of_lt_of_eq t.isLt N_0

/-- The batch entry of a point. -/
def bat (t : Fin cfg0.N) : Fin 4 := ⟨t.val / 4, by have := lt16 t; omega⟩

/-- The row of the array at row `r` of a point's block. -/
def row (t : Fin cfg0.N) (r : Fin 512) : Fin 2048 := ⟨t.val % 4 * 512 + r, by omega⟩

/-- The arguments of the kernel are the real arrays `X0`, `X1` and `X2`. -/
def Args : Prop :=
  (∀ b r d, m ((c : Thread nD τ).loc main_arg0) (ix3 b r d) = ((X0 b r d : ℝ) : EReal))
  ∧ (∀ b i d, m ((c : Thread nD τ).loc main_arg1) (ix3 b i d) = ((X1 b i d : ℝ) : EReal))
  ∧ (∀ b r d, m ((c : Thread nD τ).loc main_arg2) (ix3 b r d) = ((X2 b r d : ℝ) : EReal))

variable {m c X0 X1 X2}

theorem blk_q (H : Args m c X0 X2 X1) (t : Fin cfg0.N) (r : Fin 512) (d : Fin 1024) :
    iblk m c 0 t (ix3 0 r d) = ((X0 (bat t) (row t r) d : ℝ) : EReal) := by
  rw [← H.1]; blk_ext [iblk, V, idx t, bat, row]

theorem blk_kv (H : Args m c X0 X2 X1) (t : Fin cfg0.N) (i : Fin 256) (d : Fin 2048) :
    iblk m c 1 t (ix3 0 i d) = ((X1 (bat t) i d : ℝ) : EReal) := by
  rw [← H.2.1]; blk_ext [iblk, V, idx t, bat]

theorem blk_o (H : Args m c X0 X2 X1) (t : Fin cfg0.N) (r : Fin 512) (d : Fin 1024) :
    iblk m c 2 t (ix3 0 r d) = ((X2 (bat t) (row t r) d : ℝ) : EReal) := by
  rw [← H.2.2]; blk_ext [iblk, V, idx t, bat, row]

/-- What a point writes of the cotangent of the queries. -/
theorem point3 (H : Args m c X0 X2 X1) (t : Fin cfg0.N) (y : S1x512x1024.Idx) :
    (outsAt0 m c t.val t.isLt).1 y
      = ((Model.dq (X0 (bat t) (row t (y 1))) (X2 (bat t) (row t (y 1))) (X1 (bat t)) (y 2) : ℝ) : EReal) := by
  by_cases h4 : t.val % 4 = 0
  · rw [outsAt0_A m c t h4]
    frame_out
    canon_tiles x h
    · rw [Tile.dq_head3]
      exact Block.dq_store (blk_q H t) (blk_kv H t) (blk_o H t) 3 rfl rfl _ _ _ _ x _ _ h1 h2
    · rw [Tile.dq_head2]
      exact Block.dq_store (blk_q H t) (blk_kv H t) (blk_o H t) 2 rfl rfl _ _ _ _ x _ _ h1 h2
    · exact Block.dq_store (blk_q H t) (blk_kv H t) (blk_o H t) 1 rfl rfl _ _ _ _ x _ _ h1 h2
    · rw [Tile.dq_head0]
      exact Block.dq_store (blk_q H t) (blk_kv H t) (blk_o H t) 0 rfl rfl _ _ _ _ x _ _ h1 (h2.trans (Nat.zero_add _).symm)
  · rw [outsAt0_B m c t h4]
    frame_out
    canon_tiles x h
    · rw [Tile.dq_head3]
      exact Block.dq_store (blk_q H t) (blk_kv H t) (blk_o H t) 3 rfl rfl _ _ _ _ x _ _ h1 h2
    · rw [Tile.dq_head2]
      exact Block.dq_store (blk_q H t) (blk_kv H t) (blk_o H t) 2 rfl rfl _ _ _ _ x _ _ h1 h2
    · exact Block.dq_store (blk_q H t) (blk_kv H t) (blk_o H t) 1 rfl rfl _ _ _ _ x _ _ h1 h2
    · rw [Tile.dq_head0]
      exact Block.dq_store (blk_q H t) (blk_kv H t) (blk_o H t) 0 rfl rfl _ _ _ _ x _ _ h1 (h2.trans (Nat.zero_add _).symm)

/-- What a point's rows contribute to the cotangent of the memory tokens. -/
def part (X0 X2 : Fin 4 → Fin 2048 → Fin 1024 → ℝ) (X1 : Fin 4 → Fin 256 → Fin 2048 → ℝ) (t : Fin cfg0.N)
    (y : S1x256x2048.Idx) : EReal :=
  ((∑ r : Fin 512, Model.dkv (X0 (bat t) (row t r)) (X2 (bat t) (row t r)) (X1 (bat t)) (y 1) (y 2) : ℝ) : EReal)

/-- A load of a buffer at the columns from `f` on. -/
theorem ld_prev (P : Vec Ideal S1x256x2048 .f32) {f : ℕ} (inb) (x : S1x256x256.Idx) (y : S1x256x2048.Idx)
    (h0 : (y 0 : ℕ) = x 0) (h1 : (y 1 : ℕ) = x 1) (h2 : (y 2 : ℕ) = f + x 2) :
    View.ld P (Rect.unit (s := S1x256x2048) ![0, 0, f] ![1, 256, 256] inb) x = P y := by
  refine View.ld_unit_apply_of P _ _ inb _ y fun a => ?_
  match a with
  | 0 => exact h0.trans (Nat.zero_add _).symm
  | 1 => exact h1.trans (Nat.zero_add _).symm
  | 2 => exact h2

/-- The zero fill. -/
theorem fill (y : S1x256x2048.Idx) : k0_pay3 (F := Ideal) y = 0 := by pointwise [k0_pay3]

/-- Where the later stores cover an index, the earlier ones do not count. -/
theorem canon_append_left {s : Shape} {e : EltTy} (L L' : List (View.Piece (Elt Ideal) s e)) (y : s.Idx)
    (hc : ∃ p ∈ L, y ∈ p.1.set) : View.canon (L ++ L') y = View.canon L y := by
  induction L with
  | nil => obtain ⟨p, hp, -⟩ := hc; exact absurd hp List.not_mem_nil
  | cons p L ih =>
    by_cases hm : y ∈ p.1.set
    · obtain ⟨x, rfl⟩ := p.1.exists_idx_of_mem hm
      exact (View.canon_cons_emb p.1 p.2 (L ++ L') x).trans (View.canon_cons_emb p.1 p.2 L x).symm
    · rw [List.cons_append, View.canon_cons_of_not_mem p _ hm, View.canon_cons_of_not_mem p _ hm]
      refine ih ?_
      obtain ⟨p', hp', hy⟩ := hc
      rcases List.mem_cons.mp hp' with rfl | hp'
      · exact absurd hy hm
      · exact ⟨p', hp', hy⟩

/-- At the first point of a batch entry the block is the point's part. -/
theorem point4_first (H : Args m c X0 X2 X1) (t : Fin cfg0.N) (h4 : t.val % 4 = 0) (y : S1x256x2048.Idx) :
    (outsAt0 m c t.val t.isLt).2 y = 0 + part X0 X2 X1 t y := by
  rw [outsAt0_A m c t h4]
  frame_open
  simp (disch := decide) only [↓ View.readCov_skip, ↓ View.readCov_cons_toLoadRect, ↓ View.readCov_fill]
  frame_out
  rw [← fill y]
  refine (canon_append_left [_, _, _, _, _, _, _, _] [_] y (by
    set_option maxRecDepth 1000000 in exact View.cover_of_tiled_head _ _ _ (by rfl) _)).trans ?_
  canon_tiles x h
  · rw [Tile.dk_head3]
    exact (Block.dk_store (f := 768) (g := 1792) (blk_q H t) (blk_kv H t) (blk_o H t) 3 rfl rfl _ _ _ _ _ x (y 1) (y 2) h1 h2).trans
      (congrArg (fun z => z + part X0 X2 X1 t y) (ld_prev _ _ x y h0 h1 h2))
  · rw [Tile.dv_head3]
    exact (Block.dv_store (f := 768) (g := 1792) (blk_q H t) (blk_kv H t) (blk_o H t) 3 rfl rfl _ _ _ _ x (y 1) (y 2) h1 h2).trans
      (congrArg (fun z => z + part X0 X2 X1 t y) (ld_prev _ _ x y h0 h1 h2))
  · rw [Tile.dk_head2]
    exact (Block.dk_store (f := 512) (g := 1536) (blk_q H t) (blk_kv H t) (blk_o H t) 2 rfl rfl _ _ _ _ _ x (y 1) (y 2) h1 h2).trans
      (congrArg (fun z => z + part X0 X2 X1 t y) (ld_prev _ _ x y h0 h1 h2))
  · rw [Tile.dv_head2]
    exact (Block.dv_store (f := 512) (g := 1536) (blk_q H t) (blk_kv H t) (blk_o H t) 2 rfl rfl _ _ _ _ x (y 1) (y 2) h1 h2).trans
      (congrArg (fun z => z + part X0 X2 X1 t y) (ld_prev _ _ x y h0 h1 h2))
  · exact (Block.dk_store (f := 256) (g := 1280) (blk_q H t) (blk_kv H t) (blk_o H t) 1 rfl rfl _ _ _ _ _ x (y 1) (y 2) h1 h2).trans
      (congrArg (fun z => z + part X0 X2 X1 t y) (ld_prev _ _ x y h0 h1 h2))
  · exact (Block.dv_store (f := 256) (g := 1280) (blk_q H t) (blk_kv H t) (blk_o H t) 1 rfl rfl _ _ _ _ x (y 1) (y 2) h1 h2).trans
      (congrArg (fun z => z + part X0 X2 X1 t y) (ld_prev _ _ x y h0 h1 h2))
  · rw [Tile.dk_head0]
    exact (Block.dk_store (f := 0) (g := 1024) (blk_q H t) (blk_kv H t) (blk_o H t) 0 rfl rfl _ _ _ _ _ x (y 1) (y 2) h1 (h2.trans (Nat.zero_add _).symm)).trans
      (congrArg (fun z => z + part X0 X2 X1 t y) (ld_prev _ _ x y h0 h1 (h2.trans (Nat.zero_add _).symm)))
  · rw [Tile.dv_head0]
    exact (Block.dv_store (f := 0) (g := 1024) (blk_q H t) (blk_kv H t) (blk_o H t) 0 rfl rfl _ _ _ _ x (y 1) (y 2) h1 h2).trans
      (congrArg (fun z => z + part X0 X2 X1 t y) (ld_prev _ _ x y h0 h1 h2))

/-- At the other points the block is what it was before and the point's part. -/
theorem point4_next (H : Args m c X0 X2 X1) (t : Fin cfg0.N) (h4 : ¬ t.val % 4 = 0) (y : S1x256x2048.Idx) :
    (outsAt0 m c t.val t.isLt).2 y = (outsAt0 m c (t.val - 1) (Nat.lt_of_le_of_lt (Nat.sub_le _ _) t.isLt)).2 y + part X0 X2 X1 t y := by
  rw [outsAt0_B m c t h4]
  frame_out
  canon_tiles x h
  · rw [Tile.dk_head3]
    exact (Block.dk_store (f := 768) (g := 1792) (blk_q H t) (blk_kv H t) (blk_o H t) 3 rfl rfl _ _ _ _ _ x (y 1) (y 2) h1 h2).trans
      (congrArg (fun z => z + part X0 X2 X1 t y) (ld_prev _ _ x y h0 h1 h2))
  · rw [Tile.dv_head3]
    exact (Block.dv_store (f := 768) (g := 1792) (blk_q H t) (blk_kv H t) (blk_o H t) 3 rfl rfl _ _ _ _ x (y 1) (y 2) h1 h2).trans
      (congrArg (fun z => z + part X0 X2 X1 t y) (ld_prev _ _ x y h0 h1 h2))
  · rw [Tile.dk_head2]
    exact (Block.dk_store (f := 512) (g := 1536) (blk_q H t) (blk_kv H t) (blk_o H t) 2 rfl rfl _ _ _ _ _ x (y 1) (y 2) h1 h2).trans
      (congrArg (fun z => z + part X0 X2 X1 t y) (ld_prev _ _ x y h0 h1 h2))
  · rw [Tile.dv_head2]
    exact (Block.dv_store (f := 512) (g := 1536) (blk_q H t) (blk_kv H t) (blk_o H t) 2 rfl rfl _ _ _ _ x (y 1) (y 2) h1 h2).trans
      (congrArg (fun z => z + part X0 X2 X1 t y) (ld_prev _ _ x y h0 h1 h2))
  · exact (Block.dk_store (f := 256) (g := 1280) (blk_q H t) (blk_kv H t) (blk_o H t) 1 rfl rfl _ _ _ _ _ x (y 1) (y 2) h1 h2).trans
      (congrArg (fun z => z + part X0 X2 X1 t y) (ld_prev _ _ x y h0 h1 h2))
  · exact (Block.dv_store (f := 256) (g := 1280) (blk_q H t) (blk_kv H t) (blk_o H t) 1 rfl rfl _ _ _ _ x (y 1) (y 2) h1 h2).trans
      (congrArg (fun z => z + part X0 X2 X1 t y) (ld_prev _ _ x y h0 h1 h2))
  · rw [Tile.dk_head0]
    exact (Block.dk_store (f := 0) (g := 1024) (blk_q H t) (blk_kv H t) (blk_o H t) 0 rfl rfl _ _ _ _ _ x (y 1) (y 2) h1 (h2.trans (Nat.zero_add _).symm)).trans
      (congrArg (fun z => z + part X0 X2 X1 t y) (ld_prev _ _ x y h0 h1 (h2.trans (Nat.zero_add _).symm)))
  · rw [Tile.dv_head0]
    exact (Block.dv_store (f := 0) (g := 1024) (blk_q H t) (blk_kv H t) (blk_o H t) 0 rfl rfl _ _ _ _ x (y 1) (y 2) h1 h2).trans
      (congrArg (fun z => z + part X0 X2 X1 t y) (ld_prev _ _ x y h0 h1 h2))

/-- Equal indices give equal columns. -/
theorem dq_congr {b b' : Fin 4} {r r' : Fin 2048} {d d' : Fin 1024} (hb : b = b') (hr : r = r') (hd : d = d') :
    ((Model.dq (X0 b r) (X2 b r) (X1 b) d : ℝ) : EReal) = ((Model.dq (X0 b' r') (X2 b' r') (X1 b') d' : ℝ) : EReal) := by
  subst hb hr hd; rfl

theorem dkv_congr {b b' : Fin 4} {r r' : Fin 2048} {i i' : Fin 256} {d d' : Fin 2048} (hb : b = b') (hr : r = r')
    (hi : i = i') (hd : d = d') :
    ((Model.dkv (X0 b r) (X2 b r) (X1 b) i d : ℝ) : EReal) = ((Model.dkv (X0 b' r') (X2 b' r') (X1 b') i' d' : ℝ) : EReal) := by
  subst hb hr hi hd; rfl

/-- The cotangent of the queries, after the run. -/
theorem final3 (H : Args m c X0 X2 X1) (b : Fin 4) (r : Fin 2048) (d : Fin 1024) :
    (dats m 0 c).arrAt 3 cfg0.N (ix3 b r d) = ((Model.dq (X0 b r) (X2 b r) (X1 b) d : ℝ) : EReal) := by
  suffices h : (dats m 0 c).arrAt 3 cfg0.N
      = fun j : S4x2048x1024.Idx => ((Model.dq (X0 (j 0) (j 1)) (X2 (j 0) (j 1)) (X1 (j 0)) (j 2) : ℝ) : EReal) by
    rw [h]; rfl
  refine (dats m 0 c).arrAt_eq_of_covers 3 _ (by decide +kernel) fun t hf y => ?_
  blk_simp
  rw [after0_3, point3 H t y]
  refine dq_congr (Fin.ext ?_) (Fin.ext ?_) (Fin.ext ?_)
  all_goals (blk_simp [idx t, bat, row] <;> first | omega | (dsimp only; omega))

/-- The cotangent of the memory tokens, after the run. -/
theorem final4 (H : Args m c X0 X2 X1) (b : Fin 4) (i : Fin 256) (d : Fin 2048) :
    (dats m 0 c).arrAt 4 cfg0.N (ix3 b i d)
      = ((∑ r : Fin 2048, Model.dkv (X0 b r) (X2 b r) (X1 b) i d : ℝ) : EReal) := by
  suffices h : (dats m 0 c).arrAt 4 cfg0.N
      = fun j : S4x256x2048.Idx =>
        ((∑ r : Fin 2048, Model.dkv (X0 (j 0) r) (X2 (j 0) r) (X1 (j 0)) (j 1) (j 2) : ℝ) : EReal) by
    rw [h]; rfl
  refine (dats m 0 c).arrAt_eq_of_covers 4 _ (by decide +kernel) fun t hf y => ?_
  blk_simp
  rw [after0_4, Pipeline.eq_sum_fin_of_reset_step_apply_of_flush (fun n h => (outsAt0 m c n h).2) 4 (fun _ => 0)
    (part X0 X2 X1) (fun t h j => point4_first H t h j) (fun t h j => point4_next H t h j) t ((flush0_4 t).mp hf) _, zero_add]
  have h16 := lt16 t
  simp only [part, coe_sum]
  refine Fin.sum_mul_add_congr fun s k hl => ?_
  refine dkv_congr (Fin.ext ?_) (Fin.ext ?_) (Fin.ext ?_) (Fin.ext ?_)
  all_goals (blk_simp [idx t, bat, row] <;> first | omega | (dsimp only; omega))

end Cert.KernelIdeal.Value
-- ==== Proof.RefValue.lean ====
module

public import proofs.«01_k».proof.Proof.Gen.ReferenceIdeal.Read
public import proofs.«01_k».proof.Proof.Gen.ReferenceIdeal.Run
public import proofs.«01_k».proof.Proof.Model

/-! The two results of the reference, over real arguments. -/

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.ReferenceIdeal.Read Proofs.Reals Proofs

variable {x0 : FVec Ideal S4x2048x1024 .bf16} {x1 : FVec Ideal S4x256x2048 .bf16} {x2 : FVec Ideal S4x2048x1024 .bf16}
variable {X0 X2 : Fin 4 → Fin 2048 → Fin 1024 → ℝ} {X1 : Fin 4 → Fin 256 → Fin 2048 → ℝ}

/-- The scaled queries. -/
theorem v5_at (H0 : ∀ b r d, x0 (ix3 b r d) = ((X0 b r d : ℝ) : EReal)) (b : Fin 4) (r : Fin 2048) (h : Fin 4) (d : Fin 256) :
    val_main_v5 (F := Ideal) x0 (ix4 b r h d) = ((Model.hd (X0 b r) h d * (1 / 16) : ℝ) : EReal) := by
  rw [EReal.coe_mul, Model.hd, ← H0]
  pointwise [val_main_v5, val_main_v4, val_main_v3, val_main_v0, val_main_cst]
  rw [sixteenth]
  blk_point

/-- The keys. -/
theorem v8_at (H1 : ∀ b i d, x1 (ix3 b i d) = ((X1 b i d : ℝ) : EReal)) (b : Fin 4) (i : Fin 256) (h : Fin 4) (d : Fin 256) :
    val_main_v8 (F := Ideal) x1 (ix4 b i h d) = ((Model.keys (X1 b) h i d : ℝ) : EReal) := by
  rw [Model.keys, ← H1]
  pointwise [val_main_v8, val_main_v6, val_main_v1]
  blk_point

/-- The values. -/
theorem v9_at (H1 : ∀ b i d, x1 (ix3 b i d) = ((X1 b i d : ℝ) : EReal)) (b : Fin 4) (i : Fin 256) (h : Fin 4) (d : Fin 256) :
    val_main_v9 (F := Ideal) x1 (ix4 b i h d) = ((Model.vals (X1 b) h i d : ℝ) : EReal) := by
  rw [Model.vals, ← H1]
  pointwise [val_main_v9, val_main_v7, val_main_v1]
  blk_point

/-- The cotangent of the output. -/
theorem v43_at (H2 : ∀ b r d, x2 (ix3 b r d) = ((X2 b r d : ℝ) : EReal)) (b : Fin 4) (h : Fin 4) (d : Fin 256) (r : Fin 2048) :
    val_main_v43 (F := Ideal) x2 (ix4 b h d r) = ((Model.hd (X2 b r) h d : ℝ) : EReal) := by
  rw [Model.hd, ← H2]
  pointwise [val_main_v43, val_main_v42, val_main_v2]
  blk_point

/-- The scores. -/
theorem v10_at (H0 : ∀ b r d, x0 (ix3 b r d) = ((X0 b r d : ℝ) : EReal)) (H1 : ∀ b i d, x1 (ix3 b i d) = ((X1 b i d : ℝ) : EReal))
    (b h : Fin 4) (r : Fin 2048) (i : Fin 256) :
    val_main_v10 (F := Ideal) x0 x1 (ix4 b h r i)
      = ((Row.sc (Model.hd (X0 b r) h) (Model.keys (X1 b) h) i : ℝ) : EReal) := by
  pointwise [val_main_v10]
  simp only [v5_at H0, v8_at H1, ← EReal.coe_mul, ← coe_sum]
  rw [Row.sc, Finset.sum_mul]
  refine congrArg _ (Finset.sum_congr rfl fun d _ => by ring)

/-- A row of `y` less `W`, exponentiated. -/
theorem exp_sub_at (y : FVec Ideal S4x4x2048x256 .f32) (W : FVec Ideal S4x4x2048 .f32) (b h : Fin 4) (r : Fin 2048) (i : Fin 256) :
    Host.exp (subf y (broadcastInDim S4x4x2048x256 ![0, 1, 2, 3] bcast_S4x4x2048x1_S4x4x2048x256_0_1_2_3
      (broadcastInDim S4x4x2048x1 ![0, 1, 2] bcast_S4x4x2048_S4x4x2048x1_0_1_2 W))) (ix4 b h r i)
      = Ideal.exp (y (ix4 b h r i) - W (ix3 b h r)) := by
  pointwise

/-- The maximum of a row. -/
theorem max_at (y : FVec Ideal S4x4x2048x256 .f32) (b h : Fin 4) (r : Fin 2048) :
    Host.reduce FloatOps.maximumf y (constant S_ .f32 0xFF800000#32) reducesTo_S4x4x2048x256_S4x4x2048_d3 h_S_ (ix3 b h r)
      = Finset.fold max (Ideal.ofBits .f32 0xFF800000#32) (fun k => y (ix4 b h r k)) Finset.univ := by
  generalize hz : (constant (F := Ideal) S_ .f32 0xFF800000#32 : FVec Ideal S_ .f32) = z
  pointwise
  rw [← hz]
  rfl

/-- An array bounded below by minus infinity. -/
theorem max_bits_at (w : FVec Ideal S4x4x2048 .f32) (b h : Fin 4) (r : Fin 2048) :
    maximumf (broadcastInDim S4x4x2048 ![] bcast_S_S4x4x2048 (constant S_ .f32 0xFF800000#32)) w (ix3 b h r)
      = max (Ideal.ofBits .f32 0xFF800000#32) (w (ix3 b h r)) := by
  pointwise

/-- The maximum of a row, bounded below by minus infinity. -/
theorem v18_at (b h : Fin 4) (r : Fin 2048) :
    val_main_v18 (F := Ideal) x0 x1 (ix3 b h r)
      = max (Ideal.ofBits .f32 0xFF800000#32)
          (Finset.fold max (Ideal.ofBits .f32 0xFF800000#32) (fun k => val_main_v10 (F := Ideal) x0 x1 (ix4 b h r k)) Finset.univ) :=
  (max_bits_at (val_main_v11 (F := Ideal) x0 x1) b h r).trans
    (congrArg (max (Ideal.ofBits .f32 0xFF800000#32)) (max_at (val_main_v10 (F := Ideal) x0 x1) b h r))

/-- The exponentials of the scores, shifted by some real number. -/
theorem v31_at (H0 : ∀ b r d, x0 (ix3 b r d) = ((X0 b r d : ℝ) : EReal)) (H1 : ∀ b i d, x1 (ix3 b i d) = ((X1 b i d : ℝ) : EReal))
    (b h : Fin 4) (r : Fin 2048) : ∃ M : ℝ, ∀ i : Fin 256,
    val_main_v31 (F := Ideal) x0 x1 (ix4 b h r i)
      = ((Real.exp (Row.sc (Model.hd (X0 b r) h) (Model.keys (X1 b) h) i - M) : ℝ) : EReal) := by
  obtain ⟨M, hM⟩ := fold_max_coe (Finset.univ : Finset (Fin 256)) Finset.univ_nonempty
    (fun i => Row.sc (Model.hd (X0 b r) h) (Model.keys (X1 b) h) i)
  refine ⟨M, fun i => (exp_sub_at (val_main_v10 (F := Ideal) x0 x1) (val_main_v18 (F := Ideal) x0 x1) b h r i).trans ?_⟩
  rw [v18_at]
  simp only [v10_at H0 H1]
  rw [minus_infinity, hM, max_eq_right bot_le, ← EReal.coe_sub, Ideal.exp_coe]

/-- The sum of a row. -/
theorem sum_at (y : FVec Ideal S4x4x2048x256 .f32) (b h : Fin 4) (r : Fin 2048) :
    Host.reduceAdd y (constant S_ .f32 0x00000000#32) reducesTo_S4x4x2048x256_S4x4x2048_d3 h_S_ (ix3 b h r)
      = ∑ i : Fin 256, y (ix4 b h r i) := by
  pointwise

/-- A column broadcast along the row. -/
theorem bcast_at (y : FVec Ideal S4x4x2048 .f32) (b h : Fin 4) (r : Fin 2048) (i : Fin 256) :
    broadcastInDim S4x4x2048x256 ![0, 1, 2, 3] bcast_S4x4x2048x1_S4x4x2048x256_0_1_2_3
      (broadcastInDim S4x4x2048x1 ![0, 1, 2] bcast_S4x4x2048_S4x4x2048x1_0_1_2 y) (ix4 b h r i) = y (ix3 b h r) := by
  pointwise

/-- The quotient by the row's sum. -/
theorem v35_at (b h : Fin 4) (r : Fin 2048) (i : Fin 256) :
    val_main_v35 (F := Ideal) x0 x1 (ix4 b h r i)
      = Ideal.div (val_main_v31 (F := Ideal) x0 x1 (ix4 b h r i)) (∑ k : Fin 256, val_main_v31 (F := Ideal) x0 x1 (ix4 b h r k)) := by
  rw [← sum_at, ← bcast_at (Host.reduceAdd (val_main_v31 (F := Ideal) x0 x1) _ _ _) b h r i]
  rfl

/-- The score's gradient through the quotient rule. -/
theorem grad_at (e g : FVec Ideal S4x4x2048x256 .f32) (Z : FVec Ideal S4x4x2048 .f32) (b h : Fin 4) (r : Fin 2048) (i : Fin 256) :
    mulf (addf
      (Host.divf g (broadcastInDim S4x4x2048x256 ![0, 1, 2, 3] bcast_S4x4x2048x1_S4x4x2048x256_0_1_2_3
        (broadcastInDim S4x4x2048x1 ![0, 1, 2] bcast_S4x4x2048_S4x4x2048x1_0_1_2 Z)))
      (broadcastInDim S4x4x2048x256 ![0, 1, 2] bcast_S4x4x2048_S4x4x2048x256_0_1_2
        (Host.reduceAdd (Host.negf (shapeCast S4x4x2048x1 (Host.reduceAdd (mulf (mulf g
            (broadcastInDim S4x4x2048x256 ![0, 1, 2, 3] bcast_S4x4x2048x1_S4x4x2048x256_0_1_2_3
              (Host.divf (broadcastInDim S4x4x2048x1 ![] bcast_S_S4x4x2048x1 (constant S_ .f32 0x3F800000#32))
                (mulf (broadcastInDim S4x4x2048x1 ![0, 1, 2] bcast_S4x4x2048_S4x4x2048x1_0_1_2 Z)
                  (broadcastInDim S4x4x2048x1 ![0, 1, 2] bcast_S4x4x2048_S4x4x2048x1_0_1_2 Z))))) e)
            (constant S_ .f32 0x00000000#32) reducesTo_S4x4x2048x256_S4x4x2048_d3 h_S_) shapeCasts_S4x4x2048_S4x4x2048x1))
          (constant S_ .f32 0x00000000#32) reducesTo_S4x4x2048x1_S4x4x2048_d3 h_S_))) e (ix4 b h r i)
    = (Ideal.div (g (ix4 b h r i)) (Z (ix3 b h r))
        + -(∑ k : Fin 256, g (ix4 b h r k) * Ideal.div (Ideal.ofBits .f32 0x3F800000#32) (Z (ix3 b h r) * Z (ix3 b h r)) * e (ix4 b h r k)))
      * e (ix4 b h r i) := by
  pointwise
  rw [Fin.sum_univ_one]

/-- The attention weights. -/
theorem weight_at (H0 : ∀ b r d, x0 (ix3 b r d) = ((X0 b r d : ℝ) : EReal)) (H1 : ∀ b i d, x1 (ix3 b i d) = ((X1 b i d : ℝ) : EReal))
    (b h : Fin 4) (r : Fin 2048) (i : Fin 256) :
    val_main_v35 (F := Ideal) x0 x1 (ix4 b h r i)
      = ((Row.pr (Model.hd (X0 b r) h) (Model.keys (X1 b) h) i : ℝ) : EReal) := by
  obtain ⟨M, hM⟩ := v31_at H0 H1 b h r
  rw [v35_at]
  simp only [hM, ← coe_sum]
  rw [div_coe_coe _ (Row.sumExp_pos _).ne', Row.softmax_shift]
  rfl

/-- The cotangent of the attention weights. -/
theorem v44_at (H1 : ∀ b i d, x1 (ix3 b i d) = ((X1 b i d : ℝ) : EReal))
    (H2 : ∀ b r d, x2 (ix3 b r d) = ((X2 b r d : ℝ) : EReal)) (b h : Fin 4) (r : Fin 2048) (i : Fin 256) :
    val_main_v44 (F := Ideal) x1 x2 (ix4 b h r i)
      = ((Row.dp (Model.vals (X1 b) h) (Model.hd (X2 b r) h) i : ℝ) : EReal) := by
  pointwise [val_main_v44]
  simp only [v43_at H2, v9_at H1, ← EReal.coe_mul, ← coe_sum]
  rfl

/-- The cotangent of the scores. -/
theorem v58_at (H0 : ∀ b r d, x0 (ix3 b r d) = ((X0 b r d : ℝ) : EReal)) (H1 : ∀ b i d, x1 (ix3 b i d) = ((X1 b i d : ℝ) : EReal))
    (H2 : ∀ b r d, x2 (ix3 b r d) = ((X2 b r d : ℝ) : EReal)) (b h : Fin 4) (r : Fin 2048) (i : Fin 256) :
    val_main_v58 (F := Ideal) x0 x1 x2 (ix4 b h r i) = ((Model.ds (X0 b r) (X2 b r) (X1 b) h i : ℝ) : EReal) := by
  obtain ⟨M, hM⟩ := v31_at H0 H1 b h r
  refine (grad_at (val_main_v31 (F := Ideal) x0 x1) (val_main_v44 (F := Ideal) x1 x2) (val_main_v32 (F := Ideal) x0 x1) b h r i).trans ?_
  rw [show val_main_v32 (F := Ideal) x0 x1 (ix3 b h r) = _ from sum_at (val_main_v31 (F := Ideal) x0 x1) b h r]
  simp only [hM, v44_at H1 H2, ← coe_sum, one_bits]
  set sc := Row.sc (Model.hd (X0 b r) h) (Model.keys (X1 b) h) with hsc
  have hZ : ∑ k, Real.exp (sc k - M) ≠ 0 := (Row.sumExp_pos _).ne'
  simp only [← EReal.coe_mul, div_coe_coe _ hZ, div_coe_coe _ (mul_ne_zero hZ hZ), ← coe_sum, ← EReal.coe_neg, ← EReal.coe_add]
  rw [add_comm, Row.softmax_grad]
  simp only [Row.softmax_shift]
  rfl

/-- The first result: the cotangent of the queries. -/
theorem result_dq (H0 : ∀ b r d, x0 (ix3 b r d) = ((X0 b r d : ℝ) : EReal)) (H1 : ∀ b i d, x1 (ix3 b i d) = ((X1 b i d : ℝ) : EReal))
    (H2 : ∀ b r d, x2 (ix3 b r d) = ((X2 b r d : ℝ) : EReal)) (b : Fin 4) (r : Fin 2048) (c : Fin 1024) :
    val_main_v69 (F := Ideal) x0 x1 x2 (ix3 b r c) = ((Model.dq (X0 b r) (X2 b r) (X1 b) c : ℝ) : EReal) := by
  have h61 : ∀ (h : Fin 4) (d : Fin 256), val_main_v61 (F := Ideal) x0 x1 x2 (ix4 b h r d)
      = ((∑ i, Model.ds (X0 b r) (X2 b r) (X1 b) h i * Model.keys (X1 b) h i d : ℝ) : EReal) := by
    intro h d
    pointwise [val_main_v61]
    simp only [v58_at H0 H1 H2, v8_at H1, ← EReal.coe_mul, ← coe_sum]
  pointwise [val_main_v69, val_main_v68, val_main_v67, val_main_v66, val_main_v62, val_main_cst_12]
  rw [sixteenth, h61, ← EReal.coe_mul]
  rfl

/-- The cotangent of the keys. -/
theorem v60_at (H0 : ∀ b r d, x0 (ix3 b r d) = ((X0 b r d : ℝ) : EReal)) (H1 : ∀ b i d, x1 (ix3 b i d) = ((X1 b i d : ℝ) : EReal))
    (H2 : ∀ b r d, x2 (ix3 b r d) = ((X2 b r d : ℝ) : EReal)) (b : Fin 4) (i : Fin 256) (h : Fin 4) (d : Fin 256) :
    val_main_v60 (F := Ideal) x0 x1 x2 (ix4 b i h d)
      = ((∑ r, Model.ds (X0 b r) (X2 b r) (X1 b) h i * Model.hd (X0 b r) h d * (1 / 16) : ℝ) : EReal) := by
  pointwise [val_main_v60, val_main_v59]
  simp only [v58_at H0 H1 H2, v5_at H0, ← EReal.coe_mul, ← coe_sum, mul_assoc]

/-- The cotangent of the values. -/
theorem v46_at (H0 : ∀ b r d, x0 (ix3 b r d) = ((X0 b r d : ℝ) : EReal)) (H1 : ∀ b i d, x1 (ix3 b i d) = ((X1 b i d : ℝ) : EReal))
    (H2 : ∀ b r d, x2 (ix3 b r d) = ((X2 b r d : ℝ) : EReal)) (b : Fin 4) (i : Fin 256) (h : Fin 4) (d : Fin 256) :
    val_main_v46 (F := Ideal) x0 x1 x2 (ix4 b i h d)
      = ((∑ r, Row.pr (Model.hd (X0 b r) h) (Model.keys (X1 b) h) i * Model.hd (X2 b r) h d : ℝ) : EReal) := by
  pointwise [val_main_v46, val_main_v45]
  simp only [weight_at H0 H1, v43_at H2, ← EReal.coe_mul, ← coe_sum, mul_comm]

/-- The second result: the cotangent of the memory tokens. -/
theorem result_dkv (H0 : ∀ b r d, x0 (ix3 b r d) = ((X0 b r d : ℝ) : EReal)) (H1 : ∀ b i d, x1 (ix3 b i d) = ((X1 b i d : ℝ) : EReal))
    (H2 : ∀ b r d, x2 (ix3 b r d) = ((X2 b r d : ℝ) : EReal)) (b : Fin 4) (i : Fin 256) (c : Fin 2048) :
    val_main_v65 (F := Ideal) x0 x1 x2 (ix3 b i c)
      = ((∑ r, Model.dkv (X0 b r) (X2 b r) (X1 b) i c : ℝ) : EReal) := by
  pointwise [val_main_v65, val_main_v64, val_main_v63]
  by_cases h : (c : ℕ) < 1024
  · rw [dif_pos h, v60_at H0 H1 H2]
    simp only [Model.dkv_at_keys ⟨c / 256, by omega⟩ i ⟨c % 256, by omega⟩ c (by dsimp only; omega)]
    rfl
  · rw [dif_neg h, v46_at H0 H1 H2]
    simp only [Model.dkv_at_vals ⟨(c - 1024) / 256, by omega⟩ i ⟨(c - 1024) % 256, by omega⟩ c (by dsimp only; omega)]

end Cert.ReferenceIdeal.Value
-- ==== Proof.Pair.lean ====
module

public import proofs.«01_k».proof.Proof.Finite
public import proofs.«01_k».proof.Proof.KernelValue
public import proofs.«01_k».proof.Proof.RefValue
public import proofs.«01_k».proof.Proof.Gen.Pre_finite
public import proofs.«01_k».proof.Defs

/-! The gradient of the cross-attention, kernel and reference together: under the precondition the arguments are arrays of
real numbers, and on such arguments both results of the two programs agree. -/

@[expose] public section

set_option maxRecDepth 16384

noncomputable section

open Idealize.ShloMosaic Idealize.ShloMosaic.TcCoe Idealize.SL.Sem

namespace Cert.Pair

open Cert.KernelIdeal Cert.KernelIdeal.Gen

variable (m : (ℓ : Loc nD τ sig) → Buf (Elt Ideal) ℓ) (c : Dev nD)

/-- The arguments are real under the precondition. -/
theorem args (h : Cert.Pre_KernelIdeal_finite m) :
    ∃ (X0 X2 : Fin 4 → Fin 2048 → Fin 1024 → ℝ) (X1 : Fin 4 → Fin 256 → Fin 2048 → ℝ), Cert.KernelIdeal.Value.Args m c X0 X2 X1 := by
  obtain ⟨h0, h1, h2⟩ := h c
  have e0 := Proofs.Finite.real_of_cmp _ _ h0
  have e1 := Proofs.Finite.real_of_cmp _ _ h1
  have e2 := Proofs.Finite.real_of_cmp _ _ h2
  exact ⟨fun b r d => (e0 (ix3 b r d)).choose, fun b r d => (e2 (ix3 b r d)).choose, fun b r d => (e1 (ix3 b r d)).choose,
    fun b r d => (e0 (ix3 b r d)).choose_spec, fun b r d => (e1 (ix3 b r d)).choose_spec, fun b r d => (e2 (ix3 b r d)).choose_spec⟩

/-- The first results agree. -/
theorem dq (h : Cert.Pre_KernelIdeal_finite m) : Cert.ReferenceIdeal.Read.val_main_v69 (F := Ideal)
    (m ((c : Thread nD τ).loc main_arg0)) (m ((c : Thread nD τ).loc main_arg1)) (m ((c : Thread nD τ).loc main_arg2))
      = (dats m 0 c).arrAt 3 cfg0.N := by
  obtain ⟨X0, X2, X1, H⟩ := args m c h
  funext j
  obtain ⟨b, r, d, rfl⟩ : ∃ b r d, j = ix3 b r d := ⟨_, _, _, eq_ix3 j⟩
  exact (Cert.ReferenceIdeal.Value.result_dq H.1 H.2.1 H.2.2 b r d).trans (Cert.KernelIdeal.Value.final3 H b r d).symm

/-- The second results agree. -/
theorem dkv (h : Cert.Pre_KernelIdeal_finite m) : Cert.ReferenceIdeal.Read.val_main_v65 (F := Ideal)
    (m ((c : Thread nD τ).loc main_arg0)) (m ((c : Thread nD τ).loc main_arg1)) (m ((c : Thread nD τ).loc main_arg2))
      = (dats m 0 c).arrAt 4 cfg0.N := by
  obtain ⟨X0, X2, X1, H⟩ := args m c h
  funext j
  obtain ⟨b, r, d, rfl⟩ : ∃ b r d, j = ix3 b r d := ⟨_, _, _, eq_ix3 j⟩
  exact (Cert.ReferenceIdeal.Value.result_dkv H.1 H.2.1 H.2.2 b r d).trans (Cert.KernelIdeal.Value.final4 H b r d).symm

end Cert.Pair

end
-- ==== Proof.Gated.lean ====
module

public import proofs.«01_k».proof.Proof.Reals

/-! The gradient of a gated linear unit: for the product of `silu g` and `u`, at the cotangent `d` of that product. -/

@[expose] public section

noncomputable section

open Idealize.ShloMosaic

namespace Proofs.Gated

open Proofs.Reals

/-- The logistic function. -/
def sig (g : ℝ) : ℝ := 1 / (1 + Real.exp (-g))

theorem sig_coe (g : ℝ) :
    Ideal.div ((1 : ℝ) : EReal) (((1 : ℝ) : EReal) + ((Real.exp (-g) : ℝ) : EReal)) = ((sig g : ℝ) : EReal) := by
  rw [← EReal.coe_add, div_coe_coe _ (by positivity)]
  rfl

/-- The cotangent of the gate. -/
def dgate (d g u : ℝ) : ℝ := d * u * (sig g * (1 + g * (1 - sig g)))

/-- The cotangent of the other factor. -/
def dup (d g : ℝ) : ℝ := d * (g * sig g)

/-- The cotangent of the gate by the product rule. -/
theorem dgate_eq (d g u : ℝ) : d * u * sig g + g * (d * u) * (sig g * (1 - sig g)) = dgate d g u := by
  unfold dgate; ring

/-- The product of a row of cotangents and a row of the weight. -/
def back (x : Fin 1024 → ℝ) (w : Fin 1024 → ℝ) : ℝ := ∑ k, x k * w k

/-- Both cotangents, over a row of cotangents of the output, a row of the weight, and the two factors. -/
def grad (x w : Fin 1024 → ℝ) (gu : Fin 2 → ℝ) (b : Fin 2) : ℝ :=
  if b = 0 then dgate (back x w) (gu 0) (gu 1) else dup (back x w) (gu 0)

theorem grad_zero (x w : Fin 1024 → ℝ) (gu : Fin 2 → ℝ) : grad x w gu 0 = dgate (back x w) (gu 0) (gu 1) := if_pos rfl

theorem grad_one (x w : Fin 1024 → ℝ) (gu : Fin 2 → ℝ) : grad x w gu 1 = dup (back x w) (gu 0) := if_neg (by decide)

end Proofs.Gated

end
-- ==== Proof.GatedKernel.lean ====
module

public import proofs.«01_k».proof.Proof.Gen.Kernel2Ideal.Value
public import proofs.«01_k».proof.Proof.Gated
public import Idealize.ShloMosaic.Lib.Pipeline.ReadBack

/-! The gradient of the gated linear unit, as the kernel computes it over real arguments. -/

@[expose] public section

set_option maxRecDepth 16384

noncomputable section

open Idealize.ShloMosaic Idealize.ShloMosaic.TcCoe Idealize.SL.Sem

namespace Cert.Kernel2Ideal.Value

open Cert.Kernel2Ideal Cert.Kernel2Ideal.Gen Proofs.Reals Proofs

/-! ## One block -/

section block

variable {x0 : Vec Ideal S512x1024 .f32} {x1 : Vec Ideal S1x1408x1024 .bf16} {x2 : Vec Ideal S2x512x1408 .bf16}
variable {g u : Vec Ideal S1x512x1408 .bf16}
variable {X : Fin 512 → Fin 1024 → ℝ} {W : Fin 1408 → Fin 1024 → ℝ} {GU : Fin 512 → Fin 1408 → Fin 2 → ℝ}

/-- The cotangent of the product of the two factors. -/
theorem back_at (h0 : ∀ r k, x0 (ix2 r k) = ↑(X r k)) (h1 : ∀ j k, x1 (ix3 0 j k) = ↑(W j k)) (r : Fin 512) (j : Fin 1408) :
    k0_pay2 (F := Ideal) x0 x1 (ix2 r j) = ↑(Gated.back (X r) (W j)) := by
  pointwise [k0_pay2]
  simp only [h0, h1, ← EReal.coe_mul, ← coe_sum]
  rfl

/-- The gate. -/
theorem gate_at (hg : ∀ r j, g (ix3 0 r j) = ↑(GU r j 0)) (r : Fin 512) (j : Fin 1408) :
    k0_pay3 (F := Ideal) g (ix2 r j) = ↑(GU r j 0) := by
  pointwise [k0_pay3]
  exact hg r j

/-- The logistic function of the gate. -/
theorem sig_at (hg : ∀ r j, g (ix3 0 r j) = ↑(GU r j 0)) (r : Fin 512) (j : Fin 1408) :
    k0_pay4 (F := Ideal) g (ix2 r j) = ↑(Gated.sig (GU r j 0)) := by
  pointwise [k0_pay4]
  rw [gate_at hg, zero_sub, ← EReal.coe_neg, Ideal.exp_coe, ← EReal.coe_one, Gated.sig_coe]

/-- The cotangent of the gate. -/
theorem dgate_at (h0 : ∀ r k, x0 (ix2 r k) = ↑(X r k)) (h1 : ∀ j k, x1 (ix3 0 j k) = ↑(W j k))
    (hg : ∀ r j, g (ix3 0 r j) = ↑(GU r j 0)) (hu : ∀ r j, u (ix3 0 r j) = ↑(GU r j 1)) (r : Fin 512) (j : Fin 1408) :
    k0_pay5 (F := Ideal) x0 x1 g u (ix3 0 r j) = ↑(Gated.grad (X r) (W j) (GU r j) 0) := by
  rw [Gated.grad_zero]
  pointwise [k0_pay5]
  simp only [gate_at hg, sig_at hg, back_at h0 h1, hu, ← EReal.coe_one, ← EReal.coe_mul, ← EReal.coe_sub, ← EReal.coe_add]
  rfl

/-- The cotangent of the other factor. -/
theorem dup_at (h0 : ∀ r k, x0 (ix2 r k) = ↑(X r k)) (h1 : ∀ j k, x1 (ix3 0 j k) = ↑(W j k))
    (hg : ∀ r j, g (ix3 0 r j) = ↑(GU r j 0)) (r : Fin 512) (j : Fin 1408) :
    k0_pay1 (F := Ideal) (k0_pay6 (F := Ideal) x0 x1 g) (ix3 0 r j) = ↑(Gated.grad (X r) (W j) (GU r j) 1) := by
  rw [Gated.grad_one]
  pointwise [k0_pay1, k0_pay6]
  simp only [gate_at hg, sig_at hg, back_at h0 h1, ← EReal.coe_mul]
  rfl

/-- A load of one of the two factors of a block. -/
theorem ld_factor (h2 : ∀ b r j, x2 (ix3 b r j) = ↑(GU r j b)) {o : ℕ} (b : Fin 2) (e : (b : ℕ) = o)
    (inb : ∀ a, (![o, 0, 0] : Fin 3 → ℕ) a + (![1, 512, 1408] : Fin 3 → ℕ) a ≤ S2x512x1408.size a) (r : Fin 512) (j : Fin 1408) :
    View.ld x2 (Rect.unit (s := S2x512x1408) ![o, 0, 0] ![1, 512, 1408] inb) (ix3 0 r j) = ↑(GU r j b) := by
  subst e
  refine (View.ld_unit_apply_of x2 _ _ inb _ (ix3 b r j) fun a => ?_).trans (h2 b r j)
  match a with
  | 0 => rfl
  | 1 => exact (Nat.zero_add _).symm
  | 2 => exact (Nat.zero_add _).symm

/-- What a point stores. -/
theorem out_at (H0 : ∀ r k, x0 (ix2 r k) = ↑(X r k)) (H1 : ∀ j k, x1 (ix3 0 j k) = ↑(W j k))
    (H2 : ∀ b r j, x2 (ix3 b r j) = ↑(GU r j b)) (y : S2x512x1408.Idx) :
    out0_3 (F := Ideal) x0 x1 x2 y = ↑(Gated.grad (X (y 1)) (W (y 2)) (GU (y 1) (y 2)) (y 0)) := by
  unfold out0_3
  rw [View.ld_unit_lit (h := by decide), View.ld_unit_lit (h := by decide)]
  canon_tiles x h
  all_goals
    have hx : x = ix3 0 (y 1) (y 2) := by blk_ext
    have h3 : (x 0).val < 1 := (x 0).isLt
    rw [hx]
  · have hy : y 0 = (1 : Fin 2) := Fin.ext (show (y 0).val = 1 by omega)
    rw [hy]
    exact dup_at H0 H1 (ld_factor H2 0 rfl _) _ _
  · have hy : y 0 = (0 : Fin 2) := Fin.ext (show (y 0).val = 0 by omega)
    rw [hy]
    exact dgate_at H0 H1 (ld_factor H2 0 rfl _) (ld_factor H2 1 rfl _) _ _

end block

/-! ## The array -/

variable (m : (ℓ : Loc nD τ sig) → Buf (Elt Ideal) ℓ) (c : Dev nD)
variable (X : Fin 8192 → Fin 1024 → ℝ) (W : Fin 2816 → Fin 1024 → ℝ) (GU : Fin 8192 → Fin 2816 → Fin 2 → ℝ)

/-- The arguments of the kernel are the real arrays `X`, `W` and `GU`. -/
def Args : Prop :=
  (∀ r k, m ((c : Thread nD τ).loc main_arg0) (ix2 r k) = ((X r k : ℝ) : EReal))
  ∧ (∀ j k, m ((c : Thread nD τ).loc main_arg1) (ix3 0 j k) = ((W j k : ℝ) : EReal))
  ∧ (∀ b r j, m ((c : Thread nD τ).loc main_arg2) (ix3 b r j) = ((GU r j b : ℝ) : EReal))

variable {m c X W GU}

/-- The block indices of the windows at each point of the grid. -/
theorem idx : ∀ t : Fin cfg0.N, win0_0.index t = ![t.val / 2, 0] ∧ win0_1.index t = ![0, t.val % 2, 0]
    ∧ win0_2.index t = ![0, t.val / 2, t.val % 2] ∧ win0_3.index t = ![0, t.val / 2, t.val % 2] :=
  (by decide +kernel : ∀ t : Fin grid0.N, _)

/-- The grid has thirty-two points. -/
theorem lt32 (t : Fin cfg0.N) : t.val < 32 := lt_of_lt_of_eq t.isLt N_0

/-- The row of the array at row `r` of a point's block. -/
def row (t : Fin cfg0.N) (r : Fin 512) : Fin 8192 := ⟨t.val / 2 * 512 + r, by have := lt32 t; omega⟩

/-- The column of the array at column `j` of a point's block. -/
def col (t : Fin cfg0.N) (j : Fin 1408) : Fin 2816 := ⟨t.val % 2 * 1408 + j, by omega⟩

theorem blk0 (H : Args m c X W GU) (t : Fin cfg0.N) (r : Fin 512) (k : Fin 1024) :
    iblk m c 0 t (ix2 r k) = ((X (row t r) k : ℝ) : EReal) := by
  rw [← H.1]; blk_ext [iblk, V, idx t, row]

theorem blk1 (H : Args m c X W GU) (t : Fin cfg0.N) (j : Fin 1408) (k : Fin 1024) :
    iblk m c 1 t (ix3 0 j k) = ((W (col t j) k : ℝ) : EReal) := by
  rw [← H.2.1]; blk_ext [iblk, V, idx t, col]

theorem blk2 (H : Args m c X W GU) (t : Fin cfg0.N) (b : Fin 2) (r : Fin 512) (j : Fin 1408) :
    iblk m c 2 t (ix3 b r j) = ((GU (row t r) (col t j) b : ℝ) : EReal) := by
  rw [← H.2.2]; blk_ext [iblk, V, idx t, row, col]

theorem grad_congr {b b' : Fin 2} {r r' : Fin 8192} {j j' : Fin 2816} (hb : b = b') (hr : r = r') (hj : j = j') :
    ((Gated.grad (X r) (W j) (GU r j) b : ℝ) : EReal) = ((Gated.grad (X r') (W j') (GU r' j') b' : ℝ) : EReal) := by
  subst hb hr hj; rfl

/-- The kernel's result, after the run. -/
theorem final (H : Args m c X W GU) (b : Fin 2) (r : Fin 8192) (j : Fin 2816) :
    (dats m 0 c).arrAt 3 cfg0.N (ix3 b r j) = ((Gated.grad (X r) (W j) (GU r j) b : ℝ) : EReal) := by
  suffices h : (dats m 0 c).arrAt 3 cfg0.N
      = fun i : S2x8192x2816.Idx => ((Gated.grad (X (i 1)) (W (i 2)) (GU (i 1) (i 2)) (i 0) : ℝ) : EReal) by
    rw [h]; rfl
  refine (dats m 0 c).arrAt_eq_of_covers 3 _ (by decide +kernel) fun t hf y => ?_
  blk_simp
  rw [after0_3, out_at (blk0 H t) (blk1 H t) (blk2 H t)]
  refine grad_congr (Fin.ext ?_) (Fin.ext ?_) (Fin.ext ?_)
  all_goals (blk_simp [idx t, row, col] <;> first | omega | (dsimp only; omega))

end Cert.Kernel2Ideal.Value

end
-- ==== Proof.GatedRef.lean ====
module

public import proofs.«01_k».proof.Proof.Gen.Reference2Ideal.Read
public import proofs.«01_k».proof.Proof.Gen.Reference2Ideal.Run
public import proofs.«01_k».proof.Proof.Gated
public import Idealize.ShloMosaic.Lib.Pipeline.ValueKit
public import Idealize.ShloMosaic.Lib.KernelVsHost

/-! The gradient of the gated linear unit, as the reference computes it over real arguments. -/

@[expose] public section

set_option maxRecDepth 16384

noncomputable section

open Idealize.ShloMosaic Idealize.ShloMosaic.TcCoe Idealize.SL.Sem

namespace Cert.Reference2Ideal.Value

open Cert.Reference2Ideal Cert.Reference2Ideal.Gen Cert.Reference2Ideal.Read Proofs.Reals Proofs

variable {x0 : FVec Ideal S8192x1024 .f32} {x1 : FVec Ideal S1x2816x1024 .bf16} {x2 : FVec Ideal S2x8192x2816 .bf16}
variable {X : Fin 8192 → Fin 1024 → ℝ} {W : Fin 2816 → Fin 1024 → ℝ} {GU : Fin 8192 → Fin 2816 → Fin 2 → ℝ}

/-- The gate. -/
theorem v4_at (h2 : ∀ b r j, x2 (ix3 b r j) = ((GU r j b : ℝ) : EReal)) (r : Fin 8192) (j : Fin 2816) :
    val_main_v4 (F := Ideal) x2 (ix2 r j) = ((GU r j 0 : ℝ) : EReal) := by
  rw [← h2]
  pointwise [val_main_v4, val_main_v3, val_main_v2]

/-- The other factor. -/
theorem v6_at (h2 : ∀ b r j, x2 (ix3 b r j) = ((GU r j b : ℝ) : EReal)) (r : Fin 8192) (j : Fin 2816) :
    val_main_v6 (F := Ideal) x2 (ix2 r j) = ((GU r j 1 : ℝ) : EReal) := by
  rw [← h2]
  pointwise [val_main_v6, val_main_v5, val_main_v2]

/-- The logistic function of the gate. -/
theorem sig_at (h2 : ∀ b r j, x2 (ix3 b r j) = ((GU r j b : ℝ) : EReal)) (r : Fin 8192) (j : Fin 2816) :
    val_main_v7_2 (F := Ideal) x2 (ix2 r j) = ((Gated.sig (GU r j 0) : ℝ) : EReal) := by
  pointwise [val_main_v7_2, val_main_call0_v4, val_main_call0_cst_0, val_main_call0_v3, val_main_call0_v2, val_main_call0_cst,
    val_main_call0_v1, val_main_call0_v0]
  rw [v4_at h2, ← EReal.coe_neg, Ideal.exp_coe, ← EReal.coe_one, Gated.sig_coe]

/-- The cotangent of the product of the two factors. -/
theorem v10_at (h0 : ∀ r k, x0 (ix2 r k) = ((X r k : ℝ) : EReal)) (h1 : ∀ j k, x1 (ix3 0 j k) = ((W j k : ℝ) : EReal))
    (r : Fin 8192) (j : Fin 2816) :
    val_main_v10 (F := Ideal) x0 x1 (ix2 r j) = ((Gated.back (X r) (W j) : ℝ) : EReal) := by
  pointwise [val_main_v10, val_main_v1, val_main_v0]
  simp only [h0, h1, ← EReal.coe_mul, ← coe_sum]
  rfl

/-- The cotangent of the other factor. -/
theorem v11_at (h0 : ∀ r k, x0 (ix2 r k) = ((X r k : ℝ) : EReal)) (h1 : ∀ j k, x1 (ix3 0 j k) = ((W j k : ℝ) : EReal))
    (h2 : ∀ b r j, x2 (ix3 b r j) = ((GU r j b : ℝ) : EReal)) (r : Fin 8192) (j : Fin 2816) :
    val_main_v11 (F := Ideal) x0 x1 x2 (ix2 r j) = ((Gated.grad (X r) (W j) (GU r j) 1 : ℝ) : EReal) := by
  rw [Gated.grad_one, Gated.dup, mul_comm]
  pointwise [val_main_v11, val_main_v7_0]
  rw [v4_at h2, sig_at h2, v10_at h0 h1, ← EReal.coe_mul, ← EReal.coe_mul]

/-- The cotangent of the gate. -/
theorem v13_at (h0 : ∀ r k, x0 (ix2 r k) = ((X r k : ℝ) : EReal)) (h1 : ∀ j k, x1 (ix3 0 j k) = ((W j k : ℝ) : EReal))
    (h2 : ∀ b r j, x2 (ix3 b r j) = ((GU r j b : ℝ) : EReal)) (r : Fin 8192) (j : Fin 2816) :
    val_main_v13 (F := Ideal) x0 x1 x2 (ix2 r j) = ((Gated.grad (X r) (W j) (GU r j) 0 : ℝ) : EReal) := by
  rw [Gated.grad_zero, ← Gated.dgate_eq]
  pointwise [val_main_v13, val_main_call1_v1, val_main_call1_v2, val_main_call1_v0, val_main_v12, val_main_v7_1,
    val_main_call0_v7, val_main_call0_v6, val_main_call0_cst_1]
  simp only [v4_at h2, v6_at h2, sig_at h2, v10_at h0 h1, ← EReal.coe_one, ← EReal.coe_mul, ← EReal.coe_sub, ← EReal.coe_add]

/-- The cotangent of the other factor is padded in front, and that of the gate behind. -/
theorem v15_zero (r : Fin 8192) (j : Fin 2816) : val_main_v15 (F := Ideal) x0 x1 x2 (ix3 0 r j) = 0 := by
  unfold val_main_v15
  rw [pad_apply_of_not_inside _ _ _ _ _ _ _ _ (0 : Fin 3) (fun h => absurd h.1 (show ¬ 1 ≤ 0 by decide))]
  pointwise [val_main_cst]

theorem v15_one (r : Fin 8192) (j : Fin 2816) :
    val_main_v15 (F := Ideal) x0 x1 x2 (ix3 1 r j) = val_main_v11 (F := Ideal) x0 x1 x2 (ix2 r j) := by
  unfold val_main_v15
  rw [pad_apply_of_inside _ _ _ _ _ _ _ _ (ix3 0 r j) fun a => match a with
    | 0 => rfl
    | 1 => (by blk_simp; rfl)
    | 2 => (by blk_simp; rfl)]
  pointwise [val_main_v14]

theorem v17_zero (r : Fin 8192) (j : Fin 2816) :
    val_main_v17 (F := Ideal) x0 x1 x2 (ix3 0 r j) = val_main_v13 (F := Ideal) x0 x1 x2 (ix2 r j) := by
  unfold val_main_v17
  rw [pad_apply_of_inside _ _ _ _ _ _ _ _ (ix3 0 r j) fun a => match a with
    | 0 => rfl
    | 1 => (by blk_simp; rfl)
    | 2 => (by blk_simp; rfl)]
  pointwise [val_main_v16]

theorem v17_one (r : Fin 8192) (j : Fin 2816) : val_main_v17 (F := Ideal) x0 x1 x2 (ix3 1 r j) = 0 := by
  unfold val_main_v17
  rw [pad_apply_of_not_inside _ _ _ _ _ _ _ _ (0 : Fin 3) (fun h => absurd h.2.2 (show ¬ (1 - 0) / (0 + 1) < 1 by decide))]
  pointwise [val_main_cst_0]

/-- The reference's result. -/
theorem result (h0 : ∀ r k, x0 (ix2 r k) = ((X r k : ℝ) : EReal)) (h1 : ∀ j k, x1 (ix3 0 j k) = ((W j k : ℝ) : EReal))
    (h2 : ∀ b r j, x2 (ix3 b r j) = ((GU r j b : ℝ) : EReal)) (b : Fin 2) (r : Fin 8192) (j : Fin 2816) :
    val_main_v19 (F := Ideal) x0 x1 x2 (ix3 b r j) = ((Gated.grad (X r) (W j) (GU r j) b : ℝ) : EReal) := by
  pointwise [val_main_v19, val_main_v18]
  match b with
  | 0 => rw [v15_zero, v17_zero, v13_at h0 h1 h2, zero_add]
  | 1 => rw [v15_one, v17_one, v11_at h0 h1 h2, add_zero]

end Cert.Reference2Ideal.Value

end
-- ==== Proof.GatedPair.lean ====
module

public import proofs.«01_k».proof.Proof.Finite
public import proofs.«01_k».proof.Proof.GatedKernel
public import proofs.«01_k».proof.Proof.GatedRef
public import proofs.«01_k».proof.Proof.Gen.Pre_finite2
public import proofs.«01_k».proof.Defs

/-! The gradient of the gated linear unit, kernel and reference together: under the precondition the arguments are arrays
of real numbers, and on such arguments the two programs agree. -/

@[expose] public section

set_option maxRecDepth 16384

noncomputable section

open Idealize.ShloMosaic Idealize.ShloMosaic.TcCoe Idealize.SL.Sem

namespace Cert.GatedPair

open Cert.Kernel2Ideal Cert.Kernel2Ideal.Gen

variable (m : (ℓ : Loc nD τ sig) → Buf (Elt Ideal) ℓ) (c : Dev nD)

/-- The arguments are real under the precondition. -/
theorem args (h : Cert.Pre_Kernel2Ideal_finite2 m) :
    ∃ (X : Fin 8192 → Fin 1024 → ℝ) (W : Fin 2816 → Fin 1024 → ℝ) (GU : Fin 8192 → Fin 2816 → Fin 2 → ℝ),
      Cert.Kernel2Ideal.Value.Args m c X W GU := by
  obtain ⟨h0, h1, h2⟩ := h c
  have e0 := Proofs.Finite.real_of_cmp _ _ h0
  have e1 := Proofs.Finite.real_of_cmp _ _ h1
  have e2 := Proofs.Finite.real_of_cmp _ _ h2
  exact ⟨fun r k => (e0 (ix2 r k)).choose, fun j k => (e1 (ix3 0 j k)).choose, fun r j b => (e2 (ix3 b r j)).choose,
    fun r k => (e0 (ix2 r k)).choose_spec, fun j k => (e1 (ix3 0 j k)).choose_spec, fun b r j => (e2 (ix3 b r j)).choose_spec⟩

/-- The results agree. -/
theorem dgu (h : Cert.Pre_Kernel2Ideal_finite2 m) : Cert.Reference2Ideal.Read.val_main_v19 (F := Ideal)
    (m ((c : Thread nD τ).loc main_arg0)) (m ((c : Thread nD τ).loc main_arg1)) (m ((c : Thread nD τ).loc main_arg2))
      = (dats m 0 c).arrAt 3 cfg0.N := by
  obtain ⟨X, W, GU, H⟩ := args m c h
  funext i
  obtain ⟨b, r, j, rfl⟩ : ∃ b r j, i = ix3 b r j := ⟨_, _, _, eq_ix3 i⟩
  exact (Cert.Reference2Ideal.Value.result H.1 H.2.1 H.2.2 b r j).trans (Cert.Kernel2Ideal.Value.final H b r j).symm

end Cert.GatedPair

end
-- ==== Proof.WeightGate.lean ====
module

public import proofs.«01_k».proof.Proof.Gen.Kernel4Ideal.Value
public import proofs.«01_k».proof.Proof.Gen.Reference4Ideal.Read
public import Idealize.ShloMosaic.Lib.Pipeline.ValueKit
public import Idealize.ShloMosaic.Lib.Pipeline.ReadBack

/-! The gradient of the gate's weight of the feed-forward block: the product of the transposed normed input and the
gate's cotangent, accumulated over four blocks of 2048 rows. -/

@[expose] public section

set_option maxRecDepth 16384

noncomputable section

open Idealize.ShloMosaic Idealize.ShloMosaic.TcCoe Idealize.SL.Sem

namespace Cert.Kernel4Ideal.Value

open Cert.Kernel4Ideal Cert.Kernel4Ideal.Gen

variable (m : (ℓ : Loc nD τ sig) → Buf (Elt Ideal) ℓ) (c : Dev nD)

/-- The block indices of the windows at each point of the grid. -/
theorem idx : ∀ t : Fin cfg0.N, win0_0.index t = ![t.val % 4, 0] ∧ win0_1.index t = ![0, t.val % 4, t.val / 4]
    ∧ win0_2.index t = ![0, t.val / 4] :=
  (by decide +kernel : ∀ t : Fin grid0.N, _)

/-- What a block of rows contributes. -/
def part (x0 : Vec Ideal S2048x1024 .bf16) (x1 : Vec Ideal S1x2048x1408 .bf16) (y : S1024x1408.Idx) : EReal :=
  ∑ k : Fin 2048, x1 (ix3 0 k (y 1)) * x0 (ix2 k (y 0))

theorem product (x0 : Vec Ideal S2048x1024 .bf16) (x1 : Vec Ideal S1x2048x1408 .bf16) (y : S1024x1408.Idx) :
    k0_pay1 (F := Ideal) x0 x1 y = part x0 x1 y := by
  unfold part
  pointwise [k0_pay1]
  exact Fin.sum_fin_congr fun k => mul_comm _ _

theorem store (x0 : Vec Ideal S2048x1024 .bf16) (x1 : Vec Ideal S1x2048x1408 .bf16) (y : S1024x1408.Idx) :
    k0_pay2 (F := Ideal) x0 x1 y = 0 + part x0 x1 y := by
  rw [zero_add, ← product]
  pointwise [k0_pay2]

theorem add (x0 : Vec Ideal S2048x1024 .bf16) (x1 : Vec Ideal S1x2048x1408 .bf16) (p : Vec Ideal S1024x1408 .f32) (y : S1024x1408.Idx) :
    k0_pay3 (F := Ideal) x0 x1 p y = p y + part x0 x1 y := by
  rw [← product]
  pointwise [k0_pay3]

theorem cast (p : Vec Ideal S1024x1408 .f32) (y : S1024x1408.Idx) : k0_pay4 (F := Ideal) p y = p y := by
  pointwise [k0_pay4]

/-- At the first block of rows the scratch is that block's product. -/
theorem first (t : Fin cfg0.N) (h : t.val % 4 = 0) (y : S1024x1408.Idx) :
    (outsAt0 m c t.val t.isLt).2 y = 0 + part (iblk m c 0 t) (iblk m c 1 t) y := by
  rw [outsAt0_A m c t h (by omega) (by omega)]
  frame_out
  exact store _ _ y

/-- At the others it is what it was and the block's product. -/
theorem next (t : Fin cfg0.N) (h : ¬ t.val % 4 = 0) (y : S1024x1408.Idx) :
    (outsAt0 m c t.val t.isLt).2 y = (outsAt0 m c (t.val - 1) (Nat.lt_of_le_of_lt (Nat.sub_le _ _) t.isLt)).2 y
      + part (iblk m c 0 t) (iblk m c 1 t) y := by
  by_cases h3 : t.val % 4 = 3
  · rw [outsAt0_C m c t h (by omega) h3]
    frame_out
    rw [Idealize.ShloMosaic.read_unread_whole]
    exact add _ _ _ y
  · rw [outsAt0_B m c t h (by omega) h3]
    frame_out
    rw [Idealize.ShloMosaic.read_unread_whole]
    exact add _ _ _ y

/-- At the last block of rows the scratch is written out. -/
theorem last (t : Fin cfg0.N) (h : t.val % 4 = 3) (y : S1024x1408.Idx) :
    (outsAt0 m c t.val t.isLt).1 y = (outsAt0 m c t.val t.isLt).2 y := by
  rw [outsAt0_C m c t (by omega) (by omega) h]
  frame_open
  simp (disch := decide) only [↓ View.readCov_skip, ↓ View.readCov_cons_toLoadRect, ↓ View.readCov_fill]
  frame_out
  exact cast _ y

/-- The product, after the run. -/
theorem final : (dats m 0 c).arrAt 2 cfg0.N
    = Cert.Reference4Ideal.Read.val_main_v8 (F := Ideal) (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf),
    Pipeline.eq_sum_fin_of_reset_step_apply_of_flush (fun n h => (outsAt0 m c n h).2) 4 (fun _ => 0) _
    (fun t h j => first m c t h j) (fun t h j => next m c t h j) t ((flush0_2 t).mp hf) _, zero_add]
  rw [Cert.Reference4Ideal.Read.val_main_v8_apply, Cert.Reference4Ideal.Read.val_main_v7_apply]
  refine Eq.trans ?_ (Cert.Reference4Ideal.Read.val_main_v6_apply _ _ _).symm
  simp only [part]
  refine Fin.sum_mul_add_congr fun s k hl => ?_
  refine congrArg₂ (fun a b : EReal => a * b) ?_ ?_
  · rw [Cert.Reference4Ideal.Read.val_main_v3_apply, Cert.Reference4Ideal.Read.val_main_v2_apply,
      Cert.Reference4Ideal.Read.val_main_v1_apply]
    blk_ext [iblk, V, idx t, idx ⟨_, Pipeline.run_point_lt_of_flush t ((flush0_2 t).mp hf) s⟩]
    all_goals
      have e1 : (4 * (t.val / 4) + s.val) / 4 = t.val / 4 := by omega
      have e2 : (4 * (t.val / 4) + s.val) % 4 = s.val := by omega
      have e3 : t.val / 4 < 2 := by omega
      generalize t.val / 4 = b at *
      omega
  · blk_ext [iblk, V, idx t, idx ⟨_, Pipeline.run_point_lt_of_flush t ((flush0_2 t).mp hf) s⟩]

end Cert.Kernel4Ideal.Value

end
-- ==== Proof.WeightDown.lean ====
module

public import proofs.«01_k».proof.Proof.Gen.Kernel5Ideal.Value
public import proofs.«01_k».proof.Proof.Gen.Reference5Ideal.Read
public import Idealize.ShloMosaic.Lib.Pipeline.ValueKit
public import Idealize.ShloMosaic.Lib.Pipeline.ReadBack

/-! The gradient of the second weight of the feed-forward block: the product of the transposed activations and the
cotangent, accumulated over four blocks of 2048 rows. -/

@[expose] public section

set_option maxRecDepth 16384

noncomputable section

open Idealize.ShloMosaic Idealize.ShloMosaic.TcCoe Idealize.SL.Sem

namespace Cert.Kernel5Ideal.Value

open Cert.Kernel5Ideal Cert.Kernel5Ideal.Gen

variable (m : (ℓ : Loc nD τ sig) → Buf (Elt Ideal) ℓ) (c : Dev nD)

/-- The block indices of the windows at each point of the grid. -/
theorem idx : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

/-- What a block of rows contributes. -/
def part (x0 : Vec Ideal S2048x1408 .bf16) (x1 : Vec Ideal S2048x512 .f32) (y : S1408x512.Idx) : EReal :=
  ∑ k : Fin 2048, x1 (ix2 k (y 1)) * x0 (ix2 k (y 0))

theorem product (x0 : Vec Ideal S2048x1408 .bf16) (x1 : Vec Ideal S2048x512 .f32) (y : S1408x512.Idx) :
    k0_pay1 (F := Ideal) x0 x1 y = part x0 x1 y := by
  unfold part
  pointwise [k0_pay1]
  exact Fin.sum_fin_congr fun k => mul_comm _ _

theorem store (x0 : Vec Ideal S2048x1408 .bf16) (x1 : Vec Ideal S2048x512 .f32) (y : S1408x512.Idx) :
    k0_pay2 (F := Ideal) x0 x1 y = 0 + part x0 x1 y := by
  rw [zero_add, ← product]
  pointwise [k0_pay2]

theorem add (x0 : Vec Ideal S2048x1408 .bf16) (x1 : Vec Ideal S2048x512 .f32) (p : Vec Ideal S1408x512 .f32) (y : S1408x512.Idx) :
    k0_pay3 (F := Ideal) x0 x1 p y = p y + part x0 x1 y := by
  rw [← product]
  pointwise [k0_pay3]

theorem cast (p : Vec Ideal S1408x512 .f32) (y : S1408x512.Idx) : k0_pay4 (F := Ideal) p y = p y := by
  pointwise [k0_pay4]

/-- At the first block of rows the scratch is that block's product. -/
theorem first (t : Fin cfg0.N) (h : t.val % 4 = 0) (y : S1408x512.Idx) :
    (outsAt0 m c t.val t.isLt).2 y = 0 + part (iblk m c 0 t) (iblk m c 1 t) y := by
  rw [outsAt0_A m c t h (by omega) (by omega)]
  frame_out
  exact store _ _ y

/-- At the others it is what it was and the block's product. -/
theorem next (t : Fin cfg0.N) (h : ¬ t.val % 4 = 0) (y : S1408x512.Idx) :
    (outsAt0 m c t.val t.isLt).2 y = (outsAt0 m c (t.val - 1) (Nat.lt_of_le_of_lt (Nat.sub_le _ _) t.isLt)).2 y
      + part (iblk m c 0 t) (iblk m c 1 t) y := by
  by_cases h3 : t.val % 4 = 3
  · rw [outsAt0_C m c t h (by omega) h3]
    frame_out
    rw [Idealize.ShloMosaic.read_unread_whole]
    exact add _ _ _ y
  · rw [outsAt0_B m c t h (by omega) h3]
    frame_out
    rw [Idealize.ShloMosaic.read_unread_whole]
    exact add _ _ _ y

/-- At the last block of rows the scratch is written out. -/
theorem last (t : Fin cfg0.N) (h : t.val % 4 = 3) (y : S1408x512.Idx) :
    (outsAt0 m c t.val t.isLt).1 y = (outsAt0 m c t.val t.isLt).2 y := by
  rw [outsAt0_C m c t (by omega) (by omega) h]
  frame_open
  simp (disch := decide) only [↓ View.readCov_skip, ↓ View.readCov_cons_toLoadRect, ↓ View.readCov_fill]
  frame_out
  exact cast _ y

/-- The product, after the run. -/
theorem final : (dats m 0 c).arrAt 2 cfg0.N
    = Cert.Reference5Ideal.Read.val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf),
    Pipeline.eq_sum_fin_of_reset_step_apply_of_flush (fun n h => (outsAt0 m c n h).2) 4 (fun _ => 0) _
    (fun t h j => first m c t h j) (fun t h j => next m c t h j) t ((flush0_2 t).mp hf) _, zero_add]
  rw [Cert.Reference5Ideal.Read.val_main_v5_apply, Cert.Reference5Ideal.Read.val_main_v4_apply]
  refine Eq.trans ?_ (Cert.Reference5Ideal.Read.val_main_v3_apply _ _ _).symm
  simp only [part]
  refine Fin.sum_mul_add_congr fun s k hl => ?_
  refine congrArg₂ (fun a b : EReal => a * b) ?_ ?_
  all_goals blk_ext [iblk, V, idx t, idx ⟨_, Pipeline.run_point_lt_of_flush t ((flush0_2 t).mp hf) s⟩]

end Cert.Kernel5Ideal.Value

end
-- ==== Proof.WeightUp.lean ====
module

public import proofs.«01_k».proof.Proof.Gen.Kernel6Ideal.Value
public import proofs.«01_k».proof.Proof.Gen.Reference6Ideal.Read
public import proofs.«01_k».proof.Proof.WeightGate
public import Idealize.ShloMosaic.Lib.Pipeline.ValueKit
public import Idealize.ShloMosaic.Lib.Pipeline.ReadBack

/-! The gradient of the other half of the first weight of the feed-forward block: the same program as for the gate's half
(`WeightGate`), reading the other half of the cotangent. What a block contributes is taken from there. -/

@[expose] public section

set_option maxRecDepth 16384

noncomputable section

open Idealize.ShloMosaic Idealize.ShloMosaic.TcCoe Idealize.SL.Sem

namespace Cert.Kernel6Ideal.Value

open Cert.Kernel6Ideal Cert.Kernel6Ideal.Gen
open Cert.Kernel4Ideal.Value (part)

variable (m : (ℓ : Loc nD τ sig) → Buf (Elt Ideal) ℓ) (c : Dev nD)

/-- The block indices of the windows at each point of the grid. -/
theorem idx : ∀ t : Fin cfg0.N, win0_0.index t = ![t.val % 4, 0] ∧ win0_1.index t = ![1, t.val % 4, t.val / 4]
    ∧ win0_2.index t = ![0, t.val / 4] :=
  (by decide +kernel : ∀ t : Fin grid0.N, _)

/-- At the first block of rows the scratch is that block's product. -/
theorem first (t : Fin cfg0.N) (h : t.val % 4 = 0) (y : S1024x1408.Idx) :
    (outsAt0 m c t.val t.isLt).2 y = 0 + part (iblk m c 0 t) (iblk m c 1 t) y := by
  rw [outsAt0_A m c t h (by omega) (by omega)]
  frame_out
  exact Cert.Kernel4Ideal.Value.store _ _ y

/-- At the others it is what it was and the block's product. -/
theorem next (t : Fin cfg0.N) (h : ¬ t.val % 4 = 0) (y : S1024x1408.Idx) :
    (outsAt0 m c t.val t.isLt).2 y = (outsAt0 m c (t.val - 1) (Nat.lt_of_le_of_lt (Nat.sub_le _ _) t.isLt)).2 y
      + part (iblk m c 0 t) (iblk m c 1 t) y := by
  by_cases h3 : t.val % 4 = 3
  · rw [outsAt0_C m c t h (by omega) h3]
    frame_out
    rw [Idealize.ShloMosaic.read_unread_whole]
    exact Cert.Kernel4Ideal.Value.add _ _ _ y
  · rw [outsAt0_B m c t h (by omega) h3]
    frame_out
    rw [Idealize.ShloMosaic.read_unread_whole]
    exact Cert.Kernel4Ideal.Value.add _ _ _ y

/-- At the last block of rows the scratch is written out. -/
theorem last (t : Fin cfg0.N) (h : t.val % 4 = 3) (y : S1024x1408.Idx) :
    (outsAt0 m c t.val t.isLt).1 y = (outsAt0 m c t.val t.isLt).2 y := by
  rw [outsAt0_C m c t (by omega) (by omega) h]
  frame_open
  simp (disch := decide) only [↓ View.readCov_skip, ↓ View.readCov_cons_toLoadRect, ↓ View.readCov_fill]
  frame_out
  exact Cert.Kernel4Ideal.Value.cast _ y

/-- The product, after the run. -/
theorem final : (dats m 0 c).arrAt 2 cfg0.N
    = Cert.Reference6Ideal.Read.val_main_v8 (F := Ideal) (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf),
    Pipeline.eq_sum_fin_of_reset_step_apply_of_flush (fun n h => (outsAt0 m c n h).2) 4 (fun _ => 0) _
    (fun t h j => first m c t h j) (fun t h j => next m c t h j) t ((flush0_2 t).mp hf) _, zero_add]
  rw [Cert.Reference6Ideal.Read.val_main_v8_apply, Cert.Reference6Ideal.Read.val_main_v7_apply]
  refine Eq.trans ?_ (Cert.Reference6Ideal.Read.val_main_v6_apply _ _ _).symm
  simp only [part]
  refine Fin.sum_mul_add_congr fun s k hl => ?_
  refine congrArg₂ (fun a b : EReal => a * b) ?_ ?_
  · rw [Cert.Reference6Ideal.Read.val_main_v3_apply, Cert.Reference6Ideal.Read.val_main_v2_apply,
      Cert.Reference6Ideal.Read.val_main_v1_apply]
    blk_ext [iblk, V, idx t, idx ⟨_, Pipeline.run_point_lt_of_flush t ((flush0_2 t).mp hf) s⟩]
    all_goals
      have e1 : (4 * (t.val / 4) + s.val) / 4 = t.val / 4 := by omega
      have e2 : (4 * (t.val / 4) + s.val) % 4 = s.val := by omega
      have e3 : t.val / 4 < 2 := by omega
      generalize t.val / 4 = b at *
      omega
  · blk_ext [iblk, V, idx t, idx ⟨_, Pipeline.run_point_lt_of_flush t ((flush0_2 t).mp hf) s⟩]

end Cert.Kernel6Ideal.Value

end
-- ==== Proof.WeightOut.lean ====
module

public import proofs.«01_k».proof.Proof.Gen.Kernel7Ideal.Value
public import proofs.«01_k».proof.Proof.Gen.Reference7Ideal.Read
public import Idealize.ShloMosaic.Lib.Pipeline.ValueKit
public import Idealize.ShloMosaic.Lib.Pipeline.ReadBack

/-! The gradient of a square weight: the product of the transposed activations and the cotangent, accumulated over two
blocks of 4096 rows. -/

@[expose] public section

set_option maxRecDepth 16384

noncomputable section

open Idealize.ShloMosaic Idealize.ShloMosaic.TcCoe Idealize.SL.Sem

namespace Cert.Kernel7Ideal.Value

open Cert.Kernel7Ideal Cert.Kernel7Ideal.Gen

variable (m : (ℓ : Loc nD τ sig) → Buf (Elt Ideal) ℓ) (c : Dev nD)

/-- The block indices of the windows at each point of the grid. -/
theorem idx : ∀ t : Fin cfg0.N, win0_0.index t = ![t.val % 2, 0] ∧ win0_1.index t = ![t.val % 2, t.val / 2]
    ∧ win0_2.index t = ![0, t.val / 2] :=
  (by decide +kernel : ∀ t : Fin grid0.N, _)

/-- What a block of rows contributes. -/
def part (x0 : Vec Ideal S4096x1024 .bf16) (x1 : Vec Ideal S4096x512 .f32) (y : S1024x512.Idx) : EReal :=
  ∑ k : Fin 4096, x1 (ix2 k (y 1)) * x0 (ix2 k (y 0))

theorem product (x0 : Vec Ideal S4096x1024 .bf16) (x1 : Vec Ideal S4096x512 .f32) (y : S1024x512.Idx) :
    k0_pay1 (F := Ideal) x0 x1 y = part x0 x1 y := by
  unfold part
  pointwise [k0_pay1]
  exact Fin.sum_fin_congr fun k => mul_comm _ _

theorem store (x0 : Vec Ideal S4096x1024 .bf16) (x1 : Vec Ideal S4096x512 .f32) (y : S1024x512.Idx) :
    k0_pay2 (F := Ideal) x0 x1 y = 0 + part x0 x1 y := by
  rw [zero_add, ← product]
  pointwise [k0_pay2]

theorem add (x0 : Vec Ideal S4096x1024 .bf16) (x1 : Vec Ideal S4096x512 .f32) (p : Vec Ideal S1024x512 .f32) (y : S1024x512.Idx) :
    k0_pay3 (F := Ideal) x0 x1 p y = p y + part x0 x1 y := by
  rw [← product]
  pointwise [k0_pay3]

theorem cast (p : Vec Ideal S1024x512 .f32) (y : S1024x512.Idx) : k0_pay4 (F := Ideal) p y = p y := by
  pointwise [k0_pay4]

/-- At the first block of rows the scratch is that block's product. -/
theorem first (t : Fin cfg0.N) (h : t.val % 2 = 0) (y : S1024x512.Idx) :
    (outsAt0 m c t.val t.isLt).2 y = 0 + part (iblk m c 0 t) (iblk m c 1 t) y := by
  rw [outsAt0_A m c t h (by omega) (by omega)]
  frame_out
  exact store _ _ y

/-- At the second it is what it was and the block's product. -/
theorem next (t : Fin cfg0.N) (h : ¬ t.val % 2 = 0) (y : S1024x512.Idx) :
    (outsAt0 m c t.val t.isLt).2 y = (outsAt0 m c (t.val - 1) (Nat.lt_of_le_of_lt (Nat.sub_le _ _) t.isLt)).2 y
      + part (iblk m c 0 t) (iblk m c 1 t) y := by
  rw [outsAt0_B m c t h (by omega) (by omega)]
  frame_out
  rw [Idealize.ShloMosaic.read_unread_whole]
  exact add _ _ _ y

/-- And there the scratch is written out. -/
theorem last (t : Fin cfg0.N) (h : t.val % 2 = 1) (y : S1024x512.Idx) :
    (outsAt0 m c t.val t.isLt).1 y = (outsAt0 m c t.val t.isLt).2 y := by
  rw [outsAt0_B m c t (by omega) h h]
  frame_open
  simp (disch := decide) only [↓ View.readCov_skip, ↓ View.readCov_cons_toLoadRect, ↓ View.readCov_fill]
  frame_out
  exact cast _ y

/-- The product, after the run. -/
theorem final : (dats m 0 c).arrAt 2 cfg0.N
    = Cert.Reference7Ideal.Read.val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf),
    Pipeline.eq_sum_fin_of_reset_step_apply_of_flush (fun n h => (outsAt0 m c n h).2) 2 (fun _ => 0) _
    (fun t h j => first m c t h j) (fun t h j => next m c t h j) t ((flush0_2 t).mp hf) _, zero_add]
  rw [Cert.Reference7Ideal.Read.val_main_v5_apply, Cert.Reference7Ideal.Read.val_main_v4_apply]
  refine Eq.trans ?_ (Cert.Reference7Ideal.Read.val_main_v3_apply _ _ _).symm
  simp only [part]
  refine Fin.sum_mul_add_congr fun s k hl => ?_
  refine congrArg₂ (fun a b : EReal => a * b) ?_ ?_
  all_goals blk_ext [iblk, V, idx t, idx ⟨_, Pipeline.run_point_lt_of_flush t ((flush0_2 t).mp hf) s⟩]

end Cert.Kernel7Ideal.Value

end
-- ==== Proof.Normed.lean ====
module

public import proofs.«01_k».proof.Proof.Reals

/-! The gradient of a root mean square norm with a gain, over one row of 1024 real numbers. -/

@[expose] public section

noncomputable section

open Idealize.ShloMosaic

namespace Proofs.Normed

open Proofs.Reals

/-- What is added to the mean square. -/
def eps : ℝ := 8796093 / 8796093022208

theorem eps_bits : Ideal.ofBits .f32 0x358637BD#32 = ((eps : ℝ) : EReal) := by
  simp [Ideal.ofBits, Ideal.ieee, eps, -EReal.coe_mul]
  norm_num

/-- The bits of the length of a row. -/
theorem length_bits : Ideal.ofBits .f32 0x44800000#32 = ((1024 : ℝ) : EReal) := by
  simp [Ideal.ofBits, Ideal.ieee, -EReal.coe_mul]
  norm_num

/-- The bits of minus one half. -/
theorem half_bits : Ideal.ofBits .f32 0xBF000000#32 = ((-(1 / 2) : ℝ) : EReal) := by
  simp [Ideal.ofBits, Ideal.ieee, -EReal.coe_mul]
  norm_num

/-- The mean square of a row, and a little more. -/
def ms (x : Fin 1024 → ℝ) : ℝ := (∑ k, x k * x k) / 1024 + eps

theorem ms_pos (x : Fin 1024 → ℝ) : 0 < ms x := by
  have h : 0 ≤ ∑ k, x k * x k := Finset.sum_nonneg fun k _ => mul_self_nonneg _
  have e : 0 < eps := by norm_num [eps]
  unfold ms
  positivity

/-- The reciprocal of the norm. -/
def rho (x : Fin 1024 → ℝ) : ℝ := (√(ms x))⁻¹

theorem rho_sq (x : Fin 1024 → ℝ) : rho x * rho x = 1 / ms x := by
  unfold rho
  rw [← mul_inv, Real.mul_self_sqrt (ms_pos x).le, one_div]

theorem rsqrt_ms (x : Fin 1024 → ℝ) : Ideal.rsqrt ((ms x : ℝ) : EReal) = ((rho x : ℝ) : EReal) := by
  rw [Ideal.rsqrt_coe, if_neg (ms_pos x).le.not_gt, if_neg (ms_pos x).ne']
  rfl

/-- The cotangent of a row, from the cotangent `d` of the normalised row and the cotangent `e` that passes the norm by. -/
def dx (d g x : Fin 1024 → ℝ) (e : ℝ) (j : Fin 1024) : ℝ :=
  e + rho x * (d j * g j - x j * rho x * ((∑ k, d k * g k * (x k * rho x)) / 1024))

/-- What the reciprocal of the norm passes to the mean square, over the length of the row. -/
def dms (d g x : Fin 1024 → ℝ) : ℝ := (∑ k, x k * (d k * g k)) * (-(1 / 2) * (rho x / ms x)) / 1024

/-- The cotangent of a row by the product rule. -/
theorem dx_eq (d g x : Fin 1024 → ℝ) (e : ℝ) (j : Fin 1024) :
    e + d j * g j * rho x + x j * dms d g x + dms d g x * x j = dx d g x e j := by
  have h : ∑ k, d k * g k * (x k * rho x) = rho x * ∑ k, x k * (d k * g k) := by
    rw [Finset.mul_sum]
    exact Finset.sum_congr rfl fun k _ => by ring
  have q : rho x / ms x = rho x * (rho x * rho x) := by rw [rho_sq, mul_one_div]
  unfold dx dms
  rw [h, q]
  ring

/-- The product of a row of cotangents and a row of the weight. -/
def dh (u w : Fin 5632 → ℝ) : ℝ := ∑ k, u k * w k

/-- Two rows of 2816, one after the other. -/
def cat (u : Fin 2 → Fin 2816 → ℝ) (k : Fin 5632) : ℝ := u ⟨k / 2816, by omega⟩ ⟨k % 2816, by omega⟩

theorem cat_at (u : Fin 2 → Fin 2816 → ℝ) (b : Fin 2) (j : Fin 2816) (k : Fin 5632) (h : (k : ℕ) = b * 2816 + j) :
    cat u k = u b j := by
  unfold cat
  congr 2
  all_goals (congr 1; try exact Fin.ext (show _ = _ by simp only []; omega))
  all_goals (first | exact Fin.ext (by dsimp only; omega) | omega)

/-- The product over the two halves of the columns. -/
theorem dh_halves (u : Fin 2 → Fin 2816 → ℝ) (w : Fin 5632 → ℝ) :
    ∑ k : Fin 2816, u 0 k * w ⟨0 * 2816 + k, by omega⟩ + ∑ k : Fin 2816, u 1 k * w ⟨1 * 2816 + k, by omega⟩ = dh (cat u) w := by
  have h : ∑ s : Fin 2, ∑ k : Fin 2816, u s k * w ⟨s * 2816 + k, by omega⟩ = dh (cat u) w :=
    Fin.sum_mul_add_congr fun s k hl => by rw [cat_at u s k ⟨s * 2816 + k, hl⟩ rfl]
  rw [← h, Fin.sum_univ_two]
  rfl

/-- The sum over the rows of the blocks up to block `b`, of 512 rows each. -/
def blocks (f : Fin 8192 → ℝ) (b : ℕ) (hb : b < 16) : ℝ := ∑ s : Fin (b + 1), ∑ r : Fin 512, f ⟨s * 512 + r, by omega⟩

theorem blocks_zero (f : Fin 8192 → ℝ) : blocks f 0 (by omega) = 0 + ∑ r : Fin 512, f ⟨0 * 512 + r, by omega⟩ := by
  rw [zero_add]
  exact Fin.sum_univ_one _

theorem blocks_succ (f : Fin 8192 → ℝ) (b : ℕ) (hb : b + 1 < 16) :
    blocks f (b + 1) hb = blocks f b (by omega) + ∑ r : Fin 512, f ⟨(b + 1) * 512 + r, by omega⟩ :=
  Fin.sum_univ_castSucc _

theorem blocks_last (f : Fin 8192 → ℝ) : blocks f 15 (by omega) = ∑ r, f r := Fin.sum_mul_add_fin 16 512 f

end Proofs.Normed

end
-- ==== Proof.Layer.lean ====
module

public import proofs.«01_k».proof.Proof.Gated
public import proofs.«01_k».proof.Proof.Normed

/-! The gradient of `silu` of a layer norm with a gain and a bias, over one row of 1024 real numbers. -/

@[expose] public section

noncomputable section

open Idealize.ShloMosaic

namespace Proofs.Layer

open Proofs.Reals

/-- A row, less its mean. -/
def ctr (y : Fin 1024 → ℝ) (k : Fin 1024) : ℝ := y k - (∑ j, y j) / 1024

theorem sum_ctr (y : Fin 1024 → ℝ) : ∑ k, ctr y k = 0 := by
  unfold ctr
  rw [Finset.sum_sub_distrib, Finset.sum_const, Finset.card_univ, Fintype.card_fin, nsmul_eq_mul]
  push_cast
  ring

/-- The normalised row. -/
def hat (y : Fin 1024 → ℝ) (k : Fin 1024) : ℝ := ctr y k * Normed.rho (ctr y)

/-- What `silu` is taken of. -/
def pre (g b y : Fin 1024 → ℝ) (k : Fin 1024) : ℝ := hat y k * g k + b k

/-- The cotangent of that, from the cotangent `d` of `silu`. -/
def dpre (d g b y : Fin 1024 → ℝ) (k : Fin 1024) : ℝ :=
  d k * (Gated.sig (pre g b y k) * (1 + pre g b y k * (1 - Gated.sig (pre g b y k))))

/-- The same by the product rule. -/
theorem dpre_eq (d g b y : Fin 1024 → ℝ) (k : Fin 1024) :
    d k * Gated.sig (pre g b y k) + pre g b y k * d k * (Gated.sig (pre g b y k) * (1 - Gated.sig (pre g b y k)))
      = dpre d g b y k := by
  unfold dpre; ring

/-- The cotangent of a row, from the cotangent `e` of the row before its bias. -/
def dy (e g y : Fin 1024 → ℝ) (j : Fin 1024) : ℝ :=
  Normed.rho (ctr y) * (e j * g j - (∑ k, e k * g k) / 1024 - hat y j * ((∑ k, e k * g k * hat y k) / 1024))

/-- The cotangent of the row less its mean, by the product rule. -/
def dctr (e g y : Fin 1024 → ℝ) (j : Fin 1024) : ℝ :=
  e j * g j * Normed.rho (ctr y) + ctr y j * Normed.dms e g (ctr y) + Normed.dms e g (ctr y) * ctr y j

theorem dctr_eq (e g y : Fin 1024 → ℝ) (j : Fin 1024) : dctr e g y j = Normed.dx e g (ctr y) 0 j := by
  rw [← Normed.dx_eq, zero_add]
  rfl

theorem sum_dctr (e g y : Fin 1024 → ℝ) : ∑ j, dctr e g y j = Normed.rho (ctr y) * ∑ j, e j * g j := by
  unfold dctr
  rw [Finset.sum_add_distrib, Finset.sum_add_distrib, ← Finset.sum_mul, ← Finset.sum_mul, ← Finset.mul_sum, sum_ctr]
  ring

/-- The mean passes its share of the cotangent to every entry of the row. -/
theorem dy_eq (e g y : Fin 1024 → ℝ) (j : Fin 1024) :
    dctr e g y j + (∑ k, -dctr e g y k) / 1024 = dy e g y j := by
  rw [Finset.sum_neg_distrib, sum_dctr, dctr_eq]
  unfold Normed.dx dy hat
  ring

end Proofs.Layer

end
-- ==== Proof.LayerKernel.lean ====
module

public import proofs.«01_k».proof.Proof.Gen.Kernel8Ideal.Value
public import proofs.«01_k».proof.Proof.Layer
public import Idealize.ShloMosaic.Lib.Pipeline.ReadBack
public import Idealize.ShloMosaic.Lib.StableHlo.Run

/-! The gradient of the conformer convolution from its layer norm to its end, as the kernel computes it over real arguments:
each point of the grid takes 512 rows, and adds to the cotangents of the gain and the two biases. -/

@[expose] public section

set_option maxRecDepth 16384

noncomputable section

open Idealize.ShloMosaic Idealize.ShloMosaic.TcCoe Idealize.SL.Sem

namespace Cert.Kernel8Ideal.Value

open Cert.Kernel8Ideal Cert.Kernel8Ideal.Gen Proofs.Reals Proofs

/-! ## One block -/

section block

variable {x0 x1 : Vec Ideal S512x1024 .f32} {x2 : Vec Ideal S1x1024x1024 .bf16} {x3 x4 p : Vec Ideal S1x1024 .f32}
variable {Y D : Fin 512 → Fin 1024 → ℝ} {W : Fin 1024 → Fin 1024 → ℝ} {G B P : Fin 1024 → ℝ}

/-- The cotangent of `silu`. -/
theorem back_at (h1 : ∀ r k, x1 (ix2 r k) = ↑(D r k)) (h2 : ∀ j k, x2 (ix3 0 j k) = ↑(W j k)) (r : Fin 512) (j : Fin 1024) :
    k0_pay5 (F := Ideal) x1 x2 (ix2 r j) = ↑(Gated.back (D r) (W j)) := by
  pointwise [k0_pay5]
  simp only [h1, h2, ← EReal.coe_mul, ← coe_sum]
  rfl

/-- The rows, less their means. -/
theorem ctr_at (h0 : ∀ r k, x0 (ix2 r k) = ↑(Y r k)) (r : Fin 512) (j : Fin 1024) :
    k0_pay6 (F := Ideal) x0 (ix2 r j) = ↑(Layer.ctr (Y r) j) := by
  pointwise [k0_pay6]
  simp only [h0, Normed.length_bits, ← coe_sum, zero_add]
  rw [div_coe_coe _ (by norm_num), ← EReal.coe_sub]
  rfl

/-- The reciprocal of the deviation of a row. -/
theorem rho_at (h0 : ∀ r k, x0 (ix2 r k) = ↑(Y r k)) (r : Fin 512) :
    k0_pay7 (F := Ideal) x0 (ix2 r 0) = ↑(Normed.rho (Layer.ctr (Y r))) := by
  rw [← Normed.rsqrt_ms]
  pointwise [k0_pay7]
  simp only [ctr_at h0, Normed.eps_bits, Normed.length_bits, ← EReal.coe_mul, ← coe_sum, zero_add]
  rw [div_coe_coe _ (by norm_num), ← EReal.coe_add]
  rfl

/-- The rows, normalised. -/
theorem hat_at (h0 : ∀ r k, x0 (ix2 r k) = ↑(Y r k)) (r : Fin 512) (j : Fin 1024) :
    k0_pay8 (F := Ideal) x0 (ix2 r j) = ↑(Layer.hat (Y r) j) := by
  pointwise [k0_pay8]
  rw [ctr_at h0, rho_at h0, ← EReal.coe_mul]
  rfl

theorem gain_at (h3 : ∀ j, x3 (ix2 0 j) = ↑(G j)) (j : Fin 1024) : k0_pay9 (F := Ideal) x3 (ix2 0 j) = ↑(G j) := by
  pointwise [k0_pay9]
  exact h3 j

/-- What `silu` is taken of. -/
theorem pre_at (h0 : ∀ r k, x0 (ix2 r k) = ↑(Y r k)) (h3 : ∀ j, x3 (ix2 0 j) = ↑(G j)) (h4 : ∀ j, x4 (ix2 0 j) = ↑(B j))
    (r : Fin 512) (j : Fin 1024) : k0_pay10 (F := Ideal) x0 x3 x4 (ix2 r j) = ↑(Layer.pre G B (Y r) j) := by
  pointwise [k0_pay10]
  rw [hat_at h0, gain_at h3, h4, ← EReal.coe_mul, ← EReal.coe_add]
  rfl

theorem exp_at (h0 : ∀ r k, x0 (ix2 r k) = ↑(Y r k)) (h3 : ∀ j, x3 (ix2 0 j) = ↑(G j)) (h4 : ∀ j, x4 (ix2 0 j) = ↑(B j))
    (r : Fin 512) (j : Fin 1024) :
    k0_pay11 (F := Ideal) x0 x3 x4 (ix2 r j) = ((Real.exp (-Layer.pre G B (Y r) j) : ℝ) : EReal) := by
  pointwise [k0_pay11]
  rw [pre_at h0 h3 h4, zero_sub, ← EReal.coe_neg, Ideal.exp_coe]

theorem one_at (r : Fin 512) (j : Fin 1024) : k0_pay12 (F := Ideal) (ix2 r j) = ((1 : ℝ) : EReal) := by
  pointwise [k0_pay12]
  rfl

/-- The block of rows a point of the grid works on, as arrays of real numbers. -/
structure Rows (x0 x1 : Vec Ideal S512x1024 .f32) (x2 : Vec Ideal S1x1024x1024 .bf16) (x3 x4 : Vec Ideal S1x1024 .f32)
    (Y D : Fin 512 → Fin 1024 → ℝ) (W : Fin 1024 → Fin 1024 → ℝ) (G B : Fin 1024 → ℝ) : Prop where
  y : ∀ r k, x0 (ix2 r k) = ((Y r k : ℝ) : EReal)
  d : ∀ r k, x1 (ix2 r k) = ((D r k : ℝ) : EReal)
  w : ∀ j k, x2 (ix3 0 j k) = ((W j k : ℝ) : EReal)
  g : ∀ j, x3 (ix2 0 j) = ((G j : ℝ) : EReal)
  b : ∀ j, x4 (ix2 0 j) = ((B j : ℝ) : EReal)

/-- The cotangent of what `silu` is taken of, in one row. -/
def dpre (Y D : Fin 1024 → ℝ) (W : Fin 1024 → Fin 1024 → ℝ) (G B : Fin 1024 → ℝ) : Fin 1024 → ℝ :=
  Layer.dpre (fun k => Gated.back D (W k)) G B Y

theorem dpre_at (H : Rows x0 x1 x2 x3 x4 Y D W G B) (r : Fin 512) (j : Fin 1024) :
    k0_pay13 (F := Ideal) (k0_pay5 (F := Ideal) x1 x2) (k0_pay10 (F := Ideal) x0 x3 x4) (k0_pay11 (F := Ideal) x0 x3 x4)
      (k0_pay12 (F := Ideal)) (ix2 r j) = ↑(dpre (Y r) (D r) W G B j) := by
  pointwise [k0_pay13]
  rw [one_at, exp_at H.y H.g H.b, pre_at H.y H.g H.b, back_at H.d H.w, ← EReal.coe_one, Gated.sig_coe]
  simp only [← EReal.coe_mul, ← EReal.coe_sub, ← EReal.coe_add]
  rfl

/-- What the rows of a block add to the cotangent of the gain, -/
theorem dgain_at (H : Rows x0 x1 x2 x3 x4 Y D W G B) (hp : ∀ j, p (ix2 0 j) = ↑(P j)) (j : Fin 1024) :
    k0_pay14 (F := Ideal) (k0_pay5 (F := Ideal) x1 x2) (k0_pay8 (F := Ideal) x0) (k0_pay10 (F := Ideal) x0 x3 x4)
      (k0_pay11 (F := Ideal) x0 x3 x4) (k0_pay12 (F := Ideal)) p (ix2 0 j)
      = ((P j + ∑ r, dpre (Y r) (D r) W G B j * Layer.hat (Y r) j : ℝ) : EReal) := by
  pointwise [k0_pay14]
  simp only [dpre_at H, hat_at H.y, hp, ← EReal.coe_mul, ← coe_sum, zero_add]
  rw [← EReal.coe_add]

/-- to that of the bias, -/
theorem dbias_at (H : Rows x0 x1 x2 x3 x4 Y D W G B) (hp : ∀ j, p (ix2 0 j) = ↑(P j)) (j : Fin 1024) :
    k0_pay15 (F := Ideal) (k0_pay5 (F := Ideal) x1 x2) (k0_pay10 (F := Ideal) x0 x3 x4) (k0_pay11 (F := Ideal) x0 x3 x4)
      (k0_pay12 (F := Ideal)) p (ix2 0 j) = ((P j + ∑ r, dpre (Y r) (D r) W G B j : ℝ) : EReal) := by
  pointwise [k0_pay15]
  simp only [dpre_at H, hp, ← coe_sum, zero_add]
  rw [← EReal.coe_add]

/-- The cotangent of the rows. -/
theorem dy_at (H : Rows x0 x1 x2 x3 x4 Y D W G B) (r : Fin 512) (j : Fin 1024) :
    k0_pay16 (F := Ideal) (k0_pay5 (F := Ideal) x1 x2) (k0_pay7 (F := Ideal) x0) (k0_pay8 (F := Ideal) x0) (k0_pay9 (F := Ideal) x3)
      (k0_pay10 (F := Ideal) x0 x3 x4) (k0_pay11 (F := Ideal) x0 x3 x4) (k0_pay12 (F := Ideal)) (ix2 r j)
      = ↑(Layer.dy (dpre (Y r) (D r) W G B) G (Y r) j) := by
  pointwise [k0_pay16]
  simp only [dpre_at H, hat_at H.y, rho_at H.y, gain_at H.g, Normed.length_bits, ← EReal.coe_mul, ← coe_sum, zero_add]
  rw [div_coe_coe _ (by norm_num), div_coe_coe _ (by norm_num)]
  simp only [← EReal.coe_mul, ← EReal.coe_sub]
  rfl

/-- and to that of the bias before the norm. -/
theorem dfirst_at {d : Vec Ideal S512x1024 .f32} {E : Fin 512 → Fin 1024 → ℝ} (hd : ∀ r j, d (ix2 r j) = ↑(E r j))
    (hp : ∀ j, p (ix2 0 j) = ↑(P j)) (j : Fin 1024) :
    k0_pay1 (F := Ideal) d p (ix2 0 j) = ((P j + ∑ r, E r j : ℝ) : EReal) := by
  pointwise [k0_pay1]
  simp only [hd, hp, ← coe_sum, zero_add]
  rw [← EReal.coe_add]

theorem zero2_at (j : Fin 1024) : k0_pay2 (F := Ideal) (ix2 0 j) = ((0 : ℝ) : EReal) := by
  pointwise [k0_pay2]
  rfl

theorem zero3_at (j : Fin 1024) : k0_pay3 (F := Ideal) (ix2 0 j) = ((0 : ℝ) : EReal) := by
  pointwise [k0_pay3]
  rfl

theorem zero4_at (j : Fin 1024) : k0_pay4 (F := Ideal) (ix2 0 j) = ((0 : ℝ) : EReal) := by
  pointwise [k0_pay4]
  rfl

end block

/-! ## The points of the grid -/

variable (m : (ℓ : Loc nD τ sig) → Buf (Elt Ideal) ℓ) (c : Dev nD)

/-- The cotangent of the rows of a point. -/
abbrev rows (t : Fin cfg0.N) : Vec Ideal S512x1024 .f32 :=
  k0_pay16 (F := Ideal) (k0_pay5 (F := Ideal) (iblk m c 1 t) (iblk m c 2 t)) (k0_pay7 (F := Ideal) (iblk m c 0 t))
    (k0_pay8 (F := Ideal) (iblk m c 0 t)) (k0_pay9 (F := Ideal) (iblk m c 3 t))
    (k0_pay10 (F := Ideal) (iblk m c 0 t) (iblk m c 3 t) (iblk m c 4 t))
    (k0_pay11 (F := Ideal) (iblk m c 0 t) (iblk m c 3 t) (iblk m c 4 t)) (k0_pay12 (F := Ideal))

/-- The cotangent of the gain after a point, from what it was before it. -/
abbrev gain (t : Fin cfg0.N) (p : Vec Ideal S1x1024 .f32) : Vec Ideal S1x1024 .f32 :=
  k0_pay14 (F := Ideal) (k0_pay5 (F := Ideal) (iblk m c 1 t) (iblk m c 2 t)) (k0_pay8 (F := Ideal) (iblk m c 0 t))
    (k0_pay10 (F := Ideal) (iblk m c 0 t) (iblk m c 3 t) (iblk m c 4 t))
    (k0_pay11 (F := Ideal) (iblk m c 0 t) (iblk m c 3 t) (iblk m c 4 t)) (k0_pay12 (F := Ideal)) p

/-- The cotangent of the bias after a point, from what it was before it. -/
abbrev bias (t : Fin cfg0.N) (p : Vec Ideal S1x1024 .f32) : Vec Ideal S1x1024 .f32 :=
  k0_pay15 (F := Ideal) (k0_pay5 (F := Ideal) (iblk m c 1 t) (iblk m c 2 t))
    (k0_pay10 (F := Ideal) (iblk m c 0 t) (iblk m c 3 t) (iblk m c 4 t))
    (k0_pay11 (F := Ideal) (iblk m c 0 t) (iblk m c 3 t) (iblk m c 4 t)) (k0_pay12 (F := Ideal)) p

/-- What a point leaves in the four outputs, from what the point before left. -/
theorem first (t : Fin cfg0.N) (h : t.val % 16 = 0) : outsAt0 m c t.val t.isLt
    = (rows m c t, gain m c t (k0_pay2 (F := Ideal)), bias m c t (k0_pay3 (F := Ideal)),
      k0_pay1 (F := Ideal) (rows m c t) (k0_pay4 (F := Ideal))) := by
  rw [outsAt0_A m c t h]
  frame_open
  simp (disch := decide) only [↓ View.readCov_skip, ↓ View.readCov_cons_toLoadRect, ↓ View.readCov_fill]
  frame_out

theorem next (t : Fin cfg0.N) (h : ¬ t.val % 16 = 0) : outsAt0 m c t.val t.isLt
    = (rows m c t, gain m c t (outsAt0 m c (t.val - 1) (Nat.lt_of_le_of_lt (Nat.sub_le _ _) t.isLt)).2.1,
      bias m c t (outsAt0 m c (t.val - 1) (Nat.lt_of_le_of_lt (Nat.sub_le _ _) t.isLt)).2.2.1,
      k0_pay1 (F := Ideal) (rows m c t) (outsAt0 m c (t.val - 1) (Nat.lt_of_le_of_lt (Nat.sub_le _ _) t.isLt)).2.2.2) := by
  rw [outsAt0_B m c t h]
  frame_open
  simp (disch := decide) only [↓ View.readCov_skip, ↓ View.readCov_cons_toLoadRect, ↓ View.readCov_fill]
  frame_out

/-! ## The arrays -/

variable (Y D : Fin 8192 → Fin 1024 → ℝ) (W : Fin 1024 → Fin 1024 → ℝ) (G B : Fin 1024 → ℝ)

/-- The arguments of the kernel are the real arrays `Y`, `D`, `W`, `G` and `B`. -/
def Args : Prop :=
  (∀ r k, m ((c : Thread nD τ).loc main_arg0) (ix2 r k) = ((Y r k : ℝ) : EReal))
  ∧ (∀ r k, m ((c : Thread nD τ).loc main_arg1) (ix2 r k) = ((D r k : ℝ) : EReal))
  ∧ (∀ j k, m ((c : Thread nD τ).loc main_arg2) (ix3 0 j k) = ((W j k : ℝ) : EReal))
  ∧ (∀ j, m ((c : Thread nD τ).loc main_arg3) (ix1 j) = ((G j : ℝ) : EReal))
  ∧ (∀ j, m ((c : Thread nD τ).loc main_arg4) (ix1 j) = ((B j : ℝ) : EReal))

variable {m c Y D W G B}

/-- The block indices of the windows at each point of the grid. -/
theorem idx : ∀ t : Fin cfg0.N, win0_0.index t = ![t.val, 0] ∧ win0_1.index t = ![t.val, 0]
    ∧ win0_2.index t = ![0, 0, 0] ∧ win0_3.index t = ![0, 0] ∧ win0_4.index t = ![0, 0]
    ∧ win0_5.index t = ![t.val, 0] ∧ win0_6.index t = ![0, 0] ∧ win0_7.index t = ![0, 0] ∧ win0_8.index t = ![0, 0] :=
  (by decide +kernel : ∀ t : Fin grid0.N, _)

/-- The grid has sixteen points. -/
theorem lt16 (t : Fin cfg0.N) : t.val < 16 := lt_of_lt_of_eq t.isLt N_0

/-- The row of the array at row `r` of block `b`. -/
def row (b : ℕ) (hb : b < 16) (r : Fin 512) : Fin 8192 := ⟨b * 512 + r, by omega⟩

/-- The gain, as a row. -/
theorem entry_gain (m : (ℓ : Loc nD τ sig) → Buf (Elt Ideal) ℓ) (c : Dev nD) : V m c main_v0
    = shapeCast S1x1024 (m ((c : Thread nD τ).loc main_arg3)) shapeCasts_S1024_S1x1024 := by
  unfold_abbrev_sides
  after_results
  try rfl

/-- The bias, as a row. -/
theorem entry_bias (m : (ℓ : Loc nD τ sig) → Buf (Elt Ideal) ℓ) (c : Dev nD) : V m c main_v1
    = shapeCast S1x1024 (m ((c : Thread nD τ).loc main_arg4)) shapeCasts_S1024_S1x1024 := by
  unfold_abbrev_sides
  after_results
  try rfl

/-- The blocks of a point. -/
theorem blk (H : Args m c Y D W G B) (t : Fin cfg0.N) :
    Rows (iblk m c 0 t) (iblk m c 1 t) (iblk m c 2 t) (iblk m c 3 t) (iblk m c 4 t)
      (fun r => Y (row t.val (lt16 t) r)) (fun r => D (row t.val (lt16 t) r)) W G B where
  y r k := by rw [← H.1]; blk_ext [iblk, V, idx t, row]
  d r k := by rw [← H.2.1]; blk_ext [iblk, V, idx t, row]
  w j k := by rw [← H.2.2.1]; blk_ext [iblk, V, idx t]
  g j := by
    rw [← H.2.2.2.1]
    show V m c main_v0 ((win0_3.blk t).view.emb (ix2 0 j)) = _
    rw [entry_gain]
    refine shapeCast_apply _ _ _ _ ?_
    refine (Shape.rowMajor_val_one _).trans (Eq.trans ?_ (Shape.rowMajor_val_two _).symm)
    blk_simp [idx t]
    exact (show (j : ℕ) = 0 * 1024 + j by omega)
  b j := by
    rw [← H.2.2.2.2]
    show V m c main_v1 ((win0_4.blk t).view.emb (ix2 0 j)) = _
    rw [entry_bias]
    refine shapeCast_apply _ _ _ _ ?_
    refine (Shape.rowMajor_val_one _).trans (Eq.trans ?_ (Shape.rowMajor_val_two _).symm)
    blk_simp [idx t]
    exact (show (j : ℕ) = 0 * 1024 + j by omega)

/-- What a row adds to the cotangent of the gain, -/
def gainOf (Y D : Fin 8192 → Fin 1024 → ℝ) (W : Fin 1024 → Fin 1024 → ℝ) (G B : Fin 1024 → ℝ) (j : Fin 1024) (r : Fin 8192) : ℝ :=
  dpre (Y r) (D r) W G B j * Layer.hat (Y r) j

/-- to that of the bias, -/
def biasOf (Y D : Fin 8192 → Fin 1024 → ℝ) (W : Fin 1024 → Fin 1024 → ℝ) (G B : Fin 1024 → ℝ) (j : Fin 1024) (r : Fin 8192) : ℝ :=
  dpre (Y r) (D r) W G B j

/-- and to that of the bias before the norm, which is the cotangent of the row. -/
def rowOf (Y D : Fin 8192 → Fin 1024 → ℝ) (W : Fin 1024 → Fin 1024 → ℝ) (G B : Fin 1024 → ℝ) (j : Fin 1024) (r : Fin 8192) : ℝ :=
  Layer.dy (dpre (Y r) (D r) W G B) G (Y r) j

/-- The cotangent of the rows of a point. -/
theorem rows_at (H : Args m c Y D W G B) (t : Fin cfg0.N) (r : Fin 512) (j : Fin 1024) :
    rows m c t (ix2 r j) = ((rowOf Y D W G B j (row t.val (lt16 t) r) : ℝ) : EReal) := dy_at (blk H t) r j

/-- The three sums after block `b`: each block adds its rows. -/
theorem sums (H : Args m c Y D W G B) (b : ℕ) : ∀ (hb : b < 16) (t : Fin cfg0.N) (_ : t.val = b),
    (∀ j, (outsAt0 m c t.val t.isLt).2.1 (ix2 0 j) = ((Normed.blocks (gainOf Y D W G B j) b hb : ℝ) : EReal))
    ∧ (∀ j, (outsAt0 m c t.val t.isLt).2.2.1 (ix2 0 j) = ((Normed.blocks (biasOf Y D W G B j) b hb : ℝ) : EReal))
    ∧ ∀ j, (outsAt0 m c t.val t.isLt).2.2.2 (ix2 0 j) = ((Normed.blocks (rowOf Y D W G B j) b hb : ℝ) : EReal) := by
  induction b with
  | zero =>
    intro hb t ht
    rw [first m c t (by omega)]
    simp only [Normed.blocks_zero]
    refine ⟨fun j => (dgain_at (blk H t) zero2_at j).trans ?_, fun j => (dbias_at (blk H t) zero3_at j).trans ?_,
      fun j => (dfirst_at (rows_at H t) zero4_at j).trans ?_⟩
    all_goals (simp only [ht]; rfl)
  | succ b ih =>
    intro hb t ht
    obtain ⟨h1, h2, h3⟩ := ih (by omega) ⟨t.val - 1, Nat.lt_of_le_of_lt (Nat.sub_le _ _) t.isLt⟩ (show t.val - 1 = b by omega)
    rw [next m c t (by omega)]
    simp only [Normed.blocks_succ]
    refine ⟨fun j => (dgain_at (blk H t) h1 j).trans ?_, fun j => (dbias_at (blk H t) h2 j).trans ?_,
      fun j => (dfirst_at (rows_at H t) h3 j).trans ?_⟩
    all_goals (simp only [ht]; rfl)

/-- What each point writes of the cotangent of the rows. -/
theorem rows_out (H : Args m c Y D W G B) (t : Fin cfg0.N) (r : Fin 512) (j : Fin 1024) :
    (outsAt0 m c t.val t.isLt).1 (ix2 r j) = ((rowOf Y D W G B j (row t.val (lt16 t) r) : ℝ) : EReal) := by
  by_cases h : t.val % 16 = 0
  · rw [first m c t h]; exact rows_at H t r j
  · rw [next m c t h]; exact rows_at H t r j

theorem rowOf_congr {r r' : Fin 8192} {j j' : Fin 1024} (hr : r = r') (hj : j = j') :
    ((rowOf Y D W G B j r : ℝ) : EReal) = ((rowOf Y D W G B j' r' : ℝ) : EReal) := by
  subst hr hj; rfl

/-- The cotangent of the rows, after the run. -/
theorem final_rows (H : Args m c Y D W G B) (r : Fin 8192) (j : Fin 1024) :
    (dats m 0 c).arrAt 5 cfg0.N (ix2 r j) = ((rowOf Y D W G B j r : ℝ) : EReal) := by
  suffices h : (dats m 0 c).arrAt 5 cfg0.N = fun i : S8192x1024.Idx => ((rowOf Y D W G B (i 1) (i 0) : ℝ) : EReal) by
    rw [h]; rfl
  refine (dats m 0 c).arrAt_eq_of_covers 5 _ (by decide +kernel) fun t hf y => ?_
  blk_simp
  obtain ⟨r, j, rfl⟩ : ∃ (r : Fin 512) (j : Fin 1024), y = ix2 r j := ⟨_, _, eq_ix2 y⟩
  rw [after0_5, rows_out H t]
  refine rowOf_congr (Fin.ext ?_) (Fin.ext ?_)
  all_goals (blk_simp [idx t, row] <;> first | omega | (dsimp only; omega))

/-- The cotangent of the gain, after the run. -/
theorem final_gain (H : Args m c Y D W G B) (j : Fin 1024) :
    (dats m 0 c).arrAt 6 cfg0.N (ix2 0 j) = ((∑ r, gainOf Y D W G B j r : ℝ) : EReal) := by
  suffices h : (dats m 0 c).arrAt 6 cfg0.N = fun i : S1x1024.Idx => ((∑ r, gainOf Y D W G B (i 1) r : ℝ) : EReal) by
    rw [h]; rfl
  refine (dats m 0 c).arrAt_eq_of_covers 6 _ (by decide +kernel) fun t hf y => ?_
  have ht : t.val = 15 := by have := (flush0_6 t).mp hf; have := lt16 t; omega
  blk_simp
  obtain ⟨i, j, rfl⟩ : ∃ (i : Fin 1) (j : Fin 1024), y = ix2 i j := ⟨_, _, eq_ix2 y⟩
  obtain rfl : i = 0 := Subsingleton.elim _ _
  rw [after0_6, (sums H 15 (by omega) t ht).1 j, Normed.blocks_last]
  refine congrArg (fun j => ((∑ r, gainOf Y D W G B j r : ℝ) : EReal)) (Fin.ext ?_)
  blk_simp [idx t] <;> first | omega | (dsimp only; omega)

/-- The cotangent of the bias, after the run. -/
theorem final_bias (H : Args m c Y D W G B) (j : Fin 1024) :
    (dats m 0 c).arrAt 7 cfg0.N (ix2 0 j) = ((∑ r, biasOf Y D W G B j r : ℝ) : EReal) := by
  suffices h : (dats m 0 c).arrAt 7 cfg0.N = fun i : S1x1024.Idx => ((∑ r, biasOf Y D W G B (i 1) r : ℝ) : EReal) by
    rw [h]; rfl
  refine (dats m 0 c).arrAt_eq_of_covers 7 _ (by decide +kernel) fun t hf y => ?_
  have ht : t.val = 15 := by have := (flush0_7 t).mp hf; have := lt16 t; omega
  blk_simp
  obtain ⟨i, j, rfl⟩ : ∃ (i : Fin 1) (j : Fin 1024), y = ix2 i j := ⟨_, _, eq_ix2 y⟩
  obtain rfl : i = 0 := Subsingleton.elim _ _
  rw [after0_7, (sums H 15 (by omega) t ht).2.1 j, Normed.blocks_last]
  refine congrArg (fun j => ((∑ r, biasOf Y D W G B j r : ℝ) : EReal)) (Fin.ext ?_)
  blk_simp [idx t] <;> first | omega | (dsimp only; omega)

/-- The cotangent of the bias before the norm, after the run. -/
theorem final_first (H : Args m c Y D W G B) (j : Fin 1024) :
    (dats m 0 c).arrAt 8 cfg0.N (ix2 0 j) = ((∑ r, rowOf Y D W G B j r : ℝ) : EReal) := by
  suffices h : (dats m 0 c).arrAt 8 cfg0.N = fun i : S1x1024.Idx => ((∑ r, rowOf Y D W G B (i 1) r : ℝ) : EReal) by
    rw [h]; rfl
  refine (dats m 0 c).arrAt_eq_of_covers 8 _ (by decide +kernel) fun t hf y => ?_
  have ht : t.val = 15 := by have := (flush0_8 t).mp hf; have := lt16 t; omega
  blk_simp
  obtain ⟨i, j, rfl⟩ : ∃ (i : Fin 1) (j : Fin 1024), y = ix2 i j := ⟨_, _, eq_ix2 y⟩
  obtain rfl : i = 0 := Subsingleton.elim _ _
  rw [after0_8, (sums H 15 (by omega) t ht).2.2 j, Normed.blocks_last]
  refine congrArg (fun j => ((∑ r, rowOf Y D W G B j r : ℝ) : EReal)) (Fin.ext ?_)
  blk_simp [idx t] <;> first | omega | (dsimp only; omega)

end Cert.Kernel8Ideal.Value

end
-- ==== Proof.LayerRef.lean ====
module

public import proofs.«01_k».proof.Proof.Gen.Reference8Ideal.Read
public import proofs.«01_k».proof.Proof.Gen.Reference8Ideal.Run
public import proofs.«01_k».proof.Proof.Layer
public import Idealize.ShloMosaic.Lib.Pipeline.ValueKit
public import Idealize.ShloMosaic.Lib.Pipeline.Value
public import Idealize.ShloMosaic.Lib.KernelVsHost

/-! The gradient of the conformer convolution from its layer norm to its end, as the reference computes it over real
arguments. -/

@[expose] public section

set_option maxRecDepth 16384

noncomputable section

open Idealize.ShloMosaic Idealize.ShloMosaic.TcCoe Idealize.SL.Sem

namespace Cert.Reference8Ideal.Value

open Cert.Reference8Ideal Cert.Reference8Ideal.Gen Cert.Reference8Ideal.Read Proofs.Reals Proofs

variable {x0 x1 : FVec Ideal S8192x1024 .f32} {x2 : FVec Ideal S1x1024x1024 .bf16} {x3 x4 : FVec Ideal S1024 .f32}
variable {Y D : Fin 8192 → Fin 1024 → ℝ} {W : Fin 1024 → Fin 1024 → ℝ} {G B : Fin 1024 → ℝ}

/-- The rows, less their means. -/
theorem v11_at (h0 : ∀ r k, x0 (ix2 r k) = ((Y r k : ℝ) : EReal)) (r : Fin 8192) (j : Fin 1024) :
    val_main_v11 (F := Ideal) x0 (ix2 r j) = ((Layer.ctr (Y r) j : ℝ) : EReal) := by
  pointwise [val_main_v11, val_main_v10, val_main_v9, val_main_v8, val_main_cst_1, val_main_v7, val_main_v6, val_main_cst_0,
    val_main_v5, val_main_v4, val_main_v3, val_main_v2, val_main_cst]
  simp only [h0, Normed.length_bits, ← coe_sum, zero_add, add_zero]
  rw [div_coe_coe _ (by norm_num), ← EReal.coe_sub]
  rfl

/-- The variance of a row. -/
theorem v18_at (h0 : ∀ r k, x0 (ix2 r k) = ((Y r k : ℝ) : EReal)) (r : Fin 8192) :
    val_main_v18 (F := Ideal) x0 (ix2 r 0) = ((Normed.ms (Layer.ctr (Y r)) : ℝ) : EReal) := by
  pointwise [val_main_v18, val_main_v17, val_main_cst_4, val_main_v16, val_main_v15, val_main_cst_3, val_main_v14, val_main_v13,
    val_main_cst_2, val_main_v12]
  simp only [v11_at h0, Normed.eps_bits, Normed.length_bits, ← EReal.coe_mul, ← coe_sum, zero_add]
  rw [div_coe_coe _ (by norm_num), ← EReal.coe_add]
  rfl

/-- The reciprocal of the deviation of a row. -/
theorem v19_at (h0 : ∀ r k, x0 (ix2 r k) = ((Y r k : ℝ) : EReal)) (r : Fin 8192) :
    val_main_v19 (F := Ideal) x0 (ix2 r 0) = ((Normed.rho (Layer.ctr (Y r)) : ℝ) : EReal) := by
  pointwise [val_main_v19]
  rw [v18_at h0, Normed.rsqrt_ms]

/-- The derivative of the reciprocal of the deviation. -/
theorem v22_at (h0 : ∀ r k, x0 (ix2 r k) = ((Y r k : ℝ) : EReal)) (r : Fin 8192) :
    val_main_v22 (F := Ideal) x0 (ix2 r 0)
      = ((-(1 / 2) * (Normed.rho (Layer.ctr (Y r)) / Normed.ms (Layer.ctr (Y r))) : ℝ) : EReal) := by
  pointwise [val_main_v22, val_main_v21, val_main_cst_5, val_main_v20]
  rw [v18_at h0, v19_at h0, Normed.half_bits, div_coe_coe _ (Normed.ms_pos _).ne', ← EReal.coe_mul]

/-- The rows, normalised. -/
theorem v24_at (h0 : ∀ r k, x0 (ix2 r k) = ((Y r k : ℝ) : EReal)) (r : Fin 8192) (j : Fin 1024) :
    val_main_v24 (F := Ideal) x0 (ix2 r j) = ((Layer.hat (Y r) j : ℝ) : EReal) := by
  pointwise [val_main_v24, val_main_v23]
  rw [v11_at h0, v19_at h0, ← EReal.coe_mul]
  rfl

/-- What `silu` is taken of. -/
theorem v30_at (h0 : ∀ r k, x0 (ix2 r k) = ((Y r k : ℝ) : EReal)) (h3 : ∀ j, x3 (ix1 j) = ((G j : ℝ) : EReal))
    (h4 : ∀ j, x4 (ix1 j) = ((B j : ℝ) : EReal)) (r : Fin 8192) (j : Fin 1024) :
    val_main_v30 (F := Ideal) x0 x3 x4 (ix2 r j) = ((Layer.pre G B (Y r) j : ℝ) : EReal) := by
  pointwise [val_main_v30, val_main_v29, val_main_v28, val_main_v27, val_main_v26, val_main_v25]
  rw [v24_at h0, h3, h4, ← EReal.coe_mul, ← EReal.coe_add]
  rfl

/-- Its logistic function. -/
theorem sig_at (h0 : ∀ r k, x0 (ix2 r k) = ((Y r k : ℝ) : EReal)) (h3 : ∀ j, x3 (ix1 j) = ((G j : ℝ) : EReal))
    (h4 : ∀ j, x4 (ix1 j) = ((B j : ℝ) : EReal)) (r : Fin 8192) (j : Fin 1024) :
    val_main_v31_2 (F := Ideal) x0 x3 x4 (ix2 r j) = ((Gated.sig (Layer.pre G B (Y r) j) : ℝ) : EReal) := by
  pointwise [val_main_v31_2, val_main_call0_v4, val_main_call0_cst_0, val_main_call0_v3, val_main_call0_v2, val_main_call0_cst,
    val_main_call0_v1, val_main_call0_v0]
  rw [v30_at h0 h3 h4, ← EReal.coe_neg, Ideal.exp_coe, ← EReal.coe_one, Gated.sig_coe]

/-- The cotangent of `silu`. -/
theorem v33_at (h1 : ∀ r k, x1 (ix2 r k) = ((D r k : ℝ) : EReal)) (h2 : ∀ j k, x2 (ix3 0 j k) = ((W j k : ℝ) : EReal))
    (r : Fin 8192) (j : Fin 1024) :
    val_main_v33 (F := Ideal) x1 x2 (ix2 r j) = ((Gated.back (D r) (W j) : ℝ) : EReal) := by
  pointwise [val_main_v33, val_main_v1, val_main_v0]
  simp only [h1, h2, ← EReal.coe_mul, ← coe_sum]
  rfl

/-- The cotangent of what `silu` is taken of, in one row. -/
def dpre (Y D : Fin 1024 → ℝ) (W : Fin 1024 → Fin 1024 → ℝ) (G B : Fin 1024 → ℝ) : Fin 1024 → ℝ :=
  Layer.dpre (fun k => Gated.back D (W k)) G B Y

section

variable (h0 : ∀ r k, x0 (ix2 r k) = ((Y r k : ℝ) : EReal)) (h1 : ∀ r k, x1 (ix2 r k) = ((D r k : ℝ) : EReal))
variable (h2 : ∀ j k, x2 (ix3 0 j k) = ((W j k : ℝ) : EReal)) (h3 : ∀ j, x3 (ix1 j) = ((G j : ℝ) : EReal))
variable (h4 : ∀ j, x4 (ix1 j) = ((B j : ℝ) : EReal))

include h0 h1 h2 h3 h4

theorem v34_at (r : Fin 8192) (j : Fin 1024) :
    val_main_v34 (F := Ideal) x0 x1 x2 x3 x4 (ix2 r j) = ((dpre (Y r) (D r) W G B j : ℝ) : EReal) := by
  unfold dpre
  rw [← Layer.dpre_eq]
  pointwise [val_main_v34, val_main_call1_v2, val_main_call1_v1, val_main_call1_v0, val_main_v31_1, val_main_call0_v7,
    val_main_call0_v6, val_main_call0_cst_1]
  simp only [v30_at h0 h3 h4, sig_at h0 h3 h4, v33_at h1 h2, ← EReal.coe_one, ← EReal.coe_mul, ← EReal.coe_sub, ← EReal.coe_add]

/-- The cotangent of the normalised rows. -/
theorem v42_at (r : Fin 8192) (j : Fin 1024) :
    val_main_v42 (F := Ideal) x0 x1 x2 x3 x4 (ix2 r j) = ((dpre (Y r) (D r) W G B j * G j : ℝ) : EReal) := by
  pointwise [val_main_v42, val_main_v41, val_main_v25]
  rw [v34_at h0 h1 h2 h3 h4, h3, ← EReal.coe_mul]

/-- The cotangent of the variance, over the length of the row. -/
theorem v53_at (r : Fin 8192) (j : Fin 1024) :
    val_main_v53 (F := Ideal) x0 x1 x2 x3 x4 (ix2 r j)
      = ((Normed.dms (dpre (Y r) (D r) W G B) G (Layer.ctr (Y r)) : ℝ) : EReal) := by
  pointwise [val_main_v53, val_main_v52, val_main_cst_12, val_main_v51, val_main_v50, val_main_cst_11, val_main_v49, val_main_v46,
    val_main_v45, val_main_cst_10, val_main_v44]
  simp only [Fin.sum_univ_one, v11_at h0, v22_at h0, v42_at h0 h1 h2 h3 h4, Normed.length_bits, ← EReal.coe_mul, ← coe_sum, zero_add]
  rw [div_coe_coe _ (by norm_num)]
  rfl

/-- The cotangent of the rows less their means. -/
theorem v57_at (r : Fin 8192) (j : Fin 1024) :
    val_main_v57 (F := Ideal) x0 x1 x2 x3 x4 (ix2 r j)
      = ((Layer.dctr (dpre (Y r) (D r) W G B) G (Y r) j : ℝ) : EReal) := by
  pointwise [val_main_v57, val_main_v56, val_main_v55, val_main_v54, val_main_v48, val_main_v47]
  simp only [v11_at h0, v19_at h0, v42_at h0 h1 h2 h3 h4, v53_at h0 h1 h2 h3 h4, ← EReal.coe_mul, ← EReal.coe_add]
  rfl

/-- The cotangent of the rows. -/
theorem dy_at (r : Fin 8192) (j : Fin 1024) :
    val_main_v65 (F := Ideal) x0 x1 x2 x3 x4 (ix2 r j)
      = ((Layer.dy (dpre (Y r) (D r) W G B) G (Y r) j : ℝ) : EReal) := by
  rw [← Layer.dy_eq]
  pointwise [val_main_v65, val_main_v64, val_main_v63, val_main_cst_15, val_main_v62, val_main_v61, val_main_cst_14, val_main_v60,
    val_main_v59, val_main_cst_13, val_main_v58]
  simp only [Fin.sum_univ_one, v57_at h0 h1 h2 h3 h4, Normed.length_bits, ← EReal.coe_neg, ← coe_sum, zero_add]
  rw [div_coe_coe _ (by norm_num), ← EReal.coe_add]

/-- The cotangent of the gain. -/
theorem dgain_at (j : Fin 1024) :
    val_main_v69 (F := Ideal) x0 x1 x2 x3 x4 (ix2 0 j)
      = ((∑ r, dpre (Y r) (D r) W G B j * Layer.hat (Y r) j : ℝ) : EReal) := by
  pointwise [val_main_v69, val_main_v43, val_main_cst_9, val_main_v40, val_main_v39, val_main_cst_8, val_main_v38]
  simp only [Fin.sum_univ_one, v24_at h0, v34_at h0 h1 h2 h3 h4, ← EReal.coe_mul, ← coe_sum, zero_add]
  exact congrArg _ (Finset.sum_congr rfl fun r _ => mul_comm _ _)

/-- The cotangent of the bias. -/
theorem dbias_at (j : Fin 1024) :
    val_main_v70 (F := Ideal) x0 x1 x2 x3 x4 (ix2 0 j) = ((∑ r, dpre (Y r) (D r) W G B j : ℝ) : EReal) := by
  pointwise [val_main_v70, val_main_v37, val_main_cst_7, val_main_v36, val_main_v35, val_main_cst_6]
  simp only [Fin.sum_univ_one, v34_at h0 h1 h2 h3 h4, ← coe_sum, zero_add]

/-- The cotangent of the bias before the norm. -/
theorem dfirst_at (j : Fin 1024) :
    val_main_v71 (F := Ideal) x0 x1 x2 x3 x4 (ix2 0 j)
      = ((∑ r, Layer.dy (dpre (Y r) (D r) W G B) G (Y r) j : ℝ) : EReal) := by
  pointwise [val_main_v71, val_main_v68, val_main_cst_17, val_main_v67, val_main_v66, val_main_cst_16]
  simp only [Fin.sum_univ_one, dy_at h0 h1 h2 h3 h4, ← coe_sum, zero_add]

end

end Cert.Reference8Ideal.Value

end
-- ==== Proof.LayerPair.lean ====
module

public import proofs.«01_k».proof.Proof.Finite
public import proofs.«01_k».proof.Proof.LayerKernel
public import proofs.«01_k».proof.Proof.LayerRef
public import proofs.«01_k».proof.Proof.Gen.Pre_finite8
public import proofs.«01_k».proof.Defs

/-! The gradient of the conformer convolution from its layer norm to its end, kernel and reference together: under the
precondition the arguments are arrays of real numbers, and on such arguments the two programs agree. -/

@[expose] public section

set_option maxRecDepth 16384

noncomputable section

open Idealize.ShloMosaic Idealize.ShloMosaic.TcCoe Idealize.SL.Sem Proofs

namespace Cert.LayerPair

open Cert.Kernel8Ideal Cert.Kernel8Ideal.Gen

variable (m : (ℓ : Loc nD τ sig) → Buf (Elt Ideal) ℓ) (c : Dev nD)

/-- The arguments are real under the precondition. -/
theorem args (h : Cert.Pre_Kernel8Ideal_finite8 m) :
    ∃ (Y D : Fin 8192 → Fin 1024 → ℝ) (W : Fin 1024 → Fin 1024 → ℝ) (G B : Fin 1024 → ℝ),
      Cert.Kernel8Ideal.Value.Args m c Y D W G B := by
  obtain ⟨h0, h1, h2, h3, h4⟩ := h c
  have e0 := Proofs.Finite.real_of_cmp _ _ h0
  have e1 := Proofs.Finite.real_of_cmp _ _ h1
  have e2 := Proofs.Finite.real_of_cmp _ _ h2
  have e3 := Proofs.Finite.real_of_cmp _ _ h3
  have e4 := Proofs.Finite.real_of_cmp _ _ h4
  exact ⟨fun r k => (e0 (ix2 r k)).choose, fun r k => (e1 (ix2 r k)).choose, fun j k => (e2 (ix3 0 j k)).choose,
    fun j => (e3 (ix1 j)).choose, fun j => (e4 (ix1 j)).choose,
    fun r k => (e0 (ix2 r k)).choose_spec, fun r k => (e1 (ix2 r k)).choose_spec, fun j k => (e2 (ix3 0 j k)).choose_spec,
    fun j => (e3 (ix1 j)).choose_spec, fun j => (e4 (ix1 j)).choose_spec⟩

/-- The cotangents of the rows agree. -/
theorem dy (h : Cert.Pre_Kernel8Ideal_finite8 m) : Cert.Reference8Ideal.Read.val_main_v65 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) = (dats m 0 c).arrAt 5 cfg0.N := by
  obtain ⟨Y, D, W, G, B, H⟩ := args m c h
  obtain ⟨h0, h1, h2, h3, h4⟩ := id H
  funext i
  obtain ⟨r, j, rfl⟩ : ∃ r j, i = ix2 r j := ⟨_, _, eq_ix2 i⟩
  exact (Cert.Reference8Ideal.Value.dy_at h0 h1 h2 h3 h4 r j).trans (Cert.Kernel8Ideal.Value.final_rows H r j).symm

/-- The cotangents of the gain agree. -/
theorem dg (h : Cert.Pre_Kernel8Ideal_finite8 m) : Cert.Reference8Ideal.Read.val_main_v69 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) = (dats m 0 c).arrAt 6 cfg0.N := by
  obtain ⟨Y, D, W, G, B, H⟩ := args m c h
  obtain ⟨h0, h1, h2, h3, h4⟩ := id H
  funext i
  obtain ⟨z, j, rfl⟩ : ∃ (z : Fin 1) (j : Fin 1024), i = ix2 z j := ⟨_, _, eq_ix2 i⟩
  obtain rfl : z = 0 := Subsingleton.elim _ _
  exact (Cert.Reference8Ideal.Value.dgain_at h0 h1 h2 h3 h4 j).trans (Cert.Kernel8Ideal.Value.final_gain H j).symm

/-- The cotangents of the bias agree. -/
theorem db (h : Cert.Pre_Kernel8Ideal_finite8 m) : Cert.Reference8Ideal.Read.val_main_v70 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) = (dats m 0 c).arrAt 7 cfg0.N := by
  obtain ⟨Y, D, W, G, B, H⟩ := args m c h
  obtain ⟨h0, h1, h2, h3, h4⟩ := id H
  funext i
  obtain ⟨z, j, rfl⟩ : ∃ (z : Fin 1) (j : Fin 1024), i = ix2 z j := ⟨_, _, eq_ix2 i⟩
  obtain rfl : z = 0 := Subsingleton.elim _ _
  exact (Cert.Reference8Ideal.Value.dbias_at h0 h1 h2 h3 h4 j).trans (Cert.Kernel8Ideal.Value.final_bias H j).symm

/-- The cotangents of the bias before the norm agree. -/
theorem ddb (h : Cert.Pre_Kernel8Ideal_finite8 m) : Cert.Reference8Ideal.Read.val_main_v71 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) = (dats m 0 c).arrAt 8 cfg0.N := by
  obtain ⟨Y, D, W, G, B, H⟩ := args m c h
  obtain ⟨h0, h1, h2, h3, h4⟩ := id H
  funext i
  obtain ⟨z, j, rfl⟩ : ∃ (z : Fin 1) (j : Fin 1024), i = ix2 z j := ⟨_, _, eq_ix2 i⟩
  obtain rfl : z = 0 := Subsingleton.elim _ _
  exact (Cert.Reference8Ideal.Value.dfirst_at h0 h1 h2 h3 h4 j).trans (Cert.Kernel8Ideal.Value.final_first H j).symm

end Cert.LayerPair

end
-- ==== Proof.Head.lean ====
module

public import proofs.«01_k».proof.Proof.Normed

/-! The head of the loss over one row of 1024 real numbers: half the mean square of what a root mean square norm with a gain
leaves of the target, and its gradients. -/

@[expose] public section

noncomputable section

open Idealize.ShloMosaic

namespace Proofs.Head

open Proofs.Reals

/-- The bits of one half, -/
theorem half_bits : Ideal.ofBits .f32 0x3F000000#32 = ((1 / 2 : ℝ) : EReal) := by
  simp [Ideal.ofBits, Ideal.ieee, -EReal.coe_mul]
  norm_num

/-- of two, -/
theorem two_bits : Ideal.ofBits .f32 0x40000000#32 = ((2 : ℝ) : EReal) := by
  simp [Ideal.ofBits, Ideal.ieee, -EReal.coe_mul]
  norm_num

/-- of one over the length of a row, -/
theorem inv_bits : Ideal.ofBits .f32 0x3A800000#32 = ((1 / 1024 : ℝ) : EReal) := by
  simp [Ideal.ofBits, Ideal.ieee, -EReal.coe_mul]
  norm_num

/-- and of half of that. -/
theorem half_inv_bits : Ideal.ofBits .f32 0x3A000000#32 = ((1 / 2048 : ℝ) : EReal) := by
  simp [Ideal.ofBits, Ideal.ieee, -EReal.coe_mul]
  norm_num

/-- A row of the last activations: the last product, and the row that passes it by. -/
def last (A : Fin 2816 → ℝ) (W : Fin 2816 → Fin 1024 → ℝ) (E : Fin 1024 → ℝ) (j : Fin 1024) : ℝ := ∑ k, A k * W k j + E j

/-- What the norm leaves of the target. -/
def diff (x g t : Fin 1024 → ℝ) (j : Fin 1024) : ℝ := x j * Normed.rho x * g j - t j

/-- The loss of a row. -/
def loss (x g t : Fin 1024 → ℝ) : ℝ := (∑ j, diff x g t j * diff x g t j) * (1 / 2048)

/-- The cotangent of the norm. -/
def dy (x g t : Fin 1024 → ℝ) (j : Fin 1024) : ℝ := diff x g t j * (1 / 1024)

/-- The loss of all the rows is half the sum of their mean squares. -/
theorem loss_eq (x t : Fin 8192 → Fin 1024 → ℝ) (g : Fin 1024 → ℝ) :
    1 / 2 * ∑ r, (∑ j, diff (x r) g (t r) j * diff (x r) g (t r) j) / 1024 = ∑ r, loss (x r) g (t r) := by
  rw [Finset.mul_sum]
  refine Finset.sum_congr rfl fun r _ => ?_
  unfold loss
  ring

/-- The cotangent of the norm by the product rule. -/
theorem dy_eq (x g t : Fin 1024 → ℝ) (j : Fin 1024) : 1 / 2 / 1024 * (2 * diff x g t j) = dy x g t j := by
  unfold dy
  ring

end Proofs.Head

end
-- ==== Proof.HeadKernel.lean ====
module

public import proofs.«01_k».proof.Proof.Gen.Kernel9Ideal.Value
public import proofs.«01_k».proof.Proof.Head
public import Idealize.ShloMosaic.Lib.Pipeline.ReadBack
public import Idealize.ShloMosaic.Lib.StableHlo.Run

/-! The head of the loss and its gradients, as the kernel computes them over real arguments: each point of the grid takes 512
rows, and adds to the loss and to the cotangent of the gain. -/

@[expose] public section

set_option maxRecDepth 16384

noncomputable section

open Idealize.ShloMosaic Idealize.ShloMosaic.TcCoe Idealize.SL.Sem

namespace Cert.Kernel9Ideal.Value

open Cert.Kernel9Ideal Cert.Kernel9Ideal.Gen Proofs.Reals Proofs

/-! ## One block -/

section block

/-- The block of rows a point of the grid works on, as arrays of real numbers. -/
structure Rows (x0 : Vec Ideal S512x2816 .bf16) (x1 : Vec Ideal S1x2816x1024 .bf16) (x2 : Vec Ideal S512x1024 .f32)
    (x3 : Vec Ideal S1x1024 .f32) (x4 : Vec Ideal S512x1024 .f32) (A : Fin 512 → Fin 2816 → ℝ) (W : Fin 2816 → Fin 1024 → ℝ)
    (E : Fin 512 → Fin 1024 → ℝ) (G : Fin 1024 → ℝ) (T : Fin 512 → Fin 1024 → ℝ) : Prop where
  a : ∀ r k, x0 (ix2 r k) = ((A r k : ℝ) : EReal)
  w : ∀ k j, x1 (ix3 0 k j) = ((W k j : ℝ) : EReal)
  e : ∀ r j, x2 (ix2 r j) = ((E r j : ℝ) : EReal)
  g : ∀ j, x3 (ix2 0 j) = ((G j : ℝ) : EReal)
  t : ∀ r j, x4 (ix2 r j) = ((T r j : ℝ) : EReal)

variable {x0 : Vec Ideal S512x2816 .bf16} {x1 : Vec Ideal S1x2816x1024 .bf16} {x2 : Vec Ideal S512x1024 .f32}
variable {x3 : Vec Ideal S1x1024 .f32} {x4 : Vec Ideal S512x1024 .f32} {A : Fin 512 → Fin 2816 → ℝ} {W : Fin 2816 → Fin 1024 → ℝ}
variable {E : Fin 512 → Fin 1024 → ℝ} {G : Fin 1024 → ℝ} {T : Fin 512 → Fin 1024 → ℝ}

section

variable (H : Rows x0 x1 x2 x3 x4 A W E G T)

include H

/-- The last activations. -/
theorem last_at (r : Fin 512) (j : Fin 1024) : k0_pay5 (F := Ideal) x0 x1 x2 (ix2 r j) = ↑(Head.last (A r) W (E r) j) := by
  pointwise [k0_pay5]
  simp only [H.a, H.w, H.e, ← EReal.coe_mul, ← coe_sum]
  rw [← EReal.coe_add]
  rfl

/-- The reciprocal of the norm of a row. -/
theorem rho_at (r : Fin 512) : k0_pay6 (F := Ideal) x0 x1 x2 (ix2 r 0) = ↑(Normed.rho (Head.last (A r) W (E r))) := by
  rw [← Normed.rsqrt_ms]
  pointwise [k0_pay6]
  simp only [last_at H, Normed.eps_bits, Normed.length_bits, ← EReal.coe_mul, ← coe_sum, zero_add]
  rw [div_coe_coe _ (by norm_num), ← EReal.coe_add]
  rfl

/-- The rows, normalised. -/
theorem normed_at (r : Fin 512) (j : Fin 1024) : k0_pay7 (F := Ideal) x0 x1 x2 (ix2 r j)
    = ↑(Head.last (A r) W (E r) j * Normed.rho (Head.last (A r) W (E r))) := by
  pointwise [k0_pay7]
  rw [last_at H, rho_at H, ← EReal.coe_mul]

theorem gain_at (j : Fin 1024) : k0_pay8 (F := Ideal) x3 (ix2 0 j) = ↑(G j) := by
  pointwise [k0_pay8]
  exact H.g j

/-- What the norm leaves of the target. -/
theorem diff_at (r : Fin 512) (j : Fin 1024) : k0_pay9 (F := Ideal) x0 x1 x2 x3 x4 (ix2 r j)
    = ↑(Head.diff (Head.last (A r) W (E r)) G (T r) j) := by
  pointwise [k0_pay9]
  rw [normed_at H, gain_at H, H.t, ← EReal.coe_mul, ← EReal.coe_sub]
  rfl

/-- The cotangent of the norm. -/
theorem dy_at (r : Fin 512) (j : Fin 1024) : k0_pay2 (F := Ideal) (k0_pay9 (F := Ideal) x0 x1 x2 x3 x4) (ix2 r j)
    = ↑(Head.dy (Head.last (A r) W (E r)) G (T r) j) := by
  pointwise [k0_pay2]
  rw [diff_at H, Head.inv_bits, ← EReal.coe_mul]
  rfl

/-- What the rows of a block add to the loss, -/
theorem sum_at {p : Vec Ideal S8x128 .f32} {P : ℝ} (a : Fin 8) (b : Fin 128) (hp : p (ix2 a b) = ↑P) :
    k0_pay1 (F := Ideal) (k0_pay12 (F := Ideal) p) (k0_pay13 (F := Ideal) x0 x1 x2 x3 x4) (ix2 a b)
      = ((P + ∑ r, Head.loss (Head.last (A r) W (E r)) G (T r) : ℝ) : EReal) := by
  pointwise [k0_pay1, k0_pay12, k0_pay13]
  simp only [diff_at H, hp, Head.half_inv_bits, ← EReal.coe_mul, ← coe_sum, zero_add]
  rw [← EReal.coe_add, Finset.sum_mul]
  rfl

/-- and to the cotangent of the gain. -/
theorem dgain_at {p : Vec Ideal S1x1024 .f32} {P : Fin 1024 → ℝ} (hp : ∀ j, p (ix2 0 j) = ↑(P j)) (j : Fin 1024) :
    k0_pay3 (F := Ideal) (k0_pay7 (F := Ideal) x0 x1 x2) (k0_pay9 (F := Ideal) x0 x1 x2 x3 x4) p (ix2 0 j)
      = ((P j + ∑ r, Head.dy (Head.last (A r) W (E r)) G (T r) j
        * (Head.last (A r) W (E r) j * Normed.rho (Head.last (A r) W (E r))) : ℝ) : EReal) := by
  pointwise [k0_pay3]
  simp only [dy_at H, normed_at H, hp, ← EReal.coe_mul, ← coe_sum, zero_add]
  rw [← EReal.coe_add]

/-- The cotangent of the last activations. -/
theorem dx_at (r : Fin 512) (j : Fin 1024) :
    k0_pay4 (F := Ideal) (k0_pay6 (F := Ideal) x0 x1 x2) (k0_pay7 (F := Ideal) x0 x1 x2) (k0_pay8 (F := Ideal) x3)
      (k0_pay9 (F := Ideal) x0 x1 x2 x3 x4) (ix2 r j)
      = ↑(Normed.dx (Head.dy (Head.last (A r) W (E r)) G (T r)) G (Head.last (A r) W (E r)) 0 j) := by
  pointwise [k0_pay4]
  simp only [dy_at H, normed_at H, rho_at H, gain_at H, Normed.length_bits, ← EReal.coe_mul, ← coe_sum, zero_add]
  rw [div_coe_coe _ (by norm_num)]
  simp only [← EReal.coe_mul, ← EReal.coe_sub]
  exact congrArg Real.toEReal (zero_add _).symm

end

theorem zero10_at (a : Fin 8) (b : Fin 128) : k0_pay10 (F := Ideal) (ix2 a b) = ((0 : ℝ) : EReal) := by
  pointwise [k0_pay10]
  rfl

theorem zero11_at (j : Fin 1024) : k0_pay11 (F := Ideal) (ix2 0 j) = ((0 : ℝ) : EReal) := by
  pointwise [k0_pay11]
  rfl

end block

/-! ## The points of the grid -/

variable (m : (ℓ : Loc nD τ sig) → Buf (Elt Ideal) ℓ) (c : Dev nD)

/-- What the norm leaves of the target, at a point. -/
abbrev left (t : Fin cfg0.N) : Vec Ideal S512x1024 .f32 :=
  k0_pay9 (F := Ideal) (iblk m c 0 t) (iblk m c 1 t) (iblk m c 2 t) (iblk m c 3 t) (iblk m c 4 t)

/-- The loss after a point, from what it was before it. -/
abbrev total (t : Fin cfg0.N) (p : Vec Ideal S8x128 .f32) : Vec Ideal S8x128 .f32 :=
  k0_pay1 (F := Ideal) (k0_pay12 (F := Ideal) p)
    (k0_pay13 (F := Ideal) (iblk m c 0 t) (iblk m c 1 t) (iblk m c 2 t) (iblk m c 3 t) (iblk m c 4 t))

/-- The cotangent of the last activations at a point. -/
abbrev rows (t : Fin cfg0.N) : Vec Ideal S512x1024 .f32 :=
  k0_pay4 (F := Ideal) (k0_pay6 (F := Ideal) (iblk m c 0 t) (iblk m c 1 t) (iblk m c 2 t))
    (k0_pay7 (F := Ideal) (iblk m c 0 t) (iblk m c 1 t) (iblk m c 2 t)) (k0_pay8 (F := Ideal) (iblk m c 3 t)) (left m c t)

/-- The cotangent of the gain after a point, from what it was before it. -/
abbrev gain (t : Fin cfg0.N) (p : Vec Ideal S1x1024 .f32) : Vec Ideal S1x1024 .f32 :=
  k0_pay3 (F := Ideal) (k0_pay7 (F := Ideal) (iblk m c 0 t) (iblk m c 1 t) (iblk m c 2 t)) (left m c t) p

/-- What a point leaves in the three outputs, from what the point before left. -/
theorem first (t : Fin cfg0.N) (h : t.val % 16 = 0) : outsAt0 m c t.val t.isLt
    = (total m c t (k0_pay10 (F := Ideal)), rows m c t, gain m c t (k0_pay11 (F := Ideal))) := by
  rw [outsAt0_A m c t h]
  frame_open
  simp (disch := decide) only [↓ View.readCov_skip, ↓ View.readCov_cons_toLoadRect, ↓ View.readCov_fill]
  frame_out

theorem next (t : Fin cfg0.N) (h : ¬ t.val % 16 = 0) : outsAt0 m c t.val t.isLt
    = (total m c t (outsAt0 m c (t.val - 1) (Nat.lt_of_le_of_lt (Nat.sub_le _ _) t.isLt)).1, rows m c t,
      gain m c t (outsAt0 m c (t.val - 1) (Nat.lt_of_le_of_lt (Nat.sub_le _ _) t.isLt)).2.2) := by
  rw [outsAt0_B m c t h]
  frame_open
  simp (disch := decide) only [↓ View.readCov_skip, ↓ View.readCov_cons_toLoadRect, ↓ View.readCov_fill]
  frame_out

/-! ## The arrays -/

variable (A : Fin 8192 → Fin 2816 → ℝ) (W : Fin 2816 → Fin 1024 → ℝ) (E : Fin 8192 → Fin 1024 → ℝ) (G : Fin 1024 → ℝ)
variable (T : Fin 8192 → Fin 1024 → ℝ)

/-- The arguments of the kernel are the real arrays `A`, `W`, `E`, `G` and `T`. -/
def Args : Prop :=
  (∀ r k, m ((c : Thread nD τ).loc main_arg0) (ix2 r k) = ((A r k : ℝ) : EReal))
  ∧ (∀ k j, m ((c : Thread nD τ).loc main_arg1) (ix3 0 k j) = ((W k j : ℝ) : EReal))
  ∧ (∀ r j, m ((c : Thread nD τ).loc main_arg2) (ix2 r j) = ((E r j : ℝ) : EReal))
  ∧ (∀ j, m ((c : Thread nD τ).loc main_arg3) (ix1 j) = ((G j : ℝ) : EReal))
  ∧ (∀ r j, m ((c : Thread nD τ).loc main_arg4) (ix2 r j) = ((T r j : ℝ) : EReal))

variable {m c A W E G T}

/-- The block indices of the windows at each point of the grid. -/
theorem idx : ∀ t : Fin cfg0.N, win0_0.index t = ![t.val, 0] ∧ win0_1.index t = ![0, 0, 0]
    ∧ win0_2.index t = ![t.val, 0] ∧ win0_3.index t = ![0, 0] ∧ win0_4.index t = ![t.val, 0]
    ∧ win0_5.index t = ![0, 0] ∧ win0_6.index t = ![t.val, 0] ∧ win0_7.index t = ![0, 0] :=
  (by decide +kernel : ∀ t : Fin grid0.N, _)

/-- The grid has sixteen points. -/
theorem lt16 (t : Fin cfg0.N) : t.val < 16 := lt_of_lt_of_eq t.isLt N_0

/-- The row of the array at row `r` of block `b`. -/
def row (b : ℕ) (hb : b < 16) (r : Fin 512) : Fin 8192 := ⟨b * 512 + r, by omega⟩

/-- The gain, as a row. -/
theorem entry_gain (m : (ℓ : Loc nD τ sig) → Buf (Elt Ideal) ℓ) (c : Dev nD) : V m c main_v0
    = shapeCast S1x1024 (m ((c : Thread nD τ).loc main_arg3)) shapeCasts_S1024_S1x1024 := by
  unfold_abbrev_sides
  after_results
  try rfl

/-- The blocks of a point. -/
theorem blk (H : Args m c A W E G T) (t : Fin cfg0.N) :
    Rows (iblk m c 0 t) (iblk m c 1 t) (iblk m c 2 t) (iblk m c 3 t) (iblk m c 4 t)
      (fun r => A (row t.val (lt16 t) r)) W (fun r => E (row t.val (lt16 t) r)) G (fun r => T (row t.val (lt16 t) r)) where
  a r k := by rw [← H.1]; blk_ext [iblk, V, idx t, row]
  w k j := by rw [← H.2.1]; blk_ext [iblk, V, idx t]
  e r j := by rw [← H.2.2.1]; blk_ext [iblk, V, idx t, row]
  g j := by
    rw [← H.2.2.2.1]
    show V m c main_v0 ((win0_3.blk t).view.emb (ix2 0 j)) = _
    rw [entry_gain]
    refine shapeCast_apply _ _ _ _ ?_
    refine (Shape.rowMajor_val_one _).trans (Eq.trans ?_ (Shape.rowMajor_val_two _).symm)
    blk_simp [idx t]
    exact (show (j : ℕ) = 0 * 1024 + j by omega)
  t r j := by rw [← H.2.2.2.2]; blk_ext [iblk, V, idx t, row]

/-- The loss of a row, -/
def lossOf (A : Fin 8192 → Fin 2816 → ℝ) (W : Fin 2816 → Fin 1024 → ℝ) (E : Fin 8192 → Fin 1024 → ℝ) (G : Fin 1024 → ℝ)
    (T : Fin 8192 → Fin 1024 → ℝ) (r : Fin 8192) : ℝ := Head.loss (Head.last (A r) W (E r)) G (T r)

/-- what it adds to the cotangent of the gain, -/
def gainOf (A : Fin 8192 → Fin 2816 → ℝ) (W : Fin 2816 → Fin 1024 → ℝ) (E : Fin 8192 → Fin 1024 → ℝ) (G : Fin 1024 → ℝ)
    (T : Fin 8192 → Fin 1024 → ℝ) (j : Fin 1024) (r : Fin 8192) : ℝ :=
  Head.dy (Head.last (A r) W (E r)) G (T r) j * (Head.last (A r) W (E r) j * Normed.rho (Head.last (A r) W (E r)))

/-- and its cotangent. -/
def rowOf (A : Fin 8192 → Fin 2816 → ℝ) (W : Fin 2816 → Fin 1024 → ℝ) (E : Fin 8192 → Fin 1024 → ℝ) (G : Fin 1024 → ℝ)
    (T : Fin 8192 → Fin 1024 → ℝ) (j : Fin 1024) (r : Fin 8192) : ℝ :=
  Normed.dx (Head.dy (Head.last (A r) W (E r)) G (T r)) G (Head.last (A r) W (E r)) 0 j

/-- The two sums after block `b`: each block adds its rows. -/
theorem sums (H : Args m c A W E G T) (b : ℕ) : ∀ (hb : b < 16) (t : Fin cfg0.N) (_ : t.val = b),
    (∀ u v, (outsAt0 m c t.val t.isLt).1 (ix2 u v) = ((Normed.blocks (lossOf A W E G T) b hb : ℝ) : EReal))
    ∧ ∀ j, (outsAt0 m c t.val t.isLt).2.2 (ix2 0 j) = ((Normed.blocks (gainOf A W E G T j) b hb : ℝ) : EReal) := by
  induction b with
  | zero =>
    intro hb t ht
    rw [first m c t (by omega)]
    simp only [Normed.blocks_zero]
    refine ⟨fun u v => (sum_at (blk H t) u v (zero10_at u v)).trans ?_, fun j => (dgain_at (blk H t) zero11_at j).trans ?_⟩
    all_goals (simp only [ht]; rfl)
  | succ b ih =>
    intro hb t ht
    obtain ⟨h1, h2⟩ := ih (by omega) ⟨t.val - 1, Nat.lt_of_le_of_lt (Nat.sub_le _ _) t.isLt⟩ (show t.val - 1 = b by omega)
    rw [next m c t (by omega)]
    simp only [Normed.blocks_succ]
    refine ⟨fun u v => (sum_at (blk H t) u v (h1 u v)).trans ?_, fun j => (dgain_at (blk H t) h2 j).trans ?_⟩
    all_goals (simp only [ht]; rfl)

/-- What each point writes of the cotangent of the last activations. -/
theorem rows_out (H : Args m c A W E G T) (t : Fin cfg0.N) (r : Fin 512) (j : Fin 1024) :
    (outsAt0 m c t.val t.isLt).2.1 (ix2 r j) = ((rowOf A W E G T j (row t.val (lt16 t) r) : ℝ) : EReal) := by
  by_cases h : t.val % 16 = 0
  · rw [first m c t h]; exact dx_at (blk H t) r j
  · rw [next m c t h]; exact dx_at (blk H t) r j

theorem rowOf_congr {r r' : Fin 8192} {j j' : Fin 1024} (hr : r = r') (hj : j = j') :
    ((rowOf A W E G T j r : ℝ) : EReal) = ((rowOf A W E G T j' r' : ℝ) : EReal) := by
  subst hr hj; rfl

/-- The loss, after the run. -/
theorem final_loss (H : Args m c A W E G T) (u : Fin 8) (v : Fin 128) :
    (dats m 0 c).arrAt 5 cfg0.N (ix2 u v) = ((∑ r, lossOf A W E G T r : ℝ) : EReal) := by
  suffices h : (dats m 0 c).arrAt 5 cfg0.N = fun _ : S8x128.Idx => ((∑ r, lossOf A W E G T r : ℝ) : EReal) by
    rw [h]
  refine (dats m 0 c).arrAt_eq_of_covers 5 _ (by decide +kernel) fun t hf y => ?_
  have ht : t.val = 15 := by have := (flush0_5 t).mp hf; have := lt16 t; omega
  blk_simp
  obtain ⟨u, v, rfl⟩ : ∃ (u : Fin 8) (v : Fin 128), y = ix2 u v := ⟨_, _, eq_ix2 y⟩
  rw [after0_5, (sums H 15 (by omega) t ht).1 u v, Normed.blocks_last]

/-- The cotangent of the last activations, after the run. -/
theorem final_rows (H : Args m c A W E G T) (r : Fin 8192) (j : Fin 1024) :
    (dats m 0 c).arrAt 6 cfg0.N (ix2 r j) = ((rowOf A W E G T j r : ℝ) : EReal) := by
  suffices h : (dats m 0 c).arrAt 6 cfg0.N = fun i : S8192x1024.Idx => ((rowOf A W E G T (i 1) (i 0) : ℝ) : EReal) by
    rw [h]; rfl
  refine (dats m 0 c).arrAt_eq_of_covers 6 _ (by decide +kernel) fun t hf y => ?_
  blk_simp
  obtain ⟨r, j, rfl⟩ : ∃ (r : Fin 512) (j : Fin 1024), y = ix2 r j := ⟨_, _, eq_ix2 y⟩
  rw [after0_6, rows_out H t]
  refine rowOf_congr (Fin.ext ?_) (Fin.ext ?_)
  all_goals (blk_simp [idx t, row] <;> first | omega | (dsimp only; omega))

/-- The cotangent of the gain, after the run. -/
theorem final_gain (H : Args m c A W E G T) (j : Fin 1024) :
    (dats m 0 c).arrAt 7 cfg0.N (ix2 0 j) = ((∑ r, gainOf A W E G T j r : ℝ) : EReal) := by
  suffices h : (dats m 0 c).arrAt 7 cfg0.N = fun i : S1x1024.Idx => ((∑ r, gainOf A W E G T (i 1) r : ℝ) : EReal) by
    rw [h]; rfl
  refine (dats m 0 c).arrAt_eq_of_covers 7 _ (by decide +kernel) fun t hf y => ?_
  have ht : t.val = 15 := by have := (flush0_7 t).mp hf; have := lt16 t; omega
  blk_simp
  obtain ⟨i, j, rfl⟩ : ∃ (i : Fin 1) (j : Fin 1024), y = ix2 i j := ⟨_, _, eq_ix2 y⟩
  obtain rfl : i = 0 := Subsingleton.elim _ _
  rw [after0_7, (sums H 15 (by omega) t ht).2 j, Normed.blocks_last]
  refine congrArg (fun j => ((∑ r, gainOf A W E G T j r : ℝ) : EReal)) (Fin.ext ?_)
  blk_simp [idx t] <;> first | omega | (dsimp only; omega)

end Cert.Kernel9Ideal.Value

end
-- ==== Proof.HeadRef.lean ====
module

public import proofs.«01_k».proof.Proof.Gen.Reference9Ideal.Read
public import proofs.«01_k».proof.Proof.Gen.Reference9Ideal.Run
public import proofs.«01_k».proof.Proof.Head
public import Idealize.ShloMosaic.Lib.Pipeline.ValueKit
public import Idealize.ShloMosaic.Lib.Pipeline.Value
public import Idealize.ShloMosaic.Lib.KernelVsHost

/-! The head of the loss and its gradients, as the reference computes them over real arguments. -/

@[expose] public section

set_option maxRecDepth 16384

noncomputable section

open Idealize.ShloMosaic Idealize.ShloMosaic.TcCoe Idealize.SL.Sem

namespace Cert.Reference9Ideal.Value

open Cert.Reference9Ideal Cert.Reference9Ideal.Gen Cert.Reference9Ideal.Read Proofs.Reals Proofs

variable {x0 : FVec Ideal S8192x2816 .bf16} {x1 : FVec Ideal S1x2816x1024 .bf16} {x2 : FVec Ideal S8192x1024 .f32}
variable {x3 : FVec Ideal S1024 .f32} {x4 : FVec Ideal S8192x1024 .f32} {A : Fin 8192 → Fin 2816 → ℝ}
variable {W : Fin 2816 → Fin 1024 → ℝ} {E : Fin 8192 → Fin 1024 → ℝ} {G : Fin 1024 → ℝ} {T : Fin 8192 → Fin 1024 → ℝ}

section

variable (h0 : ∀ r k, x0 (ix2 r k) = ((A r k : ℝ) : EReal)) (h1 : ∀ k j, x1 (ix3 0 k j) = ((W k j : ℝ) : EReal))
variable (h2 : ∀ r j, x2 (ix2 r j) = ((E r j : ℝ) : EReal))

include h0 h1 h2

/-- The last activations. -/
theorem v4_at (r : Fin 8192) (j : Fin 1024) :
    val_main_v4 (F := Ideal) x0 x1 x2 (ix2 r j) = ((Head.last (A r) W (E r) j : ℝ) : EReal) := by
  pointwise [val_main_v4, val_main_v3, val_main_v2, val_main_v1, val_main_v0]
  simp only [h0, h1, h2, ← EReal.coe_mul, ← coe_sum]
  rw [← EReal.coe_add, add_comm]
  rfl

/-- The mean square of a row. -/
theorem v11_at (r : Fin 8192) :
    val_main_v11 (F := Ideal) x0 x1 x2 (ix2 r 0) = ((Normed.ms (Head.last (A r) W (E r)) : ℝ) : EReal) := by
  pointwise [val_main_v11, val_main_v10, val_main_cst_1, val_main_v9, val_main_v8, val_main_cst_0, val_main_v7, val_main_v6,
    val_main_cst, val_main_v5]
  simp only [v4_at h0 h1 h2, Normed.eps_bits, Normed.length_bits, ← EReal.coe_mul, ← coe_sum, zero_add]
  rw [div_coe_coe _ (by norm_num), ← EReal.coe_add]
  rfl

/-- The reciprocal of the norm of a row. -/
theorem v12_at (r : Fin 8192) :
    val_main_v12 (F := Ideal) x0 x1 x2 (ix2 r 0) = ((Normed.rho (Head.last (A r) W (E r)) : ℝ) : EReal) := by
  pointwise [val_main_v12]
  rw [v11_at h0 h1 h2, Normed.rsqrt_ms]

/-- The derivative of the reciprocal of the norm. -/
theorem v15_at (r : Fin 8192) : val_main_v15 (F := Ideal) x0 x1 x2 (ix2 r 0)
    = ((-(1 / 2) * (Normed.rho (Head.last (A r) W (E r)) / Normed.ms (Head.last (A r) W (E r))) : ℝ) : EReal) := by
  pointwise [val_main_v15, val_main_v14, val_main_cst_2, val_main_v13]
  rw [v11_at h0 h1 h2, v12_at h0 h1 h2, Normed.half_bits, div_coe_coe _ (Normed.ms_pos _).ne', ← EReal.coe_mul]

/-- The rows, normalised. -/
theorem v17_at (r : Fin 8192) (j : Fin 1024) : val_main_v17 (F := Ideal) x0 x1 x2 (ix2 r j)
    = ((Head.last (A r) W (E r) j * Normed.rho (Head.last (A r) W (E r)) : ℝ) : EReal) := by
  pointwise [val_main_v17, val_main_v16]
  rw [v4_at h0 h1 h2, v12_at h0 h1 h2, ← EReal.coe_mul]

variable (h3 : ∀ j, x3 (ix1 j) = ((G j : ℝ) : EReal)) (h4 : ∀ r j, x4 (ix2 r j) = ((T r j : ℝ) : EReal))

include h3 h4

/-- What the norm leaves of the target. -/
theorem v21_at (r : Fin 8192) (j : Fin 1024) : val_main_v21 (F := Ideal) x0 x1 x2 x3 x4 (ix2 r j)
    = ((Head.diff (Head.last (A r) W (E r)) G (T r) j : ℝ) : EReal) := by
  pointwise [val_main_v21, val_main_v20, val_main_v19, val_main_v18]
  rw [v17_at h0 h1 h2, h3, h4, ← EReal.coe_mul, ← EReal.coe_sub]
  rfl

/-- The loss. -/
theorem loss_at (u : Fin 8) (v : Fin 128) : val_main_v56 (F := Ideal) x0 x1 x2 x3 x4 (ix2 u v)
    = ((∑ r, Head.loss (Head.last (A r) W (E r)) G (T r) : ℝ) : EReal) := by
  rw [← Head.loss_eq]
  pointwise [val_main_v56, val_main_v29, val_main_cst_7, val_main_v28, val_main_cst_6, val_main_v27, val_main_v26, val_main_cst_5,
    val_main_v25, val_main_cst_4, val_main_v22]
  simp only [v21_at h0 h1 h2 h3 h4, Head.half_bits, Normed.length_bits, ← EReal.coe_mul, ← coe_sum, zero_add]
  simp only [div_coe_coe _ (show (1024 : ℝ) ≠ 0 by norm_num), ← coe_sum, ← EReal.coe_mul]

/-- The cotangent of the norm. -/
theorem v35_at (r : Fin 8192) (j : Fin 1024) : val_main_v35 (F := Ideal) x0 x1 x2 x3 x4 (ix2 r j)
    = ((Head.dy (Head.last (A r) W (E r)) G (T r) j : ℝ) : EReal) := by
  rw [← Head.dy_eq]
  pointwise [val_main_v35, val_main_v34, val_main_v33, val_main_v32, val_main_cst_10, val_main_v31, val_main_v30, val_main_cst_8,
    val_main_cst_9, val_main_v24, val_main_v23, val_main_cst_3]
  rw [v21_at h0 h1 h2 h3 h4, Head.half_bits, Head.two_bits, Normed.length_bits,
    div_coe_coe _ (by norm_num), ← EReal.coe_mul, ← EReal.coe_mul]

/-- The cotangent of the normalised rows. -/
theorem v40_at (r : Fin 8192) (j : Fin 1024) : val_main_v40 (F := Ideal) x0 x1 x2 x3 x4 (ix2 r j)
    = ((Head.dy (Head.last (A r) W (E r)) G (T r) j * G j : ℝ) : EReal) := by
  pointwise [val_main_v40, val_main_v39, val_main_v18]
  rw [v35_at h0 h1 h2 h3 h4, h3, ← EReal.coe_mul]

/-- The cotangent of the mean square, over the length of the row. -/
theorem v51_at (r : Fin 8192) (j : Fin 1024) : val_main_v51 (F := Ideal) x0 x1 x2 x3 x4 (ix2 r j)
    = ((Normed.dms (Head.dy (Head.last (A r) W (E r)) G (T r)) G (Head.last (A r) W (E r)) : ℝ) : EReal) := by
  pointwise [val_main_v51, val_main_v50, val_main_cst_15, val_main_v49, val_main_v48, val_main_cst_14, val_main_v47, val_main_v44,
    val_main_v43, val_main_cst_13, val_main_v42]
  simp only [Fin.sum_univ_one, v4_at h0 h1 h2, v15_at h0 h1 h2, v40_at h0 h1 h2 h3 h4, Normed.length_bits, ← EReal.coe_mul, ← coe_sum,
    zero_add]
  rw [div_coe_coe _ (by norm_num)]
  rfl

/-- The cotangent of the last activations. -/
theorem dx_at (r : Fin 8192) (j : Fin 1024) : val_main_v55 (F := Ideal) x0 x1 x2 x3 x4 (ix2 r j)
    = ((Normed.dx (Head.dy (Head.last (A r) W (E r)) G (T r)) G (Head.last (A r) W (E r)) 0 j : ℝ) : EReal) := by
  rw [← Normed.dx_eq, zero_add]
  pointwise [val_main_v55, val_main_v54, val_main_v53, val_main_v52, val_main_v46, val_main_v45]
  simp only [v4_at h0 h1 h2, v12_at h0 h1 h2, v40_at h0 h1 h2 h3 h4, v51_at h0 h1 h2 h3 h4, ← EReal.coe_mul, ← EReal.coe_add]

/-- The cotangent of the gain. -/
theorem dgain_at (j : Fin 1024) : val_main_v57 (F := Ideal) x0 x1 x2 x3 x4 (ix2 0 j)
    = ((∑ r, Head.dy (Head.last (A r) W (E r)) G (T r) j
      * (Head.last (A r) W (E r) j * Normed.rho (Head.last (A r) W (E r))) : ℝ) : EReal) := by
  pointwise [val_main_v57, val_main_v41, val_main_cst_12, val_main_v38, val_main_v37, val_main_cst_11, val_main_v36]
  simp only [Fin.sum_univ_one, v17_at h0 h1 h2, v35_at h0 h1 h2 h3 h4, ← EReal.coe_mul, ← coe_sum, zero_add]
  refine congrArg Real.toEReal (Finset.sum_congr rfl fun r _ => ?_)
  rw [mul_comm]

end

end Cert.Reference9Ideal.Value

end
-- ==== Proof.HeadPair.lean ====
module

public import proofs.«01_k».proof.Proof.Finite
public import proofs.«01_k».proof.Proof.HeadKernel
public import proofs.«01_k».proof.Proof.HeadRef
public import proofs.«01_k».proof.Proof.Gen.Pre_finite9
public import proofs.«01_k».proof.Defs

/-! The head of the loss and its gradients, kernel and reference together: under the
precondition the arguments are arrays of real numbers, and on such arguments the two programs agree. -/

@[expose] public section

set_option maxRecDepth 16384

noncomputable section

open Idealize.ShloMosaic Idealize.ShloMosaic.TcCoe Idealize.SL.Sem Proofs

namespace Cert.HeadPair

open Cert.Kernel9Ideal Cert.Kernel9Ideal.Gen

variable (m : (ℓ : Loc nD τ sig) → Buf (Elt Ideal) ℓ) (c : Dev nD)

/-- The arguments are real under the precondition. -/
theorem args (h : Cert.Pre_Kernel9Ideal_finite9 m) :
    ∃ (A : Fin 8192 → Fin 2816 → ℝ) (W : Fin 2816 → Fin 1024 → ℝ) (E : Fin 8192 → Fin 1024 → ℝ) (G : Fin 1024 → ℝ)
      (T : Fin 8192 → Fin 1024 → ℝ), Cert.Kernel9Ideal.Value.Args m c A W E G T := by
  obtain ⟨h0, h1, h2, h3, h4⟩ := h c
  have e0 := Proofs.Finite.real_of_cmp _ _ h0
  have e1 := Proofs.Finite.real_of_cmp _ _ h1
  have e2 := Proofs.Finite.real_of_cmp _ _ h2
  have e3 := Proofs.Finite.real_of_cmp _ _ h3
  have e4 := Proofs.Finite.real_of_cmp _ _ h4
  exact ⟨fun r k => (e0 (ix2 r k)).choose, fun k j => (e1 (ix3 0 k j)).choose, fun r j => (e2 (ix2 r j)).choose,
    fun j => (e3 (ix1 j)).choose, fun r j => (e4 (ix2 r j)).choose,
    fun r k => (e0 (ix2 r k)).choose_spec, fun k j => (e1 (ix3 0 k j)).choose_spec, fun r j => (e2 (ix2 r j)).choose_spec,
    fun j => (e3 (ix1 j)).choose_spec, fun r j => (e4 (ix2 r j)).choose_spec⟩

/-- The losses agree. -/
theorem loss (h : Cert.Pre_Kernel9Ideal_finite9 m) : Cert.Reference9Ideal.Read.val_main_v56 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) = (dats m 0 c).arrAt 5 cfg0.N := by
  obtain ⟨A, W, E, G, T, H⟩ := args m c h
  obtain ⟨h0, h1, h2, h3, h4⟩ := id H
  funext i
  obtain ⟨u, v, rfl⟩ : ∃ (u : Fin 8) (v : Fin 128), i = ix2 u v := ⟨_, _, eq_ix2 i⟩
  exact (Cert.Reference9Ideal.Value.loss_at h0 h1 h2 h3 h4 u v).trans (Cert.Kernel9Ideal.Value.final_loss H u v).symm

/-- The cotangents of the last activations agree. -/
theorem dx (h : Cert.Pre_Kernel9Ideal_finite9 m) : Cert.Reference9Ideal.Read.val_main_v55 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) = (dats m 0 c).arrAt 6 cfg0.N := by
  obtain ⟨A, W, E, G, T, H⟩ := args m c h
  obtain ⟨h0, h1, h2, h3, h4⟩ := id H
  funext i
  obtain ⟨r, j, rfl⟩ : ∃ r j, i = ix2 r j := ⟨_, _, eq_ix2 i⟩
  exact (Cert.Reference9Ideal.Value.dx_at h0 h1 h2 h3 h4 r j).trans (Cert.Kernel9Ideal.Value.final_rows H r j).symm

/-- The cotangents of the gain agree. -/
theorem dg (h : Cert.Pre_Kernel9Ideal_finite9 m) : Cert.Reference9Ideal.Read.val_main_v57 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) = (dats m 0 c).arrAt 7 cfg0.N := by
  obtain ⟨A, W, E, G, T, H⟩ := args m c h
  obtain ⟨h0, h1, h2, h3, h4⟩ := id H
  funext i
  obtain ⟨z, j, rfl⟩ : ∃ (z : Fin 1) (j : Fin 1024), i = ix2 z j := ⟨_, _, eq_ix2 i⟩
  obtain rfl : z = 0 := Subsingleton.elim _ _
  exact (Cert.Reference9Ideal.Value.dgain_at h0 h1 h2 h3 h4 j).trans (Cert.Kernel9Ideal.Value.final_gain H j).symm

end Cert.HeadPair

end
-- ==== Proof.Back.lean ====
module

public import proofs.«01_k».proof.Proof.Normed

/-! The cotangent of a product, and the contribution of a block of rows to the cotangent of a weight. -/

@[expose] public section

noncomputable section

open Idealize.ShloMosaic

namespace Proofs.Back

/-- The product of a row of cotangents and a row of the weight. -/
def dh {n : ℕ} (u w : Fin n → ℝ) : ℝ := ∑ k, u k * w k

/-- What a block of rows contributes to the cotangent of a weight: the transposed activations by the cotangents. -/
def part {n p q : ℕ} (x0 : Shape.Idx ⟨2, ![n, p]⟩ → EReal) (x1 : Shape.Idx ⟨2, ![n, q]⟩ → EReal) (y : Shape.Idx ⟨2, ![p, q]⟩) : EReal :=
  ∑ k : Fin n, x1 (ix2 k (y 1)) * x0 (ix2 k (y 0))

end Proofs.Back

end
-- ==== Proof.WeightQuery.lean ====
module

public import proofs.«01_k».proof.Proof.Gen.Kernel10Ideal.Value
public import proofs.«01_k».proof.Proof.Gen.Reference10Ideal.Read
public import proofs.«01_k».proof.Proof.Back
public import Idealize.ShloMosaic.Lib.Pipeline.ValueKit
public import Idealize.ShloMosaic.Lib.Pipeline.ReadBack

/-! The gradient of the weight of the queries: the product of the transposed activations and the cotangent, accumulated over
two blocks of 4096 rows. -/

@[expose] public section

set_option maxRecDepth 16384

noncomputable section

open Idealize.ShloMosaic Idealize.ShloMosaic.TcCoe Idealize.SL.Sem Proofs

namespace Cert.Kernel10Ideal.Value

open Cert.Kernel10Ideal Cert.Kernel10Ideal.Gen

variable (m : (ℓ : Loc nD τ sig) → Buf (Elt Ideal) ℓ) (c : Dev nD)

/-- The block indices of the windows at each point of the grid. -/
theorem idx : ∀ t : Fin cfg0.N, win0_0.index t = ![t.val % 2, 0] ∧ win0_1.index t = ![t.val % 2, t.val / 2]
    ∧ win0_2.index t = ![0, t.val / 2] :=
  (by decide +kernel : ∀ t : Fin grid0.N, _)

theorem store (x0 : Vec Ideal S4096x1024 .bf16) (x1 : Vec Ideal S4096x512 .bf16) (y : S1024x512.Idx) :
    k0_pay2 (F := Ideal) x0 x1 y = 0 + Back.part x0 x1 y := by
  rw [zero_add]
  unfold Back.part
  pointwise [k0_pay2, k0_pay1]
  exact Fin.sum_fin_congr fun k => mul_comm _ _

theorem add (x0 : Vec Ideal S4096x1024 .bf16) (x1 : Vec Ideal S4096x512 .bf16) (p : Vec Ideal S1024x512 .f32) (y : S1024x512.Idx) :
    k0_pay3 (F := Ideal) x0 x1 p y = p y + Back.part x0 x1 y := by
  unfold Back.part
  pointwise [k0_pay3, k0_pay1]
  exact congrArg (p y + ·) (Fin.sum_fin_congr fun k => mul_comm _ _)

theorem cast (p : Vec Ideal S1024x512 .f32) (y : S1024x512.Idx) : k0_pay4 (F := Ideal) p y = p y := by
  pointwise [k0_pay4]

/-- At the first block of rows the scratch is that block's product. -/
theorem first (t : Fin cfg0.N) (h : t.val % 2 = 0) (y : S1024x512.Idx) :
    (outsAt0 m c t.val t.isLt).2 y = 0 + Back.part (iblk m c 0 t) (iblk m c 1 t) y := by
  rw [outsAt0_A m c t h (by omega) (by omega)]
  frame_out
  exact store _ _ y

/-- At the second it is what it was and the block's product. -/
theorem next (t : Fin cfg0.N) (h : ¬ t.val % 2 = 0) (y : S1024x512.Idx) :
    (outsAt0 m c t.val t.isLt).2 y = (outsAt0 m c (t.val - 1) (Nat.lt_of_le_of_lt (Nat.sub_le _ _) t.isLt)).2 y
      + Back.part (iblk m c 0 t) (iblk m c 1 t) y := by
  rw [outsAt0_B m c t h (by omega) (by omega)]
  frame_out
  rw [Idealize.ShloMosaic.read_unread_whole]
  exact add _ _ _ y

/-- And there the scratch is written out. -/
theorem last (t : Fin cfg0.N) (h : t.val % 2 = 1) (y : S1024x512.Idx) :
    (outsAt0 m c t.val t.isLt).1 y = (outsAt0 m c t.val t.isLt).2 y := by
  rw [outsAt0_B m c t (by omega) h h]
  frame_open
  simp (disch := decide) only [↓ View.readCov_skip, ↓ View.readCov_cons_toLoadRect, ↓ View.readCov_fill]
  frame_out
  exact cast _ y

/-- The product, after the run. -/
theorem final : (dats m 0 c).arrAt 2 cfg0.N
    = Cert.Reference10Ideal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf),
    Pipeline.eq_sum_fin_of_reset_step_apply_of_flush (fun n h => (outsAt0 m c n h).2) 2 (fun _ => 0) _
    (fun t h j => first m c t h j) (fun t h j => next m c t h j) t ((flush0_2 t).mp hf) _, zero_add]
  rw [Cert.Reference10Ideal.Read.val_main_v6_apply, Cert.Reference10Ideal.Read.val_main_v5_apply]
  refine Eq.trans ?_ (Cert.Reference10Ideal.Read.val_main_v4_apply _ _ _).symm
  simp only [Back.part]
  refine Fin.sum_mul_add_congr fun s k hl => ?_
  refine congrArg₂ (fun a b : EReal => a * b) ?_ ?_
  all_goals blk_ext [iblk, V, idx t, idx ⟨_, Pipeline.run_point_lt_of_flush t ((flush0_2 t).mp hf) s⟩]

end Cert.Kernel10Ideal.Value

end
-- ==== Proof.WeightConv.lean ====
module

public import proofs.«01_k».proof.Proof.Gen.Kernel11Ideal.Value
public import proofs.«01_k».proof.Proof.Gen.Reference11Ideal.Read
public import proofs.«01_k».proof.Proof.WeightQuery
public import Idealize.ShloMosaic.Lib.Pipeline.ValueKit
public import Idealize.ShloMosaic.Lib.Pipeline.ReadBack

/-! The gradient of the first weight of the conformer module: the product of the transposed activations and the cotangent,
accumulated over two blocks of 4096 rows. The blocks are those of the weight of the queries. -/

@[expose] public section

set_option maxRecDepth 16384

noncomputable section

open Idealize.ShloMosaic Idealize.ShloMosaic.TcCoe Idealize.SL.Sem Proofs

namespace Cert.Kernel11Ideal.Value

open Cert.Kernel11Ideal Cert.Kernel11Ideal.Gen

variable (m : (ℓ : Loc nD τ sig) → Buf (Elt Ideal) ℓ) (c : Dev nD)

/-- The block indices of the windows at each point of the grid. -/
theorem idx : ∀ t : Fin cfg0.N, win0_0.index t = ![t.val % 2, 0] ∧ win0_1.index t = ![t.val % 2, t.val / 2]
    ∧ win0_2.index t = ![0, t.val / 2] :=
  (by decide +kernel : ∀ t : Fin grid0.N, _)

/-- At the first block of rows the scratch is that block's product. -/
theorem first (t : Fin cfg0.N) (h : t.val % 2 = 0) (y : S1024x512.Idx) :
    (outsAt0 m c t.val t.isLt).2 y = 0 + Back.part (iblk m c 0 t) (iblk m c 1 t) y := by
  rw [outsAt0_A m c t h (by omega) (by omega)]
  frame_out
  exact Cert.Kernel10Ideal.Value.store _ _ y

/-- At the second it is what it was and the block's product. -/
theorem next (t : Fin cfg0.N) (h : ¬ t.val % 2 = 0) (y : S1024x512.Idx) :
    (outsAt0 m c t.val t.isLt).2 y = (outsAt0 m c (t.val - 1) (Nat.lt_of_le_of_lt (Nat.sub_le _ _) t.isLt)).2 y
      + Back.part (iblk m c 0 t) (iblk m c 1 t) y := by
  rw [outsAt0_B m c t h (by omega) (by omega)]
  frame_out
  rw [Idealize.ShloMosaic.read_unread_whole]
  exact Cert.Kernel10Ideal.Value.add _ _ _ y

/-- And there the scratch is written out. -/
theorem last (t : Fin cfg0.N) (h : t.val % 2 = 1) (y : S1024x512.Idx) :
    (outsAt0 m c t.val t.isLt).1 y = (outsAt0 m c t.val t.isLt).2 y := by
  rw [outsAt0_B m c t (by omega) h h]
  frame_open
  simp (disch := decide) only [↓ View.readCov_skip, ↓ View.readCov_cons_toLoadRect, ↓ View.readCov_fill]
  frame_out
  exact Cert.Kernel10Ideal.Value.cast _ y

/-- The product, after the run. -/
theorem final : (dats m 0 c).arrAt 2 cfg0.N
    = Cert.Reference11Ideal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf),
    Pipeline.eq_sum_fin_of_reset_step_apply_of_flush (fun n h => (outsAt0 m c n h).2) 2 (fun _ => 0) _
    (fun t h j => first m c t h j) (fun t h j => next m c t h j) t ((flush0_2 t).mp hf) _, zero_add]
  rw [Cert.Reference11Ideal.Read.val_main_v6_apply, Cert.Reference11Ideal.Read.val_main_v5_apply]
  refine Eq.trans ?_ (Cert.Reference11Ideal.Read.val_main_v4_apply _ _ _).symm
  simp only [Back.part]
  refine Fin.sum_mul_add_congr fun s k hl => ?_
  refine congrArg₂ (fun a b : EReal => a * b) ?_ ?_
  all_goals blk_ext [iblk, V, idx t, idx ⟨_, Pipeline.run_point_lt_of_flush t ((flush0_2 t).mp hf) s⟩]

end Cert.Kernel11Ideal.Value

end
-- ==== Proof.WeightEven.lean ====
module

public import proofs.«01_k».proof.Proof.Gen.Kernel12Ideal.Value
public import proofs.«01_k».proof.Proof.Gen.Reference12Ideal.Read
public import proofs.«01_k».proof.Proof.Back
public import Idealize.ShloMosaic.Lib.Pipeline.ValueKit
public import Idealize.ShloMosaic.Lib.Pipeline.ReadBack

/-! The gradient of the first weight of the even layer, whose columns are 2688: the product of the transposed activations and
the cotangent, accumulated over two blocks of 4096 rows. -/

@[expose] public section

set_option maxRecDepth 16384

noncomputable section

open Idealize.ShloMosaic Idealize.ShloMosaic.TcCoe Idealize.SL.Sem Proofs

namespace Cert.Kernel12Ideal.Value

open Cert.Kernel12Ideal Cert.Kernel12Ideal.Gen

variable (m : (ℓ : Loc nD τ sig) → Buf (Elt Ideal) ℓ) (c : Dev nD)

/-- The block indices of the windows at each point of the grid. -/
theorem idx : ∀ t : Fin cfg0.N, win0_0.index t = ![t.val % 2, 0] ∧ win0_1.index t = ![t.val % 2, t.val / 2]
    ∧ win0_2.index t = ![0, t.val / 2] :=
  (by decide +kernel : ∀ t : Fin grid0.N, _)

theorem store (x0 : Vec Ideal S4096x1024 .bf16) (x1 : Vec Ideal S4096x896 .bf16) (y : S1024x896.Idx) :
    k0_pay2 (F := Ideal) x0 x1 y = 0 + Back.part x0 x1 y := by
  rw [zero_add]
  unfold Back.part
  pointwise [k0_pay2, k0_pay1]
  exact Fin.sum_fin_congr fun k => mul_comm _ _

theorem add (x0 : Vec Ideal S4096x1024 .bf16) (x1 : Vec Ideal S4096x896 .bf16) (p : Vec Ideal S1024x896 .f32) (y : S1024x896.Idx) :
    k0_pay3 (F := Ideal) x0 x1 p y = p y + Back.part x0 x1 y := by
  unfold Back.part
  pointwise [k0_pay3, k0_pay1]
  exact congrArg (p y + ·) (Fin.sum_fin_congr fun k => mul_comm _ _)

theorem cast (p : Vec Ideal S1024x896 .f32) (y : S1024x896.Idx) : k0_pay4 (F := Ideal) p y = p y := by
  pointwise [k0_pay4]

/-- At the first block of rows the scratch is that block's product. -/
theorem first (t : Fin cfg0.N) (h : t.val % 2 = 0) (y : S1024x896.Idx) :
    (outsAt0 m c t.val t.isLt).2 y = 0 + Back.part (iblk m c 0 t) (iblk m c 1 t) y := by
  rw [outsAt0_A m c t h (by omega) (by omega)]
  frame_out
  exact store _ _ y

/-- At the second it is what it was and the block's product. -/
theorem next (t : Fin cfg0.N) (h : ¬ t.val % 2 = 0) (y : S1024x896.Idx) :
    (outsAt0 m c t.val t.isLt).2 y = (outsAt0 m c (t.val - 1) (Nat.lt_of_le_of_lt (Nat.sub_le _ _) t.isLt)).2 y
      + Back.part (iblk m c 0 t) (iblk m c 1 t) y := by
  rw [outsAt0_B m c t h (by omega) (by omega)]
  frame_out
  rw [Idealize.ShloMosaic.read_unread_whole]
  exact add _ _ _ y

/-- And there the scratch is written out. -/
theorem last (t : Fin cfg0.N) (h : t.val % 2 = 1) (y : S1024x896.Idx) :
    (outsAt0 m c t.val t.isLt).1 y = (outsAt0 m c t.val t.isLt).2 y := by
  rw [outsAt0_B m c t (by omega) h h]
  frame_open
  simp (disch := decide) only [↓ View.readCov_skip, ↓ View.readCov_cons_toLoadRect, ↓ View.readCov_fill]
  frame_out
  exact cast _ y

/-- The product, after the run. -/
theorem final : (dats m 0 c).arrAt 2 cfg0.N
    = Cert.Reference12Ideal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf),
    Pipeline.eq_sum_fin_of_reset_step_apply_of_flush (fun n h => (outsAt0 m c n h).2) 2 (fun _ => 0) _
    (fun t h j => first m c t h j) (fun t h j => next m c t h j) t ((flush0_2 t).mp hf) _, zero_add]
  rw [Cert.Reference12Ideal.Read.val_main_v6_apply, Cert.Reference12Ideal.Read.val_main_v5_apply]
  refine Eq.trans ?_ (Cert.Reference12Ideal.Read.val_main_v4_apply _ _ _).symm
  simp only [Back.part]
  refine Fin.sum_mul_add_congr fun s k hl => ?_
  refine congrArg₂ (fun a b : EReal => a * b) ?_ ?_
  all_goals blk_ext [iblk, V, idx t, idx ⟨_, Pipeline.run_point_lt_of_flush t ((flush0_2 t).mp hf) s⟩]

end Cert.Kernel12Ideal.Value

end
-- ==== Proof.QueryBack.lean ====
module

public import proofs.«01_k».proof.Proof.Gen.Kernel13Ideal.Value
public import proofs.«01_k».proof.Proof.Gen.Reference13Ideal.Read
public import Idealize.ShloMosaic.Lib.Pipeline.ValueKit
public import Idealize.ShloMosaic.Lib.Pipeline.ReadBack

/-! The gradient of what the output product of the cross-attention multiplies: the product of the cotangent and the
transposed weight, in tiles of 1024 rows and 512 columns. -/

@[expose] public section

set_option maxRecDepth 16384

noncomputable section

open Idealize.ShloMosaic Idealize.ShloMosaic.TcCoe Idealize.SL.Sem

namespace Cert.Kernel13Ideal.Value

open Cert.Kernel13Ideal Cert.Kernel13Ideal.Gen

variable (m : (ℓ : Loc nD τ sig) → Buf (Elt Ideal) ℓ) (c : Dev nD)

/-- The block indices of the windows at each point of the grid. -/
theorem idx : ∀ t : Fin cfg0.N, win0_0.index t = ![t.val / 2, 0] ∧ win0_1.index t = ![0, t.val % 2, 0]
    ∧ win0_2.index t = ![t.val / 2, t.val % 2] :=
  (by decide +kernel : ∀ t : Fin grid0.N, _)

/-- A tile of the product. -/
theorem tile (x0 : Vec Ideal S1024x1024 .f32) (x1 : Vec Ideal S1x512x1024 .bf16) (y : S1024x512.Idx) :
    out0_2 (F := Ideal) x0 x1 y = ∑ k : Fin 1024, x0 (ix2 (y 0) k) * x1 (ix3 0 (y 1) k) := by
  frame_out
  pointwise [k0_pay1]

/-- The product, after the run. -/
theorem final : (dats m 0 c).arrAt 2 cfg0.N
    = Cert.Reference13Ideal.Read.val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2, tile]
  pointwise [Cert.Reference13Ideal.Read.val_main_v5, Cert.Reference13Ideal.Read.val_main_v4, Cert.Reference13Ideal.Read.val_main_v1,
    Cert.Reference13Ideal.Read.val_main_v0]
  refine Fin.sum_fin_congr fun k => congrArg₂ (fun a b : EReal => a * b) ?_ ?_
  all_goals blk_ext [iblk, V, idx t]

end Cert.Kernel13Ideal.Value

end
-- ==== Proof.NormQuery.lean ====
module

public import proofs.«01_k».proof.Proof.Gen.Kernel14Ideal.Value
public import proofs.«01_k».proof.Proof.Gen.Reference14Ideal.Read
public import proofs.«01_k».proof.Proof.Gen.Reference14Ideal.Run
public import proofs.«01_k».proof.Proof.Gen.Pre_finite14
public import proofs.«01_k».proof.Proof.Back
public import proofs.«01_k».proof.Proof.Finite
public import proofs.«01_k».proof.Defs
public import Idealize.ShloMosaic.Lib.Pipeline.ValueKit
public import Idealize.ShloMosaic.Lib.Pipeline.ReadBack
public import Idealize.ShloMosaic.Lib.StableHlo.Run
public import Idealize.ShloMosaic.Lib.KernelVsHost

/-! The gradient through the product of the queries and the norm before it: each point of the grid takes 512 rows, and adds to
the cotangent of the norm's gain. The kernel, the reference, and the two together. -/

@[expose] public section

set_option maxRecDepth 16384

noncomputable section

open Idealize.ShloMosaic Idealize.ShloMosaic.TcCoe Idealize.SL.Sem Proofs.Reals Proofs

namespace Cert.Kernel14Ideal.Value

open Cert.Kernel14Ideal Cert.Kernel14Ideal.Gen

/-! ## One block -/

section block

/-- The block of rows a point of the grid works on, as arrays of real numbers. -/
structure Rows (x0 : Vec Ideal S512x1024 .bf16) (x1 : Vec Ideal S1x1024x1024 .bf16) (x2 : Vec Ideal S512x1024 .f32)
    (x3 : Vec Ideal S1x1024 .f32) (x4 : Vec Ideal S512x1024 .f32) (U : Fin 512 → Fin 1024 → ℝ) (W : Fin 1024 → Fin 1024 → ℝ)
    (X : Fin 512 → Fin 1024 → ℝ) (G : Fin 1024 → ℝ) (E : Fin 512 → Fin 1024 → ℝ) : Prop where
  u : ∀ r k, x0 (ix2 r k) = ((U r k : ℝ) : EReal)
  w : ∀ j k, x1 (ix3 0 j k) = ((W j k : ℝ) : EReal)
  x : ∀ r j, x2 (ix2 r j) = ((X r j : ℝ) : EReal)
  g : ∀ j, x3 (ix2 0 j) = ((G j : ℝ) : EReal)
  e : ∀ r j, x4 (ix2 r j) = ((E r j : ℝ) : EReal)

variable {x0 : Vec Ideal S512x1024 .bf16} {x1 : Vec Ideal S1x1024x1024 .bf16} {x2 : Vec Ideal S512x1024 .f32}
variable {x3 : Vec Ideal S1x1024 .f32} {x4 : Vec Ideal S512x1024 .f32} {U : Fin 512 → Fin 1024 → ℝ} {W : Fin 1024 → Fin 1024 → ℝ}
variable {X : Fin 512 → Fin 1024 → ℝ} {G : Fin 1024 → ℝ} {E : Fin 512 → Fin 1024 → ℝ}

/-- The reciprocal of the norm of a row. -/
theorem rho_at (h : ∀ r j, x2 (ix2 r j) = ((X r j : ℝ) : EReal)) (r : Fin 512) :
    k0_pay4 (F := Ideal) x2 (ix2 r 0) = ↑(Normed.rho (X r)) := by
  rw [← Normed.rsqrt_ms]
  pointwise [k0_pay4]
  simp only [h, Normed.eps_bits, Normed.length_bits, ← EReal.coe_mul, ← coe_sum, zero_add]
  rw [div_coe_coe _ (by norm_num), ← EReal.coe_add]
  rfl

/-- The rows, normalised. -/
theorem normed_at (h : ∀ r j, x2 (ix2 r j) = ((X r j : ℝ) : EReal)) (r : Fin 512) (j : Fin 1024) :
    k0_pay5 (F := Ideal) x2 (ix2 r j) = ↑(X r j * Normed.rho (X r)) := by
  pointwise [k0_pay5]
  rw [h, rho_at h, ← EReal.coe_mul]

theorem zero_at (j : Fin 1024) : k0_pay3 (F := Ideal) (ix2 0 j) = ((0 : ℝ) : EReal) := by
  pointwise [k0_pay3]
  rfl

/-- The cotangent of the rows, from what their norms and the cotangents of the normalised rows are. -/
theorem back_at {v15 : Vec Ideal S512x1 .f32} {v17 v28 v29 : Vec Ideal S512x1024 .f32} {v31 : Vec Ideal S512 .f32}
    {D : Fin 512 → Fin 1024 → ℝ} (h15 : ∀ r, v15 (ix2 r 0) = ↑(Normed.rho (X r)))
    (h17 : ∀ r j, v17 (ix2 r j) = ↑(X r j * Normed.rho (X r))) (h28 : ∀ r j, v28 (ix2 r j) = ↑(D r j * G j))
    (h29 : ∀ r j, v29 (ix2 r j) = ↑(E r j)) (h31 : ∀ r, v31 (ix1 r) = ↑(∑ k, D r k * G k * (X r k * Normed.rho (X r))))
    (r : Fin 512) (j : Fin 1024) :
    k0_pay1 (F := Ideal) v15 v17 v28 v29 v31 (ix2 r j) = ↑(Normed.dx (D r) G (X r) (E r j) j) := by
  pointwise [k0_pay1]
  simp only [h15, h17, h28, h29, h31, Normed.length_bits]
  rw [div_coe_coe _ (by norm_num)]
  simp only [← EReal.coe_mul, ← EReal.coe_sub, ← EReal.coe_add]
  rfl

variable (H : Rows x0 x1 x2 x3 x4 U W X G E)

include H

/-- The cotangent of the normalised rows with their gain. -/
theorem dh_at (r : Fin 512) (j : Fin 1024) : k0_pay2 (F := Ideal) x0 x1 (ix2 r j) = ↑(Back.dh (U r) (W j)) := by
  pointwise [k0_pay2]
  simp only [H.u, H.w, ← EReal.coe_mul, ← coe_sum]
  rfl

theorem dn_at (r : Fin 512) (j : Fin 1024) : k0_pay7 (F := Ideal) x0 x1 x3 (ix2 r j) = ↑(Back.dh (U r) (W j) * G j) := by
  pointwise [k0_pay7]
  rw [dh_at H, H.g, ← EReal.coe_mul]

theorem dot_at (r : Fin 512) : k0_pay8 (F := Ideal) x0 x1 x2 x3 (ix1 r)
    = ↑(∑ k, Back.dh (U r) (W k) * G k * (X r k * Normed.rho (X r))) := by
  pointwise [k0_pay8]
  simp only [dn_at H, normed_at H.x, ← EReal.coe_mul, ← coe_sum, zero_add]

/-- What the rows of a block add to the cotangent of the gain. -/
theorem dgain_at {p : Vec Ideal S1x1024 .f32} {P : Fin 1024 → ℝ} (hp : ∀ j, p (ix2 0 j) = ↑(P j)) (j : Fin 1024) :
    k0_pay6 (F := Ideal) x0 x1 x2 p (ix2 0 j)
      = ((P j + ∑ r, Back.dh (U r) (W j) * (X r j * Normed.rho (X r)) : ℝ) : EReal) := by
  pointwise [k0_pay6]
  simp only [dh_at H, normed_at H.x, hp, ← EReal.coe_mul, ← coe_sum, zero_add]
  rw [← EReal.coe_add]

/-- The cotangent of the rows. -/
theorem dx_at (r : Fin 512) (j : Fin 1024) :
    k0_pay1 (F := Ideal) (k0_pay4 (F := Ideal) x2) (k0_pay5 (F := Ideal) x2) (k0_pay7 (F := Ideal) x0 x1 x3) x4
      (k0_pay8 (F := Ideal) x0 x1 x2 x3) (ix2 r j) = ↑(Normed.dx (fun k => Back.dh (U r) (W k)) G (X r) (E r j) j) :=
  back_at (D := fun r k => Back.dh (U r) (W k)) (rho_at H.x) (normed_at H.x) (dn_at H) H.e (dot_at H) r j

end block

/-! ## The points of the grid -/

variable (m : (ℓ : Loc nD τ sig) → Buf (Elt Ideal) ℓ) (c : Dev nD)

/-- The cotangent of the rows of a point. -/
abbrev rows (t : Fin cfg0.N) : Vec Ideal S512x1024 .f32 :=
  k0_pay1 (F := Ideal) (k0_pay4 (F := Ideal) (iblk m c 2 t)) (k0_pay5 (F := Ideal) (iblk m c 2 t))
    (k0_pay7 (F := Ideal) (iblk m c 0 t) (iblk m c 1 t) (iblk m c 3 t)) (iblk m c 4 t)
    (k0_pay8 (F := Ideal) (iblk m c 0 t) (iblk m c 1 t) (iblk m c 2 t) (iblk m c 3 t))

/-- The cotangent of the gain after a point, from what it was before it. -/
abbrev gain (t : Fin cfg0.N) (p : Vec Ideal S1x1024 .f32) : Vec Ideal S1x1024 .f32 :=
  k0_pay6 (F := Ideal) (iblk m c 0 t) (iblk m c 1 t) (iblk m c 2 t) p

/-- What a point leaves in the two outputs, from what the point before left. -/
theorem first (t : Fin cfg0.N) (h : t.val % 16 = 0) : outsAt0 m c t.val t.isLt
    = (rows m c t, gain m c t (k0_pay3 (F := Ideal))) := by
  rw [outsAt0_A m c t h]
  frame_open
  simp (disch := decide) only [↓ View.readCov_skip, ↓ View.readCov_cons_toLoadRect, ↓ View.readCov_fill]
  frame_out

theorem next (t : Fin cfg0.N) (h : ¬ t.val % 16 = 0) : outsAt0 m c t.val t.isLt
    = (rows m c t, gain m c t (outsAt0 m c (t.val - 1) (Nat.lt_of_le_of_lt (Nat.sub_le _ _) t.isLt)).2) := by
  rw [outsAt0_B m c t h]
  frame_open
  simp (disch := decide) only [↓ View.readCov_skip, ↓ View.readCov_cons_toLoadRect, ↓ View.readCov_fill]
  frame_out

/-! ## The arrays -/

variable (U : Fin 8192 → Fin 1024 → ℝ) (W : Fin 1024 → Fin 1024 → ℝ) (X : Fin 8192 → Fin 1024 → ℝ) (G : Fin 1024 → ℝ)
variable (E : Fin 8192 → Fin 1024 → ℝ)

/-- The arguments of the kernel are the real arrays `U`, `W`, `X`, `G` and `E`. -/
def Args : Prop :=
  (∀ r k, m ((c : Thread nD τ).loc main_arg0) (ix2 r k) = ((U r k : ℝ) : EReal))
  ∧ (∀ j k, m ((c : Thread nD τ).loc main_arg1) (ix3 0 j k) = ((W j k : ℝ) : EReal))
  ∧ (∀ r j, m ((c : Thread nD τ).loc main_arg2) (ix2 r j) = ((X r j : ℝ) : EReal))
  ∧ (∀ j, m ((c : Thread nD τ).loc main_arg3) (ix1 j) = ((G j : ℝ) : EReal))
  ∧ (∀ r j, m ((c : Thread nD τ).loc main_arg4) (ix2 r j) = ((E r j : ℝ) : EReal))

variable {m c U W X G E}

/-- The block indices of the windows at each point of the grid. -/
theorem idx : ∀ t : Fin cfg0.N, win0_0.index t = ![t.val, 0] ∧ win0_1.index t = ![0, 0, 0]
    ∧ win0_2.index t = ![t.val, 0] ∧ win0_3.index t = ![0, 0] ∧ win0_4.index t = ![t.val, 0]
    ∧ win0_5.index t = ![t.val, 0] ∧ win0_6.index t = ![0, 0] :=
  (by decide +kernel : ∀ t : Fin grid0.N, _)

/-- The grid has sixteen points. -/
theorem lt16 (t : Fin cfg0.N) : t.val < 16 := lt_of_lt_of_eq t.isLt N_0

/-- The row of the array at row `r` of block `b`. -/
def row (b : ℕ) (hb : b < 16) (r : Fin 512) : Fin 8192 := ⟨b * 512 + r, by omega⟩

/-- The gain, as a row. -/
theorem entry_gain (m : (ℓ : Loc nD τ sig) → Buf (Elt Ideal) ℓ) (c : Dev nD) : V m c main_v0
    = shapeCast S1x1024 (m ((c : Thread nD τ).loc main_arg3)) shapeCasts_S1024_S1x1024 := by
  unfold_abbrev_sides
  after_results
  try rfl

/-- The blocks of a point. -/
theorem blk (H : Args m c U W X G E) (t : Fin cfg0.N) :
    Rows (iblk m c 0 t) (iblk m c 1 t) (iblk m c 2 t) (iblk m c 3 t) (iblk m c 4 t)
      (fun r => U (row t.val (lt16 t) r)) W (fun r => X (row t.val (lt16 t) r)) G (fun r => E (row t.val (lt16 t) r)) where
  u r k := by rw [← H.1]; blk_ext [iblk, V, idx t, row]
  w j k := by rw [← H.2.1]; blk_ext [iblk, V, idx t]
  x r j := by rw [← H.2.2.1]; blk_ext [iblk, V, idx t, row]
  g j := by
    rw [← H.2.2.2.1]
    show V m c main_v0 ((win0_3.blk t).view.emb (ix2 0 j)) = _
    rw [entry_gain]
    refine shapeCast_apply _ _ _ _ ?_
    refine (Shape.rowMajor_val_one _).trans (Eq.trans ?_ (Shape.rowMajor_val_two _).symm)
    blk_simp [idx t]
    exact (show (j : ℕ) = 0 * 1024 + j by omega)
  e r j := by rw [← H.2.2.2.2]; blk_ext [iblk, V, idx t, row]

/-- What a row adds to the cotangent of the gain, -/
def gainOf {n : ℕ} (U : Fin 8192 → Fin n → ℝ) (W : Fin 1024 → Fin n → ℝ) (X : Fin 8192 → Fin 1024 → ℝ) (j : Fin 1024)
    (r : Fin 8192) : ℝ := Back.dh (U r) (W j) * (X r j * Normed.rho (X r))

/-- and its cotangent. -/
def rowOf {n : ℕ} (U : Fin 8192 → Fin n → ℝ) (W : Fin 1024 → Fin n → ℝ) (X : Fin 8192 → Fin 1024 → ℝ) (G : Fin 1024 → ℝ)
    (E : Fin 8192 → Fin 1024 → ℝ) (j : Fin 1024) (r : Fin 8192) : ℝ :=
  Normed.dx (fun k => Back.dh (U r) (W k)) G (X r) (E r j) j

/-- The cotangent of the gain after block `b`: each block adds its rows. -/
theorem gains (H : Args m c U W X G E) (b : ℕ) : ∀ (hb : b < 16) (t : Fin cfg0.N) (_ : t.val = b) (j : Fin 1024),
    (outsAt0 m c t.val t.isLt).2 (ix2 0 j) = ((Normed.blocks (gainOf U W X j) b hb : ℝ) : EReal) := by
  induction b with
  | zero =>
    intro hb t ht j
    rw [first m c t (by omega), Normed.blocks_zero]
    refine (dgain_at (blk H t) zero_at j).trans ?_
    simp only [ht]; rfl
  | succ b ih =>
    intro hb t ht j
    rw [next m c t (by omega), Normed.blocks_succ]
    refine (dgain_at (blk H t) (ih (by omega) ⟨t.val - 1, Nat.lt_of_le_of_lt (Nat.sub_le _ _) t.isLt⟩
      (show t.val - 1 = b by omega)) j).trans ?_
    simp only [ht]; rfl

/-- What each point writes of the cotangent of the rows. -/
theorem rows_out (H : Args m c U W X G E) (t : Fin cfg0.N) (r : Fin 512) (j : Fin 1024) :
    (outsAt0 m c t.val t.isLt).1 (ix2 r j) = ((rowOf U W X G E j (row t.val (lt16 t) r) : ℝ) : EReal) := by
  by_cases h : t.val % 16 = 0
  · rw [first m c t h]; exact dx_at (blk H t) r j
  · rw [next m c t h]; exact dx_at (blk H t) r j

theorem rowOf_congr {n : ℕ} {U : Fin 8192 → Fin n → ℝ} {W : Fin 1024 → Fin n → ℝ} {X : Fin 8192 → Fin 1024 → ℝ}
    {G : Fin 1024 → ℝ} {E : Fin 8192 → Fin 1024 → ℝ} {r r' : Fin 8192} {j j' : Fin 1024} (hr : r = r') (hj : j = j') :
    ((rowOf U W X G E j r : ℝ) : EReal) = ((rowOf U W X G E j' r' : ℝ) : EReal) := by
  subst hr hj; rfl

/-- The cotangent of the rows, after the run. -/
theorem final_rows (H : Args m c U W X G E) (r : Fin 8192) (j : Fin 1024) :
    (dats m 0 c).arrAt 5 cfg0.N (ix2 r j) = ((rowOf U W X G E j r : ℝ) : EReal) := by
  suffices h : (dats m 0 c).arrAt 5 cfg0.N = fun i : S8192x1024.Idx => ((rowOf U W X G E (i 1) (i 0) : ℝ) : EReal) by
    rw [h]; rfl
  refine (dats m 0 c).arrAt_eq_of_covers 5 _ (by decide +kernel) fun t hf y => ?_
  blk_simp
  obtain ⟨r, j, rfl⟩ : ∃ (r : Fin 512) (j : Fin 1024), y = ix2 r j := ⟨_, _, eq_ix2 y⟩
  rw [after0_5, rows_out H t]
  refine rowOf_congr (Fin.ext ?_) (Fin.ext ?_)
  all_goals (blk_simp [idx t, row] <;> first | omega | (dsimp only; omega))

/-- The cotangent of the gain, after the run. -/
theorem final_gain (H : Args m c U W X G E) (j : Fin 1024) :
    (dats m 0 c).arrAt 6 cfg0.N (ix2 0 j) = ((∑ r, gainOf U W X j r : ℝ) : EReal) := by
  suffices h : (dats m 0 c).arrAt 6 cfg0.N = fun i : S1x1024.Idx => ((∑ r, gainOf U W X (i 1) r : ℝ) : EReal) by
    rw [h]; rfl
  refine (dats m 0 c).arrAt_eq_of_covers 6 _ (by decide +kernel) fun t hf y => ?_
  have ht : t.val = 15 := by have := (flush0_6 t).mp hf; have := lt16 t; omega
  blk_simp
  obtain ⟨i, j, rfl⟩ : ∃ (i : Fin 1) (j : Fin 1024), y = ix2 i j := ⟨_, _, eq_ix2 y⟩
  obtain rfl : i = 0 := Subsingleton.elim _ _
  rw [after0_6, gains H 15 (by omega) t ht j, Normed.blocks_last]
  refine congrArg (fun j => ((∑ r, gainOf U W X j r : ℝ) : EReal)) (Fin.ext ?_)
  blk_simp [idx t] <;> first | omega | (dsimp only; omega)

end Cert.Kernel14Ideal.Value

/-! ## The reference -/

namespace Cert.Reference14Ideal.Value

open Cert.Reference14Ideal Cert.Reference14Ideal.Gen Cert.Reference14Ideal.Read

variable {x0 : FVec Ideal S8192x1024 .bf16} {x1 : FVec Ideal S1x1024x1024 .bf16} {x2 : FVec Ideal S8192x1024 .f32}
variable {x3 : FVec Ideal S1024 .f32} {x4 : FVec Ideal S8192x1024 .f32} {U : Fin 8192 → Fin 1024 → ℝ}
variable {W : Fin 1024 → Fin 1024 → ℝ} {X : Fin 8192 → Fin 1024 → ℝ} {G : Fin 1024 → ℝ} {E : Fin 8192 → Fin 1024 → ℝ}

/-- The mean square of a row. -/
theorem v9_at (h2 : ∀ r j, x2 (ix2 r j) = ((X r j : ℝ) : EReal)) (r : Fin 8192) :
    val_main_v9 (F := Ideal) x2 (ix2 r 0) = ((Normed.ms (X r) : ℝ) : EReal) := by
  pointwise [val_main_v9, val_main_v8, val_main_cst_1, val_main_v7, val_main_v6, val_main_cst_0, val_main_v5, val_main_v4,
    val_main_cst, val_main_v3]
  simp only [h2, Normed.eps_bits, Normed.length_bits, ← EReal.coe_mul, ← coe_sum, zero_add]
  rw [div_coe_coe _ (by norm_num), ← EReal.coe_add]
  rfl

/-- The reciprocal of the norm of a row. -/
theorem v10_at (h2 : ∀ r j, x2 (ix2 r j) = ((X r j : ℝ) : EReal)) (r : Fin 8192) :
    val_main_v10 (F := Ideal) x2 (ix2 r 0) = ((Normed.rho (X r) : ℝ) : EReal) := by
  pointwise [val_main_v10]
  rw [v9_at h2, Normed.rsqrt_ms]

/-- The derivative of the reciprocal of the norm. -/
theorem v13_at (h2 : ∀ r j, x2 (ix2 r j) = ((X r j : ℝ) : EReal)) (r : Fin 8192) :
    val_main_v13 (F := Ideal) x2 (ix2 r 0) = ((-(1 / 2) * (Normed.rho (X r) / Normed.ms (X r)) : ℝ) : EReal) := by
  pointwise [val_main_v13, val_main_v12, val_main_cst_2, val_main_v11]
  rw [v9_at h2, v10_at h2, Normed.half_bits, div_coe_coe _ (Normed.ms_pos _).ne', ← EReal.coe_mul]

variable (h0 : ∀ r k, x0 (ix2 r k) = ((U r k : ℝ) : EReal)) (h1 : ∀ j k, x1 (ix3 0 j k) = ((W j k : ℝ) : EReal))
variable (h2 : ∀ r j, x2 (ix2 r j) = ((X r j : ℝ) : EReal)) (h3 : ∀ j, x3 (ix1 j) = ((G j : ℝ) : EReal))
variable (h4 : ∀ r j, x4 (ix2 r j) = ((E r j : ℝ) : EReal))

include h0 h1

/-- The cotangent of the normalised rows with their gain. -/
theorem v20_at (r : Fin 8192) (j : Fin 1024) :
    val_main_v20 (F := Ideal) x0 x1 (ix2 r j) = ((Back.dh (U r) (W j) : ℝ) : EReal) := by
  pointwise [val_main_v20, val_main_v2, val_main_v1, val_main_v0]
  simp only [h0, h1, ← EReal.coe_mul, ← coe_sum]
  rfl

include h3 in
theorem v25_at (r : Fin 8192) (j : Fin 1024) :
    val_main_v25 (F := Ideal) x0 x1 x3 (ix2 r j) = ((Back.dh (U r) (W j) * G j : ℝ) : EReal) := by
  pointwise [val_main_v25, val_main_v24, val_main_v16]
  rw [v20_at h0 h1, h3, ← EReal.coe_mul]

include h2

/-- The cotangent of the gain. -/
theorem dg_at (j : Fin 1024) : val_main_v42 (F := Ideal) x0 x1 x2 (ix2 0 j)
    = ((∑ r, Back.dh (U r) (W j) * (X r j * Normed.rho (X r)) : ℝ) : EReal) := by
  pointwise [val_main_v42, val_main_v26, val_main_cst_4, val_main_v23, val_main_v22, val_main_cst_3, val_main_v21, val_main_v15,
    val_main_v14]
  simp only [Fin.sum_univ_one, h2, v10_at h2, v20_at h0 h1, ← EReal.coe_mul, ← coe_sum, zero_add]
  exact congrArg _ (Finset.sum_congr rfl fun r _ => mul_comm _ _)

include h3

/-- The cotangent of the mean square, over the length of the row. -/
theorem v37_at (r : Fin 8192) (j : Fin 1024) : val_main_v37 (F := Ideal) x0 x1 x2 x3 (ix2 r j)
    = ((Normed.dms (fun k => Back.dh (U r) (W k)) G (X r) : ℝ) : EReal) := by
  pointwise [val_main_v37, val_main_v36, val_main_cst_7, val_main_v35, val_main_v34, val_main_cst_6, val_main_v33, val_main_v29,
    val_main_v28, val_main_cst_5, val_main_v27]
  simp only [Fin.sum_univ_one, h2, v13_at h2, v25_at h0 h1 h3, Normed.length_bits, ← EReal.coe_mul, ← coe_sum, zero_add]
  rw [div_coe_coe _ (by norm_num)]
  rfl

include h4

/-- The cotangent of the rows. -/
theorem dx_at (r : Fin 8192) (j : Fin 1024) : val_main_v41 (F := Ideal) x0 x1 x2 x3 x4 (ix2 r j)
    = ((Normed.dx (fun k => Back.dh (U r) (W k)) G (X r) (E r j) j : ℝ) : EReal) := by
  pointwise [val_main_v41, val_main_v40, val_main_v39, val_main_v38, val_main_v32, val_main_v31, val_main_v30]
  simp only [h2, h4, v10_at h2, v25_at h0 h1 h3, v37_at h0 h1 h2 h3, ← EReal.coe_mul, ← EReal.coe_add]
  rw [← Normed.dx_eq]

end Cert.Reference14Ideal.Value

/-! ## The two together -/

namespace Cert.NormQuery

open Cert.Kernel14Ideal Cert.Kernel14Ideal.Gen

variable (m : (ℓ : Loc nD τ sig) → Buf (Elt Ideal) ℓ) (c : Dev nD)

/-- The arguments are real under the precondition. -/
theorem args (h : Cert.Pre_Kernel14Ideal_finite14 m) :
    ∃ (U : Fin 8192 → Fin 1024 → ℝ) (W : Fin 1024 → Fin 1024 → ℝ) (X : Fin 8192 → Fin 1024 → ℝ) (G : Fin 1024 → ℝ)
      (E : Fin 8192 → Fin 1024 → ℝ), Cert.Kernel14Ideal.Value.Args m c U W X G E := by
  obtain ⟨h0, h1, h2, h3, h4⟩ := h c
  have e0 := Proofs.Finite.real_of_cmp _ _ h0
  have e1 := Proofs.Finite.real_of_cmp _ _ h1
  have e2 := Proofs.Finite.real_of_cmp _ _ h2
  have e3 := Proofs.Finite.real_of_cmp _ _ h3
  have e4 := Proofs.Finite.real_of_cmp _ _ h4
  exact ⟨fun r k => (e0 (ix2 r k)).choose, fun j k => (e1 (ix3 0 j k)).choose, fun r j => (e2 (ix2 r j)).choose,
    fun j => (e3 (ix1 j)).choose, fun r j => (e4 (ix2 r j)).choose,
    fun r k => (e0 (ix2 r k)).choose_spec, fun j k => (e1 (ix3 0 j k)).choose_spec, fun r j => (e2 (ix2 r j)).choose_spec,
    fun j => (e3 (ix1 j)).choose_spec, fun r j => (e4 (ix2 r j)).choose_spec⟩

/-- The cotangents of the rows agree. -/
theorem dx (h : Cert.Pre_Kernel14Ideal_finite14 m) : Cert.Reference14Ideal.Read.val_main_v41 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) = (dats m 0 c).arrAt 5 cfg0.N := by
  obtain ⟨U, W, X, G, E, H⟩ := args m c h
  obtain ⟨h0, h1, h2, h3, h4⟩ := id H
  funext i
  obtain ⟨r, j, rfl⟩ : ∃ r j, i = ix2 r j := ⟨_, _, eq_ix2 i⟩
  exact (Cert.Reference14Ideal.Value.dx_at h0 h1 h2 h3 h4 r j).trans (Cert.Kernel14Ideal.Value.final_rows H r j).symm

/-- The cotangents of the gain agree. -/
theorem dg (h : Cert.Pre_Kernel14Ideal_finite14 m) : Cert.Reference14Ideal.Read.val_main_v42 (F := Ideal)
    (m ((c : Thread nD τ).loc main_arg0)) (m ((c : Thread nD τ).loc main_arg1)) (m ((c : Thread nD τ).loc main_arg2))
      = (dats m 0 c).arrAt 6 cfg0.N := by
  obtain ⟨U, W, X, G, E, H⟩ := args m c h
  obtain ⟨h0, h1, h2, h3, h4⟩ := id H
  funext i
  obtain ⟨z, j, rfl⟩ : ∃ (z : Fin 1) (j : Fin 1024), i = ix2 z j := ⟨_, _, eq_ix2 i⟩
  obtain rfl : z = 0 := Subsingleton.elim _ _
  exact (Cert.Reference14Ideal.Value.dg_at h0 h1 h2 j).trans (Cert.Kernel14Ideal.Value.final_gain H j).symm

end Cert.NormQuery

end
-- ==== Proof.NormConv.lean ====
module

public import proofs.«01_k».proof.Proof.Gen.Kernel15Ideal.Value
public import proofs.«01_k».proof.Proof.Gen.Reference15Ideal.Read
public import proofs.«01_k».proof.Proof.Gen.Reference15Ideal.Run
public import proofs.«01_k».proof.Proof.Gen.Pre_finite15
public import proofs.«01_k».proof.Proof.NormQuery
public import proofs.«01_k».proof.Proof.Finite
public import proofs.«01_k».proof.Defs
public import Idealize.ShloMosaic.Lib.Pipeline.ValueKit
public import Idealize.ShloMosaic.Lib.Pipeline.ReadBack
public import Idealize.ShloMosaic.Lib.StableHlo.Run
public import Idealize.ShloMosaic.Lib.KernelVsHost

/-! The gradient through the first product of the conformer module and the norm before it. What does not see the product
itself, whose inner length is 2048 here, is that of the queries. -/

@[expose] public section

set_option maxRecDepth 16384

noncomputable section

open Idealize.ShloMosaic Idealize.ShloMosaic.TcCoe Idealize.SL.Sem Proofs.Reals Proofs

namespace Cert.Kernel15Ideal.Value

open Cert.Kernel15Ideal Cert.Kernel15Ideal.Gen
open Cert.Kernel14Ideal.Value (rho_at zero_at back_at lt16 row gainOf rowOf rowOf_congr)

/-! ## One block -/

section block

/-- The block of rows a point of the grid works on, as arrays of real numbers. -/
structure Rows (x0 : Vec Ideal S512x2048 .bf16) (x1 : Vec Ideal S1x1024x2048 .bf16) (x2 : Vec Ideal S512x1024 .f32)
    (x3 : Vec Ideal S1x1024 .f32) (x4 : Vec Ideal S512x1024 .f32) (U : Fin 512 → Fin 2048 → ℝ) (W : Fin 1024 → Fin 2048 → ℝ)
    (X : Fin 512 → Fin 1024 → ℝ) (G : Fin 1024 → ℝ) (E : Fin 512 → Fin 1024 → ℝ) : Prop where
  u : ∀ r k, x0 (ix2 r k) = ((U r k : ℝ) : EReal)
  w : ∀ j k, x1 (ix3 0 j k) = ((W j k : ℝ) : EReal)
  x : ∀ r j, x2 (ix2 r j) = ((X r j : ℝ) : EReal)
  g : ∀ j, x3 (ix2 0 j) = ((G j : ℝ) : EReal)
  e : ∀ r j, x4 (ix2 r j) = ((E r j : ℝ) : EReal)

variable {x0 : Vec Ideal S512x2048 .bf16} {x1 : Vec Ideal S1x1024x2048 .bf16} {x2 : Vec Ideal S512x1024 .f32}
variable {x3 : Vec Ideal S1x1024 .f32} {x4 : Vec Ideal S512x1024 .f32} {U : Fin 512 → Fin 2048 → ℝ} {W : Fin 1024 → Fin 2048 → ℝ}
variable {X : Fin 512 → Fin 1024 → ℝ} {G : Fin 1024 → ℝ} {E : Fin 512 → Fin 1024 → ℝ}

/-- The rows, normalised. -/
theorem normed_at (h : ∀ r j, x2 (ix2 r j) = ((X r j : ℝ) : EReal)) (r : Fin 512) (j : Fin 1024) :
    k0_pay5 (F := Ideal) x2 (ix2 r j) = ↑(X r j * Normed.rho (X r)) :=
  Cert.Kernel14Ideal.Value.normed_at h r j

variable (H : Rows x0 x1 x2 x3 x4 U W X G E)

include H

/-- The cotangent of the normalised rows with their gain. -/
theorem dh_at (r : Fin 512) (j : Fin 1024) : k0_pay2 (F := Ideal) x0 x1 (ix2 r j) = ↑(Back.dh (U r) (W j)) := by
  pointwise [k0_pay2]
  simp only [H.u, H.w, ← EReal.coe_mul, ← coe_sum]
  rfl

theorem dn_at (r : Fin 512) (j : Fin 1024) : k0_pay7 (F := Ideal) x0 x1 x3 (ix2 r j) = ↑(Back.dh (U r) (W j) * G j) := by
  pointwise [k0_pay7]
  rw [dh_at H, H.g, ← EReal.coe_mul]

theorem dot_at (r : Fin 512) : k0_pay8 (F := Ideal) x0 x1 x2 x3 (ix1 r)
    = ↑(∑ k, Back.dh (U r) (W k) * G k * (X r k * Normed.rho (X r))) := by
  pointwise [k0_pay8]
  simp only [dn_at H, normed_at H.x, ← EReal.coe_mul, ← coe_sum, zero_add]

/-- What the rows of a block add to the cotangent of the gain. -/
theorem dgain_at {p : Vec Ideal S1x1024 .f32} {P : Fin 1024 → ℝ} (hp : ∀ j, p (ix2 0 j) = ↑(P j)) (j : Fin 1024) :
    k0_pay6 (F := Ideal) x0 x1 x2 p (ix2 0 j)
      = ((P j + ∑ r, Back.dh (U r) (W j) * (X r j * Normed.rho (X r)) : ℝ) : EReal) := by
  pointwise [k0_pay6]
  simp only [dh_at H, normed_at H.x, hp, ← EReal.coe_mul, ← coe_sum, zero_add]
  rw [← EReal.coe_add]

/-- The cotangent of the rows. -/
theorem dx_at (r : Fin 512) (j : Fin 1024) :
    k0_pay1 (F := Ideal) (k0_pay4 (F := Ideal) x2) (k0_pay5 (F := Ideal) x2) (k0_pay7 (F := Ideal) x0 x1 x3) x4
      (k0_pay8 (F := Ideal) x0 x1 x2 x3) (ix2 r j) = ↑(Normed.dx (fun k => Back.dh (U r) (W k)) G (X r) (E r j) j) :=
  back_at (D := fun r k => Back.dh (U r) (W k)) (rho_at H.x) (normed_at H.x) (dn_at H) H.e (dot_at H) r j

end block

/-! ## The points of the grid -/

variable (m : (ℓ : Loc nD τ sig) → Buf (Elt Ideal) ℓ) (c : Dev nD)

/-- The cotangent of the rows of a point. -/
abbrev rows (t : Fin cfg0.N) : Vec Ideal S512x1024 .f32 :=
  k0_pay1 (F := Ideal) (k0_pay4 (F := Ideal) (iblk m c 2 t)) (k0_pay5 (F := Ideal) (iblk m c 2 t))
    (k0_pay7 (F := Ideal) (iblk m c 0 t) (iblk m c 1 t) (iblk m c 3 t)) (iblk m c 4 t)
    (k0_pay8 (F := Ideal) (iblk m c 0 t) (iblk m c 1 t) (iblk m c 2 t) (iblk m c 3 t))

/-- The cotangent of the gain after a point, from what it was before it. -/
abbrev gain (t : Fin cfg0.N) (p : Vec Ideal S1x1024 .f32) : Vec Ideal S1x1024 .f32 :=
  k0_pay6 (F := Ideal) (iblk m c 0 t) (iblk m c 1 t) (iblk m c 2 t) p

/-- What a point leaves in the two outputs, from what the point before left. -/
theorem first (t : Fin cfg0.N) (h : t.val % 16 = 0) : outsAt0 m c t.val t.isLt
    = (rows m c t, gain m c t (k0_pay3 (F := Ideal))) := by
  rw [outsAt0_A m c t h]
  frame_open
  simp (disch := decide) only [↓ View.readCov_skip, ↓ View.readCov_cons_toLoadRect, ↓ View.readCov_fill]
  frame_out

theorem next (t : Fin cfg0.N) (h : ¬ t.val % 16 = 0) : outsAt0 m c t.val t.isLt
    = (rows m c t, gain m c t (outsAt0 m c (t.val - 1) (Nat.lt_of_le_of_lt (Nat.sub_le _ _) t.isLt)).2) := by
  rw [outsAt0_B m c t h]
  frame_open
  simp (disch := decide) only [↓ View.readCov_skip, ↓ View.readCov_cons_toLoadRect, ↓ View.readCov_fill]
  frame_out

/-! ## The arrays -/

variable (U : Fin 8192 → Fin 2048 → ℝ) (W : Fin 1024 → Fin 2048 → ℝ) (X : Fin 8192 → Fin 1024 → ℝ) (G : Fin 1024 → ℝ)
variable (E : Fin 8192 → Fin 1024 → ℝ)

/-- The arguments of the kernel are the real arrays `U`, `W`, `X`, `G` and `E`. -/
def Args : Prop :=
  (∀ r k, m ((c : Thread nD τ).loc main_arg0) (ix2 r k) = ((U r k : ℝ) : EReal))
  ∧ (∀ j k, m ((c : Thread nD τ).loc main_arg1) (ix3 0 j k) = ((W j k : ℝ) : EReal))
  ∧ (∀ r j, m ((c : Thread nD τ).loc main_arg2) (ix2 r j) = ((X r j : ℝ) : EReal))
  ∧ (∀ j, m ((c : Thread nD τ).loc main_arg3) (ix1 j) = ((G j : ℝ) : EReal))
  ∧ (∀ r j, m ((c : Thread nD τ).loc main_arg4) (ix2 r j) = ((E r j : ℝ) : EReal))

variable {m c U W X G E}

/-- The block indices of the windows at each point of the grid. -/
theorem idx : ∀ t : Fin cfg0.N, win0_0.index t = ![t.val, 0] ∧ win0_1.index t = ![0, 0, 0]
    ∧ win0_2.index t = ![t.val, 0] ∧ win0_3.index t = ![0, 0] ∧ win0_4.index t = ![t.val, 0]
    ∧ win0_5.index t = ![t.val, 0] ∧ win0_6.index t = ![0, 0] :=
  (by decide +kernel : ∀ t : Fin grid0.N, _)

/-- The gain, as a row. -/
theorem entry_gain (m : (ℓ : Loc nD τ sig) → Buf (Elt Ideal) ℓ) (c : Dev nD) : V m c main_v0
    = shapeCast S1x1024 (m ((c : Thread nD τ).loc main_arg3)) shapeCasts_S1024_S1x1024 := by
  unfold_abbrev_sides
  after_results
  try rfl

/-- The blocks of a point. -/
theorem blk (H : Args m c U W X G E) (t : Fin cfg0.N) :
    Rows (iblk m c 0 t) (iblk m c 1 t) (iblk m c 2 t) (iblk m c 3 t) (iblk m c 4 t)
      (fun r => U (row t.val (lt16 t) r)) W (fun r => X (row t.val (lt16 t) r)) G (fun r => E (row t.val (lt16 t) r)) where
  u r k := by rw [← H.1]; blk_ext [iblk, V, idx t, row]
  w j k := by rw [← H.2.1]; blk_ext [iblk, V, idx t]
  x r j := by rw [← H.2.2.1]; blk_ext [iblk, V, idx t, row]
  g j := by
    rw [← H.2.2.2.1]
    show V m c main_v0 ((win0_3.blk t).view.emb (ix2 0 j)) = _
    rw [entry_gain]
    refine shapeCast_apply _ _ _ _ ?_
    refine (Shape.rowMajor_val_one _).trans (Eq.trans ?_ (Shape.rowMajor_val_two _).symm)
    blk_simp [idx t]
    exact (show (j : ℕ) = 0 * 1024 + j by omega)
  e r j := by rw [← H.2.2.2.2]; blk_ext [iblk, V, idx t, row]

/-- The cotangent of the gain after block `b`: each block adds its rows. -/
theorem gains (H : Args m c U W X G E) (b : ℕ) : ∀ (hb : b < 16) (t : Fin cfg0.N) (_ : t.val = b) (j : Fin 1024),
    (outsAt0 m c t.val t.isLt).2 (ix2 0 j) = ((Normed.blocks (gainOf U W X j) b hb : ℝ) : EReal) := by
  induction b with
  | zero =>
    intro hb t ht j
    rw [first m c t (by omega), Normed.blocks_zero]
    refine (dgain_at (blk H t) zero_at j).trans ?_
    simp only [ht]; rfl
  | succ b ih =>
    intro hb t ht j
    rw [next m c t (by omega), Normed.blocks_succ]
    refine (dgain_at (blk H t) (ih (by omega) ⟨t.val - 1, Nat.lt_of_le_of_lt (Nat.sub_le _ _) t.isLt⟩
      (show t.val - 1 = b by omega)) j).trans ?_
    simp only [ht]; rfl

/-- What each point writes of the cotangent of the rows. -/
theorem rows_out (H : Args m c U W X G E) (t : Fin cfg0.N) (r : Fin 512) (j : Fin 1024) :
    (outsAt0 m c t.val t.isLt).1 (ix2 r j) = ((rowOf U W X G E j (row t.val (lt16 t) r) : ℝ) : EReal) := by
  by_cases h : t.val % 16 = 0
  · rw [first m c t h]; exact dx_at (blk H t) r j
  · rw [next m c t h]; exact dx_at (blk H t) r j

/-- The cotangent of the rows, after the run. -/
theorem final_rows (H : Args m c U W X G E) (r : Fin 8192) (j : Fin 1024) :
    (dats m 0 c).arrAt 5 cfg0.N (ix2 r j) = ((rowOf U W X G E j r : ℝ) : EReal) := by
  suffices h : (dats m 0 c).arrAt 5 cfg0.N = fun i : S8192x1024.Idx => ((rowOf U W X G E (i 1) (i 0) : ℝ) : EReal) by
    rw [h]; rfl
  refine (dats m 0 c).arrAt_eq_of_covers 5 _ (by decide +kernel) fun t hf y => ?_
  blk_simp
  obtain ⟨r, j, rfl⟩ : ∃ (r : Fin 512) (j : Fin 1024), y = ix2 r j := ⟨_, _, eq_ix2 y⟩
  rw [after0_5, rows_out H t]
  refine rowOf_congr (Fin.ext ?_) (Fin.ext ?_)
  all_goals (blk_simp [idx t, row] <;> first | omega | (dsimp only; omega))

/-- The cotangent of the gain, after the run. -/
theorem final_gain (H : Args m c U W X G E) (j : Fin 1024) :
    (dats m 0 c).arrAt 6 cfg0.N (ix2 0 j) = ((∑ r, gainOf U W X j r : ℝ) : EReal) := by
  suffices h : (dats m 0 c).arrAt 6 cfg0.N = fun i : S1x1024.Idx => ((∑ r, gainOf U W X (i 1) r : ℝ) : EReal) by
    rw [h]; rfl
  refine (dats m 0 c).arrAt_eq_of_covers 6 _ (by decide +kernel) fun t hf y => ?_
  have ht : t.val = 15 := by have := (flush0_6 t).mp hf; have := lt16 t; omega
  blk_simp
  obtain ⟨i, j, rfl⟩ : ∃ (i : Fin 1) (j : Fin 1024), y = ix2 i j := ⟨_, _, eq_ix2 y⟩
  obtain rfl : i = 0 := Subsingleton.elim _ _
  rw [after0_6, gains H 15 (by omega) t ht j, Normed.blocks_last]
  refine congrArg (fun j => ((∑ r, gainOf U W X j r : ℝ) : EReal)) (Fin.ext ?_)
  blk_simp [idx t] <;> first | omega | (dsimp only; omega)

end Cert.Kernel15Ideal.Value

/-! ## The reference -/

namespace Cert.Reference15Ideal.Value

open Cert.Reference15Ideal Cert.Reference15Ideal.Gen Cert.Reference15Ideal.Read

variable {x0 : FVec Ideal S8192x2048 .bf16} {x1 : FVec Ideal S1x1024x2048 .bf16} {x2 : FVec Ideal S8192x1024 .f32}
variable {x3 : FVec Ideal S1024 .f32} {x4 : FVec Ideal S8192x1024 .f32} {U : Fin 8192 → Fin 2048 → ℝ}
variable {W : Fin 1024 → Fin 2048 → ℝ} {X : Fin 8192 → Fin 1024 → ℝ} {G : Fin 1024 → ℝ} {E : Fin 8192 → Fin 1024 → ℝ}

/-- The reciprocal of the norm of a row. -/
theorem v10_at (h2 : ∀ r j, x2 (ix2 r j) = ((X r j : ℝ) : EReal)) (r : Fin 8192) :
    val_main_v10 (F := Ideal) x2 (ix2 r 0) = ((Normed.rho (X r) : ℝ) : EReal) :=
  Cert.Reference14Ideal.Value.v10_at h2 r

/-- The derivative of the reciprocal of the norm. -/
theorem v13_at (h2 : ∀ r j, x2 (ix2 r j) = ((X r j : ℝ) : EReal)) (r : Fin 8192) :
    val_main_v13 (F := Ideal) x2 (ix2 r 0) = ((-(1 / 2) * (Normed.rho (X r) / Normed.ms (X r)) : ℝ) : EReal) :=
  Cert.Reference14Ideal.Value.v13_at h2 r

variable (h0 : ∀ r k, x0 (ix2 r k) = ((U r k : ℝ) : EReal)) (h1 : ∀ j k, x1 (ix3 0 j k) = ((W j k : ℝ) : EReal))
variable (h2 : ∀ r j, x2 (ix2 r j) = ((X r j : ℝ) : EReal)) (h3 : ∀ j, x3 (ix1 j) = ((G j : ℝ) : EReal))
variable (h4 : ∀ r j, x4 (ix2 r j) = ((E r j : ℝ) : EReal))

include h0 h1

/-- The cotangent of the normalised rows with their gain. -/
theorem v20_at (r : Fin 8192) (j : Fin 1024) :
    val_main_v20 (F := Ideal) x0 x1 (ix2 r j) = ((Back.dh (U r) (W j) : ℝ) : EReal) := by
  pointwise [val_main_v20, val_main_v2, val_main_v1, val_main_v0]
  simp only [h0, h1, ← EReal.coe_mul, ← coe_sum]
  rfl

include h3 in
theorem v25_at (r : Fin 8192) (j : Fin 1024) :
    val_main_v25 (F := Ideal) x0 x1 x3 (ix2 r j) = ((Back.dh (U r) (W j) * G j : ℝ) : EReal) := by
  pointwise [val_main_v25, val_main_v24, val_main_v16]
  rw [v20_at h0 h1, h3, ← EReal.coe_mul]

include h2

/-- The cotangent of the gain. -/
theorem dg_at (j : Fin 1024) : val_main_v42 (F := Ideal) x0 x1 x2 (ix2 0 j)
    = ((∑ r, Back.dh (U r) (W j) * (X r j * Normed.rho (X r)) : ℝ) : EReal) := by
  pointwise [val_main_v42, val_main_v26, val_main_cst_4, val_main_v23, val_main_v22, val_main_cst_3, val_main_v21, val_main_v15,
    val_main_v14]
  simp only [Fin.sum_univ_one, h2, v10_at h2, v20_at h0 h1, ← EReal.coe_mul, ← coe_sum, zero_add]
  exact congrArg _ (Finset.sum_congr rfl fun r _ => mul_comm _ _)

include h3

/-- The cotangent of the mean square, over the length of the row. -/
theorem v37_at (r : Fin 8192) (j : Fin 1024) : val_main_v37 (F := Ideal) x0 x1 x2 x3 (ix2 r j)
    = ((Normed.dms (fun k => Back.dh (U r) (W k)) G (X r) : ℝ) : EReal) := by
  pointwise [val_main_v37, val_main_v36, val_main_cst_7, val_main_v35, val_main_v34, val_main_cst_6, val_main_v33, val_main_v29,
    val_main_v28, val_main_cst_5, val_main_v27]
  simp only [Fin.sum_univ_one, h2, v13_at h2, v25_at h0 h1 h3, Normed.length_bits, ← EReal.coe_mul, ← coe_sum, zero_add]
  rw [div_coe_coe _ (by norm_num)]
  rfl

include h4

/-- The cotangent of the rows. -/
theorem dx_at (r : Fin 8192) (j : Fin 1024) : val_main_v41 (F := Ideal) x0 x1 x2 x3 x4 (ix2 r j)
    = ((Normed.dx (fun k => Back.dh (U r) (W k)) G (X r) (E r j) j : ℝ) : EReal) := by
  pointwise [val_main_v41, val_main_v40, val_main_v39, val_main_v38, val_main_v32, val_main_v31, val_main_v30]
  simp only [h2, h4, v10_at h2, v25_at h0 h1 h3, v37_at h0 h1 h2 h3, ← EReal.coe_mul, ← EReal.coe_add]
  rw [← Normed.dx_eq]

end Cert.Reference15Ideal.Value

/-! ## The two together -/

namespace Cert.NormConv

open Cert.Kernel15Ideal Cert.Kernel15Ideal.Gen

variable (m : (ℓ : Loc nD τ sig) → Buf (Elt Ideal) ℓ) (c : Dev nD)

/-- The arguments are real under the precondition. -/
theorem args (h : Cert.Pre_Kernel15Ideal_finite15 m) :
    ∃ (U : Fin 8192 → Fin 2048 → ℝ) (W : Fin 1024 → Fin 2048 → ℝ) (X : Fin 8192 → Fin 1024 → ℝ) (G : Fin 1024 → ℝ)
      (E : Fin 8192 → Fin 1024 → ℝ), Cert.Kernel15Ideal.Value.Args m c U W X G E := by
  obtain ⟨h0, h1, h2, h3, h4⟩ := h c
  have e0 := Proofs.Finite.real_of_cmp _ _ h0
  have e1 := Proofs.Finite.real_of_cmp _ _ h1
  have e2 := Proofs.Finite.real_of_cmp _ _ h2
  have e3 := Proofs.Finite.real_of_cmp _ _ h3
  have e4 := Proofs.Finite.real_of_cmp _ _ h4
  exact ⟨fun r k => (e0 (ix2 r k)).choose, fun j k => (e1 (ix3 0 j k)).choose, fun r j => (e2 (ix2 r j)).choose,
    fun j => (e3 (ix1 j)).choose, fun r j => (e4 (ix2 r j)).choose,
    fun r k => (e0 (ix2 r k)).choose_spec, fun j k => (e1 (ix3 0 j k)).choose_spec, fun r j => (e2 (ix2 r j)).choose_spec,
    fun j => (e3 (ix1 j)).choose_spec, fun r j => (e4 (ix2 r j)).choose_spec⟩

/-- The cotangents of the rows agree. -/
theorem dx (h : Cert.Pre_Kernel15Ideal_finite15 m) : Cert.Reference15Ideal.Read.val_main_v41 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) = (dats m 0 c).arrAt 5 cfg0.N := by
  obtain ⟨U, W, X, G, E, H⟩ := args m c h
  obtain ⟨h0, h1, h2, h3, h4⟩ := id H
  funext i
  obtain ⟨r, j, rfl⟩ : ∃ r j, i = ix2 r j := ⟨_, _, eq_ix2 i⟩
  exact (Cert.Reference15Ideal.Value.dx_at h0 h1 h2 h3 h4 r j).trans (Cert.Kernel15Ideal.Value.final_rows H r j).symm

/-- The cotangents of the gain agree. -/
theorem dg (h : Cert.Pre_Kernel15Ideal_finite15 m) : Cert.Reference15Ideal.Read.val_main_v42 (F := Ideal)
    (m ((c : Thread nD τ).loc main_arg0)) (m ((c : Thread nD τ).loc main_arg1)) (m ((c : Thread nD τ).loc main_arg2))
      = (dats m 0 c).arrAt 6 cfg0.N := by
  obtain ⟨U, W, X, G, E, H⟩ := args m c h
  obtain ⟨h0, h1, h2, h3, h4⟩ := id H
  funext i
  obtain ⟨z, j, rfl⟩ : ∃ (z : Fin 1) (j : Fin 1024), i = ix2 z j := ⟨_, _, eq_ix2 i⟩
  obtain rfl : z = 0 := Subsingleton.elim _ _
  exact (Cert.Reference15Ideal.Value.dg_at h0 h1 h2 j).trans (Cert.Kernel15Ideal.Value.final_gain H j).symm

end Cert.NormConv

end
-- ==== Proof.Memory.lean ====
module

public import proofs.«01_k».proof.Proof.Gen.Kernel16Ideal.Value
public import proofs.«01_k».proof.Proof.Gen.Reference16Ideal.Read
public import proofs.«01_k».proof.Proof.Gen.Kernel17Ideal.Value
public import proofs.«01_k».proof.Proof.Gen.Reference17Ideal.Read
public import proofs.«01_k».proof.Proof.Gen.Kernel24Ideal.Value
public import proofs.«01_k».proof.Proof.Gen.Reference24Ideal.Read
public import Idealize.ShloMosaic.Lib.Pipeline.ValueKit
public import Idealize.ShloMosaic.Lib.Pipeline.ReadBack
public import Idealize.ShloMosaic.Lib.StableHlo.Run
public import Idealize.ShloMosaic.Lib.KernelVsHost

/-! The products over the memory: of the normalised memory and the weight of keys and values, and the gradients of both. -/

@[expose] public section

set_option maxRecDepth 16384

noncomputable section

open Idealize.ShloMosaic Idealize.ShloMosaic.TcCoe Idealize.SL.Sem

/-! ## The gradient of the weight -/

namespace Cert.Kernel16Ideal.Value

open Cert.Kernel16Ideal Cert.Kernel16Ideal.Gen

variable (m : (ℓ : Loc nD τ sig) → Buf (Elt Ideal) ℓ) (c : Dev nD)

theorem idx : ∀ t : Fin cfg0.N, win0_0.index t = ![0, 0] ∧ win0_1.index t = ![0, t.val] ∧ win0_2.index t = ![0, t.val] :=
  (by decide +kernel : ∀ t : Fin grid0.N, _)

/-- A tile of the product. -/
theorem tile (x0 : Vec Ideal S1024x1024 .bf16) (x1 : Vec Ideal S1024x512 .f32) (y : S1024x512.Idx) :
    out0_2 (F := Ideal) x0 x1 y = ∑ k : Fin 1024, x1 (ix2 k (y 1)) * x0 (ix2 k (y 0)) := by
  frame_out
  pointwise [k0_pay1]
  exact Finset.sum_congr rfl fun k _ => mul_comm _ _

/-- The product, after the run. -/
theorem final : (dats m 0 c).arrAt 2 cfg0.N
    = Cert.Reference16Ideal.Read.val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2, tile]
  pointwise [Cert.Reference16Ideal.Read.val_main_v5, Cert.Reference16Ideal.Read.val_main_v4, Cert.Reference16Ideal.Read.val_main_v3,
    Cert.Reference16Ideal.Read.val_main_v0]
  refine Fin.sum_fin_congr fun k => congrArg₂ (fun a b : EReal => a * b) ?_ ?_
  all_goals blk_ext [iblk, V, idx t]

end Cert.Kernel16Ideal.Value

/-! ## The gradient of the normalised memory -/

namespace Cert.Kernel17Ideal.Value

open Cert.Kernel17Ideal Cert.Kernel17Ideal.Gen

variable (m : (ℓ : Loc nD τ sig) → Buf (Elt Ideal) ℓ) (c : Dev nD)

theorem idx : ∀ t : Fin cfg0.N, win0_0.index t = ![0, 0] ∧ win0_1.index t = ![0, t.val, 0] ∧ win0_2.index t = ![0, t.val] :=
  (by decide +kernel : ∀ t : Fin grid0.N, _)

/-- A tile of the product. -/
theorem tile (x0 : Vec Ideal S1024x2048 .f32) (x1 : Vec Ideal S1x512x2048 .bf16) (y : S1024x512.Idx) :
    out0_2 (F := Ideal) x0 x1 y = ∑ k : Fin 2048, x0 (ix2 (y 0) k) * x1 (ix3 0 (y 1) k) := by
  frame_out
  pointwise [k0_pay1]

/-- The product, after the run. -/
theorem final : (dats m 0 c).arrAt 2 cfg0.N
    = Cert.Reference17Ideal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2, tile]
  pointwise [Cert.Reference17Ideal.Read.val_main_v4, Cert.Reference17Ideal.Read.val_main_v1, Cert.Reference17Ideal.Read.val_main_v0]
  refine Fin.sum_fin_congr fun k => congrArg₂ (fun a b : EReal => a * b) ?_ ?_
  all_goals blk_ext [iblk, V, idx t]

end Cert.Kernel17Ideal.Value

/-! ## The product -/

namespace Cert.Kernel24Ideal.Value

open Cert.Kernel24Ideal Cert.Kernel24Ideal.Gen

variable (m : (ℓ : Loc nD τ sig) → Buf (Elt Ideal) ℓ) (c : Dev nD)

theorem idx : ∀ t : Fin cfg0.N, win0_0.index t = ![0, 0] ∧ win0_1.index t = ![0, 0, t.val] ∧ win0_2.index t = ![0, t.val] :=
  (by decide +kernel : ∀ t : Fin grid0.N, _)

/-- A tile of the product. -/
theorem tile (x0 : Vec Ideal S1024x1024 .bf16) (x1 : Vec Ideal S1x1024x512 .bf16) (y : S1024x512.Idx) :
    out0_2 (F := Ideal) x0 x1 y = ∑ k : Fin 1024, x0 (ix2 (y 0) k) * x1 (ix3 0 k (y 1)) := by
  frame_out
  pointwise [k0_pay1]

/-- The product, after the run. -/
theorem final : (dats m 0 c).arrAt 2 cfg0.N
    = Cert.Reference24Ideal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2, tile]
  pointwise [Cert.Reference24Ideal.Read.val_main_v4, Cert.Reference24Ideal.Read.val_main_v3, Cert.Reference24Ideal.Read.val_main_v2,
    Cert.Reference24Ideal.Read.val_main_v1, Cert.Reference24Ideal.Read.val_main_v0]
  refine Fin.sum_fin_congr fun k => congrArg₂ (fun a b : EReal => a * b) ?_ ?_
  all_goals blk_ext [iblk, V, idx t]

end Cert.Kernel24Ideal.Value

end
-- ==== Proof.RowNorm.lean ====
module

public import Idealize.ShloMosaic.Lib.Pipeline.ValueKit

/-! The root mean square norm of a row of 1024 numbers, with a gain, as it is spelled: the mean square, the constant that is
added, the reciprocal of the root, the row and the gain, in this order. -/

@[expose] public section

noncomputable section

open Idealize.ShloMosaic

namespace Proofs.RowNorm

/-- The reciprocal of the norm. -/
def rho (x : Fin 1024 → EReal) : EReal :=
  Ideal.rsqrt (Ideal.div (∑ k, x k * x k) (Ideal.ofBits .f32 0x44800000#32) + Ideal.ofBits .f32 0x358637BD#32)

/-- The row, normalised. -/
def unit (x : Fin 1024 → EReal) (j : Fin 1024) : EReal := x j * rho x

/-- The row, normalised, with its gain. -/
def gained (x g : Fin 1024 → EReal) (j : Fin 1024) : EReal := unit x j * g j

theorem unit_congr {x x' : Fin 1024 → EReal} {j j' : Fin 1024} (hx : ∀ k, x k = x' k) (hj : j = j') : unit x j = unit x' j' := by
  obtain rfl : x = x' := funext hx
  rw [hj]

theorem gained_congr {x x' g g' : Fin 1024 → EReal} {j j' : Fin 1024} (hx : ∀ k, x k = x' k) (hg : ∀ k, g k = g' k)
    (hj : j = j') : gained x g j = gained x' g' j' := by
  obtain rfl : x = x' := funext hx
  obtain rfl : g = g' := funext hg
  rw [hj]

end Proofs.RowNorm

end
-- ==== Proof.Blocks.lean ====
module

public import Idealize.ShloMosaic.Lib.Pipeline.ValueKit

/-! A sum that is formed block by block. -/

@[expose] public section

noncomputable section

open Idealize.ShloMosaic

namespace Proofs.Blocks

variable {p n : ℕ}

/-- The sum over the blocks up to block `b`, of `n` terms each. -/
def upTo (p n : ℕ) (f : Fin (p * n) → EReal) (b : ℕ) (hb : b < p) : EReal :=
  ∑ s : Fin (b + 1), ∑ r : Fin n, f ⟨s * n + r, by
    have := Nat.mul_le_mul_right n (show (s : ℕ) + 1 ≤ p by omega)
    rw [Nat.add_mul, Nat.one_mul] at this
    omega⟩

theorem upTo_zero (f : Fin (p * n) → EReal) (hb : 0 < p) :
    upTo p n f 0 hb = ∑ r : Fin n, f ⟨0 * n + r, by have := Nat.mul_le_mul_right n (show 1 ≤ p by omega); omega⟩ :=
  Fin.sum_univ_one _

theorem upTo_succ (f : Fin (p * n) → EReal) (b : ℕ) (hb : b + 1 < p) :
    upTo p n f (b + 1) hb = upTo p n f b (by omega) + ∑ r : Fin n, f ⟨(b + 1) * n + r, by
      have := Nat.mul_le_mul_right n (show b + 1 + 1 ≤ p by omega)
      rw [Nat.add_mul (b + 1), Nat.one_mul] at this
      omega⟩ :=
  Fin.sum_univ_castSucc _

theorem upTo_last (f : Fin (p * n) → EReal) (b : ℕ) (hb : b < p) (h : b + 1 = p) : upTo p n f b hb = ∑ r, f r := by
  subst h
  exact Fin.sum_mul_add_fin (b + 1) n f

end Proofs.Blocks

end
-- ==== Proof.MemoryNorm.lean ====
module

public import proofs.«01_k».proof.Proof.Gen.Kernel18Ideal.Value
public import proofs.«01_k».proof.Proof.Gen.Reference18Ideal.Read
public import proofs.«01_k».proof.Proof.Gen.Kernel25Ideal.Value
public import proofs.«01_k».proof.Proof.Gen.Reference25Ideal.Read
public import proofs.«01_k».proof.Proof.RowNorm
public import proofs.«01_k».proof.Proof.Blocks
public import Idealize.ShloMosaic.Lib.Pipeline.ValueKit
public import Idealize.ShloMosaic.Lib.Pipeline.ReadBack
public import Idealize.ShloMosaic.Lib.StableHlo.Run
public import Idealize.ShloMosaic.Lib.KernelVsHost

/-! The norm of the memory, and the gradient of its gain. -/

@[expose] public section

set_option maxRecDepth 16384

noncomputable section

open Idealize.ShloMosaic Idealize.ShloMosaic.TcCoe Idealize.SL.Sem Proofs

/-! ## The norm -/

namespace Cert.Kernel25Ideal.Value

open Cert.Kernel25Ideal Cert.Kernel25Ideal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- A block of rows. -/
theorem tile (x0 : Vec Ideal S512x1024 .f32) (x1 : Vec Ideal S1x1024 .f32) (r : Fin 512) (j : Fin 1024) :
    out0_2 (F := Ideal) x0 x1 (ix2 r j) = RowNorm.gained (fun k => x0 (ix2 r k)) (fun k => x1 (ix2 0 k)) j := by
  frame_out
  pointwise [k0_pay1]
  rfl

/-- The rows in the reference. -/
theorem ref_at (x0 : FVec Ideal S1024x1024 .f32) (x1 : FVec Ideal S1024 .f32) (r j : Fin 1024) :
    Cert.Reference25Ideal.Read.val_main_v13 (F := Ideal) x0 x1 (ix2 r j)
      = RowNorm.gained (fun k => x0 (ix2 r k)) (fun k => x1 (ix1 k)) j := by
  pointwise [Cert.Reference25Ideal.Read.val_main_v13, Cert.Reference25Ideal.Read.val_main_v12, Cert.Reference25Ideal.Read.val_main_v11,
    Cert.Reference25Ideal.Read.val_main_v10, Cert.Reference25Ideal.Read.val_main_v9, Cert.Reference25Ideal.Read.val_main_v8,
    Cert.Reference25Ideal.Read.val_main_v7, Cert.Reference25Ideal.Read.val_main_v6, Cert.Reference25Ideal.Read.val_main_v5,
    Cert.Reference25Ideal.Read.val_main_cst_1, Cert.Reference25Ideal.Read.val_main_v4, Cert.Reference25Ideal.Read.val_main_v3,
    Cert.Reference25Ideal.Read.val_main_cst_0, Cert.Reference25Ideal.Read.val_main_v2, Cert.Reference25Ideal.Read.val_main_v1,
    Cert.Reference25Ideal.Read.val_main_cst, Cert.Reference25Ideal.Read.val_main_v0]
  rfl

/-- The gain, as a row. -/
theorem entry_gain : V m c main_v0 = shapeCast S1x1024 (m ((c : Thread nD τ).loc main_arg1)) shapeCasts_S1024_S1x1024 := by
  unfold_abbrev_sides
  after_results
  try rfl

theorem blk_gain (t : Fin cfg0.N) (j : Fin 1024) : iblk m c 1 t (ix2 0 j) = m ((c : Thread nD τ).loc main_arg1) (ix1 j) := by
  show V m c main_v0 ((win0_1.blk t).view.emb (ix2 0 j)) = _
  rw [entry_gain]
  refine shapeCast_apply _ _ _ _ ?_
  refine (Shape.rowMajor_val_one _).trans (Eq.trans ?_ (Shape.rowMajor_val_two _).symm)
  blk_simp [idx t]
  exact (show (j : ℕ) = 0 * 1024 + j by omega)

/-- The normalised memory, after the run. -/
theorem final : (dats m 0 c).arrAt 2 cfg0.N
    = Cert.Reference25Ideal.Read.val_main_v13 (F := Ideal) (m ((c : Thread nD τ).loc main_arg0)) (m ((c : Thread nD τ).loc main_arg1)) := by
  refine (dats m 0 c).arrAt_eq_of_covers 2 _ (by decide +kernel) fun t hf y => ?_
  blk_simp
  obtain ⟨r, j, rfl⟩ : ∃ (r : Fin 512) (j : Fin 1024), y = ix2 r j := ⟨_, _, eq_ix2 y⟩
  rw [after0_2, tile]
  refine Eq.trans ?_ ((congrArg _ (eq_ix2 _)).trans (ref_at _ _ _ _)).symm
  refine RowNorm.gained_congr (fun k => ?_) (fun k => blk_gain m c t k) (Fin.ext ?_)
  · blk_ext [iblk, V, idx t]
  · blk_simp [idx t]

end Cert.Kernel25Ideal.Value

/-! ## The gradient of the gain -/

namespace Cert.Kernel18Ideal.Value

open Cert.Kernel18Ideal Cert.Kernel18Ideal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] :=
  (by decide +kernel : ∀ t : Fin grid0.N, _)

/-- The grid has four points. -/
theorem lt4 (t : Fin cfg0.N) : t.val < 4 := lt_of_lt_of_eq t.isLt N_0

/-- What the rows of a block add. -/
theorem add_at (x0 : Vec Ideal S256x1024 .f32) (p : Vec Ideal S1x1024 .f32) (x1 : Vec Ideal S256x1024 .f32) (j : Fin 1024) :
    k0_pay2 (F := Ideal) x0 p x1 (ix2 0 j)
      = p (ix2 0 j) + ∑ r : Fin 256, RowNorm.unit (fun k => x0 (ix2 r k)) j * x1 (ix2 r j) := by
  pointwise [k0_pay2]
  exact congrArg (fun a : EReal => _ + a) (Finset.sum_congr rfl fun r _ => mul_comm _ _)

theorem zero_at (j : Fin 1024) : k0_pay1 (F := Ideal) (ix2 0 j) = 0 := by
  pointwise [k0_pay1]

/-- What a row adds. -/
def term (j : Fin 1024) (r : Fin (4 * 256)) : EReal :=
  RowNorm.unit (fun k => m ((c : Thread nD τ).loc main_arg0) (ix2 (r : Fin 1024) k)) j
    * m ((c : Thread nD τ).loc main_arg1) (ix2 (r : Fin 1024) j)

/-- A row of the blocks of a point. -/
theorem blk (t : Fin cfg0.N) (b : ℕ) (ht : t.val = b) (r : Fin 256) (h : b * 256 + r < 4 * 256) (j : Fin 1024) :
    RowNorm.unit (fun k => iblk m c 0 t (ix2 r k)) j * iblk m c 1 t (ix2 r j) = term m c j ⟨b * 256 + r, h⟩ := by
  subst ht
  refine congrArg₂ (fun a b : EReal => a * b) (RowNorm.unit_congr (fun k => ?_) rfl) ?_
  all_goals blk_ext [iblk, V, idx t]

/-- The gradient after block `b`. -/
theorem sums (b : ℕ) : ∀ (hb : b < 4) (t : Fin cfg0.N) (_ : t.val = b) (j : Fin 1024),
    outsAt0 m c t.val t.isLt (ix2 0 j) = Blocks.upTo 4 256 (term m c j) b hb := by
  induction b with
  | zero =>
    intro hb t ht j
    rw [outsAt0_A m c t (by omega), out_A_2_eq, add_at, zero_at, zero_add, Blocks.upTo_zero]
    exact Finset.sum_congr rfl fun r _ => blk m c t 0 ht r _ j
  | succ b ih =>
    intro hb t ht j
    rw [outsAt0_B m c t (by omega), out_B_2_eq, add_at, Blocks.upTo_succ]
    exact congrArg₂ (fun a b : EReal => a + b) (ih (by omega) ⟨t.val - 1, Nat.lt_of_le_of_lt (Nat.sub_le _ _) t.isLt⟩
      (show t.val - 1 = b by omega) j) (Finset.sum_congr rfl fun r _ => blk m c t (b + 1) ht r _ j)

/-- The gradient in the reference. -/
theorem ref_at (x0 x1 : FVec Ideal S1024x1024 .f32) (j : Fin 1024) :
    Cert.Reference18Ideal.Read.val_main_v18 (F := Ideal) x0 x1 (ix2 0 j)
      = ∑ r : Fin 1024, RowNorm.unit (fun k => x0 (ix2 r k)) j * x1 (ix2 r j) := by
  pointwise [Cert.Reference18Ideal.Read.val_main_v18, Cert.Reference18Ideal.Read.val_main_v17, Cert.Reference18Ideal.Read.val_main_cst_4,
    Cert.Reference18Ideal.Read.val_main_v16, Cert.Reference18Ideal.Read.val_main_v15, Cert.Reference18Ideal.Read.val_main_cst_3,
    Cert.Reference18Ideal.Read.val_main_v14, Cert.Reference18Ideal.Read.val_main_v10, Cert.Reference18Ideal.Read.val_main_v9,
    Cert.Reference18Ideal.Read.val_main_v8, Cert.Reference18Ideal.Read.val_main_v7, Cert.Reference18Ideal.Read.val_main_v6,
    Cert.Reference18Ideal.Read.val_main_cst_2, Cert.Reference18Ideal.Read.val_main_v5, Cert.Reference18Ideal.Read.val_main_v4,
    Cert.Reference18Ideal.Read.val_main_cst_1, Cert.Reference18Ideal.Read.val_main_v3, Cert.Reference18Ideal.Read.val_main_v2,
    Cert.Reference18Ideal.Read.val_main_cst_0, Cert.Reference18Ideal.Read.val_main_v1]
  simp only [Fin.sum_univ_one]
  rfl

/-- The gradient, after the run. -/
theorem final : (dats m 0 c).arrAt 2 cfg0.N
    = Cert.Reference18Ideal.Read.val_main_v18 (F := Ideal) (m ((c : Thread nD τ).loc main_arg0)) (m ((c : Thread nD τ).loc main_arg1)) := by
  refine (dats m 0 c).arrAt_eq_of_covers 2 _ (by decide +kernel) fun t hf y => ?_
  have ht : t.val = 3 := by have := (flush0_2 t).mp hf; have := lt4 t; omega
  blk_simp
  obtain ⟨i, j, rfl⟩ : ∃ (i : Fin 1) (j : Fin 1024), y = ix2 i j := ⟨_, _, eq_ix2 y⟩
  obtain rfl : i = 0 := Subsingleton.elim _ _
  rw [after0_2, sums m c 3 (by omega) t ht j, Blocks.upTo_last _ _ _ rfl]
  have e : (win0_2.blk t).view.emb (ix2 0 j) = ix2 0 j := by
    blk_ext [idx t]
  exact ((congrArg _ e).trans (ref_at _ _ j)).symm

end Cert.Kernel18Ideal.Value

end
-- ==== Proof.Columns.lean ====
module

public import proofs.«01_k».proof.Proof.Gen.Kernel19Ideal.Value
public import proofs.«01_k».proof.Proof.Gen.Reference19Ideal.Read
public import proofs.«01_k».proof.Proof.Blocks
public import Idealize.ShloMosaic.Lib.Pipeline.ValueKit
public import Idealize.ShloMosaic.Lib.Pipeline.ReadBack
public import Idealize.ShloMosaic.Lib.StableHlo.Run
public import Idealize.ShloMosaic.Lib.KernelVsHost

/-! The sum of the columns of the cotangent, for the gradient of a bias: each point of the grid adds 512 rows. -/

@[expose] public section

set_option maxRecDepth 16384

noncomputable section

open Idealize.ShloMosaic Idealize.ShloMosaic.TcCoe Idealize.SL.Sem Proofs

namespace Cert.Kernel19Ideal.Value

open Cert.Kernel19Ideal Cert.Kernel19Ideal.Gen

variable (m : (ℓ : Loc nD τ sig) → Buf (Elt Ideal) ℓ) (c : Dev nD)

theorem idx : ∀ t : Fin cfg0.N, win0_0.index t = ![t.val, 0] ∧ win0_1.index t = ![0, 0] :=
  (by decide +kernel : ∀ t : Fin grid0.N, _)

/-- The grid has sixteen points. -/
theorem lt16 (t : Fin cfg0.N) : t.val < 16 := lt_of_lt_of_eq t.isLt N_0

/-- What the rows of a block add. -/
theorem add_at (p : Vec Ideal S1x1024 .f32) (x0 : Vec Ideal S512x1024 .f32) (j : Fin 1024) :
    k0_pay2 (F := Ideal) p x0 (ix2 0 j) = p (ix2 0 j) + ∑ r : Fin 512, x0 (ix2 r j) := by
  pointwise [k0_pay2]

theorem zero_at (j : Fin 1024) : k0_pay1 (F := Ideal) (ix2 0 j) = 0 := by
  pointwise [k0_pay1]

/-- The element of a column in a row. -/
def col (j : Fin 1024) (r : Fin (16 * 512)) : EReal := m ((c : Thread nD τ).loc main_arg0) (ix2 (r : Fin 8192) j)

/-- The block of a point. -/
theorem blk (t : Fin cfg0.N) (b : ℕ) (ht : t.val = b) (r : Fin 512) (h : b * 512 + r < 16 * 512) (j : Fin 1024) :
    iblk m c 0 t (ix2 r j) = col m c j ⟨b * 512 + r, h⟩ := by
  subst ht
  unfold col
  blk_ext [iblk, V, idx t]

/-- The sums after block `b`. -/
theorem sums (b : ℕ) : ∀ (hb : b < 16) (t : Fin cfg0.N) (_ : t.val = b) (j : Fin 1024),
    outsAt0 m c t.val t.isLt (ix2 0 j) = Blocks.upTo 16 512 (col m c j) b hb := by
  induction b with
  | zero =>
    intro hb t ht j
    rw [outsAt0_A m c t (by omega), out_A_1_eq, add_at, zero_at, zero_add, Blocks.upTo_zero]
    exact Finset.sum_congr rfl fun r _ => blk m c t 0 ht r _ j
  | succ b ih =>
    intro hb t ht j
    rw [outsAt0_B m c t (by omega), out_B_1_eq, add_at, Blocks.upTo_succ]
    exact congrArg₂ (fun a b : EReal => a + b) (ih (by omega) ⟨t.val - 1, Nat.lt_of_le_of_lt (Nat.sub_le _ _) t.isLt⟩
      (show t.val - 1 = b by omega) j) (Finset.sum_congr rfl fun r _ => blk m c t (b + 1) ht r _ j)

/-- The sums in the reference. -/
theorem ref_at (x0 : FVec Ideal S8192x1024 .f32) (j : Fin 1024) :
    Cert.Reference19Ideal.Read.val_main_v8 (F := Ideal) x0 (ix2 0 j) = ∑ r : Fin 8192, x0 (ix2 r j) := by
  pointwise [Cert.Reference19Ideal.Read.val_main_v8, Cert.Reference19Ideal.Read.val_main_v7, Cert.Reference19Ideal.Read.val_main_cst_2,
    Cert.Reference19Ideal.Read.val_main_v6, Cert.Reference19Ideal.Read.val_main_v5, Cert.Reference19Ideal.Read.val_main_cst_1]
  simp only [Fin.sum_univ_one]

/-- The sums, after the run. -/
theorem final : (dats m 0 c).arrAt 1 cfg0.N
    = Cert.Reference19Ideal.Read.val_main_v8 (F := Ideal) (m ((c : Thread nD τ).loc main_arg0)) := by
  refine (dats m 0 c).arrAt_eq_of_covers 1 _ (by decide +kernel) fun t hf y => ?_
  have ht : t.val = 15 := by have := (flush0_1 t).mp hf; have := lt16 t; omega
  blk_simp
  obtain ⟨i, j, rfl⟩ : ∃ (i : Fin 1) (j : Fin 1024), y = ix2 i j := ⟨_, _, eq_ix2 y⟩
  obtain rfl : i = 0 := Subsingleton.elim _ _
  rw [after0_1, sums m c 15 (by omega) t ht j, Blocks.upTo_last _ _ _ rfl]
  have e : (win0_1.blk t).view.emb (ix2 0 j) = ix2 0 j := by
    blk_ext [idx t]
  exact ((congrArg _ e).trans (ref_at _ j)).symm

end Cert.Kernel19Ideal.Value

end
-- ==== Proof.Residual.lean ====
module

public import proofs.«01_k».proof.Proof.Gen.Kernel22Ideal.Value
public import proofs.«01_k».proof.Proof.Gen.Reference22Ideal.Read
public import proofs.«01_k».proof.Proof.Gen.Kernel23Ideal.Value
public import proofs.«01_k».proof.Proof.Gen.Reference23Ideal.Read
public import Idealize.ShloMosaic.Lib.Pipeline.ValueKit
public import Idealize.ShloMosaic.Lib.Pipeline.ReadBack
public import Idealize.ShloMosaic.Lib.StableHlo.Run
public import Idealize.ShloMosaic.Lib.KernelVsHost

/-! The products that add to the residual stream: of the cross-attention, and of the conformer module with its bias. -/

@[expose] public section

set_option maxRecDepth 16384

noncomputable section

open Idealize.ShloMosaic Idealize.ShloMosaic.TcCoe Idealize.SL.Sem

/-! ## The cross-attention -/

namespace Cert.Kernel22Ideal.Value

open Cert.Kernel22Ideal Cert.Kernel22Ideal.Gen

variable (m : (ℓ : Loc nD τ sig) → Buf (Elt Ideal) ℓ) (c : Dev nD)

theorem idx : ∀ t : Fin cfg0.N, win0_0.index t = ![t.val / 2, 0] ∧ win0_1.index t = ![0, 0, t.val % 2]
    ∧ win0_2.index t = ![t.val / 2, t.val % 2] ∧ win0_3.index t = ![t.val / 2, t.val % 2] :=
  (by decide +kernel : ∀ t : Fin grid0.N, _)

/-- A tile of the product, and the residual stream. -/
theorem tile (x0 : Vec Ideal S1024x1024 .bf16) (x1 : Vec Ideal S1x1024x512 .bf16) (x2 : Vec Ideal S1024x512 .f32)
    (y : S1024x512.Idx) :
    out0_3 (F := Ideal) x0 x1 x2 y = x2 y + ∑ k : Fin 1024, x0 (ix2 (y 0) k) * x1 (ix3 0 k (y 1)) := by
  frame_out
  pointwise [k0_pay1]
  exact add_comm _ _

/-- The sum, after the run. -/
theorem final : (dats m 0 c).arrAt 3 cfg0.N
    = Cert.Reference22Ideal.Read.val_main_v4 (F := Ideal) (m ((c : Thread nD τ).loc main_arg0)) (m ((c : Thread nD τ).loc main_arg1))
      (m ((c : Thread nD τ).loc main_arg2)) := by
  refine (dats m 0 c).arrAt_eq_of_covers 3 _ (by decide +kernel) fun t hf y => ?_
  blk_simp
  rw [after0_3, tile]
  pointwise [Cert.Reference22Ideal.Read.val_main_v4, Cert.Reference22Ideal.Read.val_main_v3, Cert.Reference22Ideal.Read.val_main_v2,
    Cert.Reference22Ideal.Read.val_main_v1, Cert.Reference22Ideal.Read.val_main_v0]
  refine congrArg₂ (fun a b : EReal => a + b) ?_ (Fin.sum_fin_congr fun k => congrArg₂ (fun a b : EReal => a * b) ?_ ?_)
  all_goals blk_ext [iblk, V, idx t]

end Cert.Kernel22Ideal.Value

/-! ## The conformer module -/

namespace Cert.Kernel23Ideal.Value

open Cert.Kernel23Ideal Cert.Kernel23Ideal.Gen

variable (m : (ℓ : Loc nD τ sig) → Buf (Elt Ideal) ℓ) (c : Dev nD)

theorem idx : ∀ t : Fin cfg0.N, win0_0.index t = ![t.val / 2, 0] ∧ win0_1.index t = ![0, 0, t.val % 2]
    ∧ win0_2.index t = ![0, t.val % 2] ∧ win0_3.index t = ![t.val / 2, t.val % 2] ∧ win0_4.index t = ![t.val / 2, t.val % 2] :=
  (by decide +kernel : ∀ t : Fin grid0.N, _)

/-- A tile of the product with its bias, and the residual stream. -/
theorem tile (x0 : Vec Ideal S1024x1024 .bf16) (x1 : Vec Ideal S1x1024x512 .bf16) (x2 : Vec Ideal S1x512 .f32)
    (x3 : Vec Ideal S1024x512 .f32) (y : S1024x512.Idx) :
    out0_4 (F := Ideal) x0 x1 x2 x3 y = x3 y + (∑ k : Fin 1024, x0 (ix2 (y 0) k) * x1 (ix3 0 k (y 1)) + x2 (ix2 0 (y 1))) := by
  frame_out
  pointwise [k0_pay1]
  exact add_comm _ _

/-- The bias, as a row. -/
theorem entry_bias : V m c main_v0 = shapeCast S1x1024 (m ((c : Thread nD τ).loc main_arg2)) shapeCasts_S1024_S1x1024 := by
  unfold_abbrev_sides
  after_results
  try rfl

/-- The block of the bias at a point. -/
theorem blk_bias (t : Fin cfg0.N) (j : Fin 512) (i : Fin 1024) (h : (i : ℕ) = t.val % 2 * 512 + j) :
    iblk m c 2 t (ix2 0 j) = m ((c : Thread nD τ).loc main_arg2) (ix1 i) := by
  show V m c main_v0 ((win0_2.blk t).view.emb (ix2 0 j)) = _
  rw [entry_bias]
  refine shapeCast_apply _ _ _ _ ?_
  refine (Shape.rowMajor_val_one _).trans (Eq.trans ?_ (Shape.rowMajor_val_two _).symm)
  blk_simp [idx t]
  exact h.trans (Nat.zero_add _).symm

/-- The sum, after the run. -/
theorem final : (dats m 0 c).arrAt 4 cfg0.N
    = Cert.Reference23Ideal.Read.val_main_v7 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  rw [after0_4, tile]
  pointwise [Cert.Reference23Ideal.Read.val_main_v7, Cert.Reference23Ideal.Read.val_main_v6, Cert.Reference23Ideal.Read.val_main_v5,
    Cert.Reference23Ideal.Read.val_main_v4, Cert.Reference23Ideal.Read.val_main_v3, Cert.Reference23Ideal.Read.val_main_v2,
    Cert.Reference23Ideal.Read.val_main_v1, Cert.Reference23Ideal.Read.val_main_v0]
  refine congrArg₂ (fun a b : EReal => a + b) ?_ (congrArg₂ (fun a b : EReal => a + b)
    (Fin.sum_fin_congr fun k => congrArg₂ (fun a b : EReal => a * b) ?_ ?_) ?_)
  · blk_ext [iblk, V, idx t]
  · blk_ext [iblk, V, idx t]
  · blk_ext [iblk, V, idx t]
  · refine blk_bias m c t (y 1) _ ?_
    blk_simp [idx t]

end Cert.Kernel23Ideal.Value

end
-- ==== Proof.Queries.lean ====
module

public import proofs.«01_k».proof.Proof.Gen.Kernel20Ideal.Value
public import proofs.«01_k».proof.Proof.Gen.Reference20Ideal.Read
public import proofs.«01_k».proof.Proof.RowNorm
public import Idealize.ShloMosaic.Lib.Pipeline.ValueKit
public import Idealize.ShloMosaic.Lib.Pipeline.ReadBack
public import Idealize.ShloMosaic.Lib.StableHlo.Run
public import Idealize.ShloMosaic.Lib.KernelVsHost

/-! The norm before the cross-attention and the product of the queries. -/

@[expose] public section

set_option maxRecDepth 16384

noncomputable section

open Idealize.ShloMosaic Idealize.ShloMosaic.TcCoe Idealize.SL.Sem Proofs

namespace Cert.Kernel20Ideal.Value

open Cert.Kernel20Ideal Cert.Kernel20Ideal.Gen

variable (m : (ℓ : Loc nD τ sig) → Buf (Elt Ideal) ℓ) (c : Dev nD)

theorem idx : ∀ t : Fin cfg0.N, win0_0.index t = ![t.val / 2, 0] ∧ win0_1.index t = ![0, 0, t.val % 2]
    ∧ win0_2.index t = ![0, 0] ∧ win0_3.index t = ![t.val / 2, t.val % 2] ∧ win0_4.index t = ![t.val / 2, 0] :=
  (by decide +kernel : ∀ t : Fin grid0.N, _)

/-- A row of a block, normalised. -/
theorem norm_at (x0 : Vec Ideal S1024x1024 .f32) (x2 : Vec Ideal S1x1024 .f32) (r j : Fin 1024) :
    k0_pay1 (F := Ideal) x0 x2 (ix2 r j) = RowNorm.gained (fun k => x0 (ix2 r k)) (fun k => x2 (ix2 0 k)) j := by
  pointwise [k0_pay1]
  rfl

/-- The block of the normalised rows. -/
theorem tile_norm (x0 : Vec Ideal S1024x1024 .f32) (x1 : Vec Ideal S1x1024x512 .bf16) (x2 : Vec Ideal S1x1024 .f32)
    (r j : Fin 1024) :
    out0_4 (F := Ideal) x0 x1 x2 (ix2 r j) = RowNorm.gained (fun k => x0 (ix2 r k)) (fun k => x2 (ix2 0 k)) j := by
  frame_out
  exact norm_at x0 x2 r j

/-- A tile of the product. -/
theorem tile (x0 : Vec Ideal S1024x1024 .f32) (x1 : Vec Ideal S1x1024x512 .bf16) (x2 : Vec Ideal S1x1024 .f32)
    (r : Fin 1024) (i : Fin 512) : out0_3 (F := Ideal) x0 x1 x2 (ix2 r i)
      = ∑ j : Fin 1024, RowNorm.gained (fun k => x0 (ix2 r k)) (fun k => x2 (ix2 0 k)) j * x1 (ix3 0 j i) := by
  frame_out
  pointwise [k0_pay2]
  simp only [norm_at]

/-- The normalised rows in the reference. -/
theorem ref_at (x0 : FVec Ideal S8192x1024 .f32) (x2 : FVec Ideal S1024 .f32) (r : Fin 8192) (j : Fin 1024) :
    Cert.Reference20Ideal.Read.val_main_v12 (F := Ideal) x0 x2 (ix2 r j)
      = RowNorm.gained (fun k => x0 (ix2 r k)) (fun k => x2 (ix1 k)) j := by
  pointwise [Cert.Reference20Ideal.Read.val_main_v12, Cert.Reference20Ideal.Read.val_main_v11,
    Cert.Reference20Ideal.Read.val_main_v10, Cert.Reference20Ideal.Read.val_main_v9, Cert.Reference20Ideal.Read.val_main_v8,
    Cert.Reference20Ideal.Read.val_main_v7, Cert.Reference20Ideal.Read.val_main_v6, Cert.Reference20Ideal.Read.val_main_v5,
    Cert.Reference20Ideal.Read.val_main_cst_1, Cert.Reference20Ideal.Read.val_main_v4, Cert.Reference20Ideal.Read.val_main_v3,
    Cert.Reference20Ideal.Read.val_main_cst_0, Cert.Reference20Ideal.Read.val_main_v2, Cert.Reference20Ideal.Read.val_main_v1,
    Cert.Reference20Ideal.Read.val_main_cst, Cert.Reference20Ideal.Read.val_main_v0]
  rfl

/-- The gain, as a row. -/
theorem entry_gain : V m c main_v0 = shapeCast S1x1024 (m ((c : Thread nD τ).loc main_arg2)) shapeCasts_S1024_S1x1024 := by
  unfold_abbrev_sides
  after_results
  try rfl

theorem blk_gain (t : Fin cfg0.N) (j : Fin 1024) : iblk m c 2 t (ix2 0 j) = m ((c : Thread nD τ).loc main_arg2) (ix1 j) := by
  show V m c main_v0 ((win0_2.blk t).view.emb (ix2 0 j)) = _
  rw [entry_gain]
  refine shapeCast_apply _ _ _ _ ?_
  refine (Shape.rowMajor_val_one _).trans (Eq.trans ?_ (Shape.rowMajor_val_two _).symm)
  blk_simp [idx t]
  exact (show (j : ℕ) = 0 * 1024 + j by omega)

/-- The queries, after the run. -/
theorem final : (dats m 0 c).arrAt 3 cfg0.N
    = Cert.Reference20Ideal.Read.val_main_v16 (F := Ideal) (m ((c : Thread nD τ).loc main_arg0)) (m ((c : Thread nD τ).loc main_arg1))
      (m ((c : Thread nD τ).loc main_arg2)) := by
  refine (dats m 0 c).arrAt_eq_of_covers 3 _ (by decide +kernel) fun t hf y => ?_
  blk_simp
  obtain ⟨r, i, rfl⟩ : ∃ (r : Fin 1024) (i : Fin 512), y = ix2 r i := ⟨_, _, eq_ix2 y⟩
  rw [after0_3, tile]
  pointwise [Cert.Reference20Ideal.Read.val_main_v16, Cert.Reference20Ideal.Read.val_main_v15, Cert.Reference20Ideal.Read.val_main_v14,
    Cert.Reference20Ideal.Read.val_main_v13]
  refine Fin.sum_fin_congr fun k => congrArg₂ (fun a b : EReal => a * b) (Eq.trans ?_ (ref_at _ _ _ _).symm) ?_
  · refine RowNorm.gained_congr (fun k => ?_) (fun k => blk_gain m c t k) rfl
    blk_ext [iblk, V, idx t]
  · blk_ext [iblk, V, idx t]

/-- The normalised rows, after the run. -/
theorem final_norm : (dats m 0 c).arrAt 4 cfg0.N
    = Cert.Reference20Ideal.Read.val_main_v17 (F := Ideal) (m ((c : Thread nD τ).loc main_arg0))
      (m ((c : Thread nD τ).loc main_arg2)) := by
  refine (dats m 0 c).arrAt_eq_of_covers 4 _ (by decide +kernel) fun t hf y => ?_
  blk_simp
  obtain ⟨r, j, rfl⟩ : ∃ r j : Fin 1024, y = ix2 r j := ⟨_, _, eq_ix2 y⟩
  rw [after0_4, tile_norm]
  refine Eq.trans ?_ ((congrArg _ (eq_ix2 _)).trans (ref_at _ _ _ _)).symm
  refine RowNorm.gained_congr (fun k => ?_) (fun k => blk_gain m c t k) (Fin.ext ?_)
  · blk_ext [iblk, V, idx t]
  · blk_simp [idx t]

end Cert.Kernel20Ideal.Value

end
-- ==== Proof.ConvIn.lean ====
module

public import proofs.«01_k».proof.Proof.Gen.Kernel21Ideal.Value
public import proofs.«01_k».proof.Proof.Gen.Reference21Ideal.Read
public import proofs.«01_k».proof.Proof.RowNorm
public import Idealize.ShloMosaic.Lib.Pipeline.ValueKit
public import Idealize.ShloMosaic.Lib.Pipeline.ReadBack
public import Idealize.ShloMosaic.Lib.StableHlo.Run
public import Idealize.ShloMosaic.Lib.KernelVsHost

/-! The first half of the conformer module: the norm, the product with its bias, and the gated linear unit. -/

@[expose] public section

set_option maxRecDepth 16384

noncomputable section

open Idealize.ShloMosaic Idealize.ShloMosaic.TcCoe Idealize.SL.Sem Proofs

namespace Cert.Kernel21Ideal.Value

open Cert.Kernel21Ideal Cert.Kernel21Ideal.Gen

/-! ## A block of the rows -/

section block

variable (x0 : Vec Ideal S512x1024 .f32) (x1 x2 : Vec Ideal S1x1024x1024 .bf16) (x3 x4 x5 : Vec Ideal S1x1024 .f32)

/-- A row of a block, normalised. -/
theorem norm_at (r : Fin 512) (j : Fin 1024) :
    k0_pay4 (F := Ideal) x0 x5 (ix2 r j) = RowNorm.gained (fun k => x0 (ix2 r k)) (fun k => x5 (ix2 0 k)) j := by
  pointwise [k0_pay4]
  rfl

/-- A row of the product with its bias. -/
def out (w : Vec Ideal S1x1024x1024 .bf16) (b : Vec Ideal S1x1024 .f32) (r : Fin 512) (j : Fin 1024) : EReal :=
  ∑ k : Fin 1024, RowNorm.gained (fun k => x0 (ix2 r k)) (fun k => x5 (ix2 0 k)) k * w (ix3 0 k j) + b (ix2 0 j)

theorem left_at (r : Fin 512) (j : Fin 1024) :
    k0_pay5 (F := Ideal) x0 x5 x1 x3 (ix2 r j) = out x0 x5 x1 x3 r j := by
  pointwise [k0_pay5]
  simp only [norm_at]
  rfl

theorem right_at (r : Fin 512) (j : Fin 1024) :
    k0_pay6 (F := Ideal) x0 x5 x2 x4 (ix2 r j) = out x0 x5 x2 x4 r j := by
  pointwise [k0_pay6]
  simp only [norm_at]
  rfl

/-- The gated linear unit. -/
def glu (a b : EReal) : EReal := a * Ideal.div 1 (1 + Ideal.exp (-b))

theorem tile_norm (r : Fin 512) (j : Fin 1024) : out0_8 (F := Ideal) x0 x1 x2 x3 x4 x5 (ix2 r j)
    = RowNorm.gained (fun k => x0 (ix2 r k)) (fun k => x5 (ix2 0 k)) j := by
  frame_out
  exact norm_at x0 x5 r j

theorem tile_glu (r : Fin 512) (j : Fin 1024) : out0_7 (F := Ideal) x0 x1 x2 x3 x4 x5 (ix2 r j)
    = glu (out x0 x5 x1 x3 r j) (out x0 x5 x2 x4 r j) := by
  unfold out0_7 k0_pay7 k0_pay8
  frame_out
  pointwise [k0_pay3]
  rw [left_at, right_at, zero_sub]
  rfl

/-- The two halves of the product, one after the other. -/
theorem tile_pair (y : S2x512x1024.Idx) : out0_6 (F := Ideal) x0 x1 x2 x3 x4 x5 y
    = if (y 0 : ℕ) = 0 then out x0 x5 x1 x3 (y 1) (y 2) else out x0 x5 x2 x4 (y 1) (y 2) := by
  unfold out0_6 k0_pay7 k0_pay8
  frame_out
  canon_tiles x h
  · have hx : x = ix3 0 (y 1) (y 2) := by blk_ext
    rw [if_neg (by omega), hx]
    refine Eq.trans ?_ (right_at .. : _ = out _ _ _ _ (y 1) (y 2))
    pointwise [k0_pay2]
  · have hx : x = ix3 0 (y 1) (y 2) := by blk_ext
    rw [if_pos (by omega), hx]
    refine Eq.trans ?_ (left_at .. : _ = out _ _ _ _ (y 1) (y 2))
    pointwise [k0_pay1]

end block

/-! ## The reference -/

section reference

variable (x0 : FVec Ideal S8192x1024 .f32) (x1 : FVec Ideal S1x1024x2048 .bf16) (x2 : FVec Ideal S2048 .f32)
variable (x3 : FVec Ideal S1024 .f32)

theorem ref_norm (r : Fin 8192) (j : Fin 1024) : Cert.Reference21Ideal.Read.val_main_v12 (F := Ideal) x0 x3 (ix2 r j)
    = RowNorm.gained (fun k => x0 (ix2 r k)) (fun k => x3 (ix1 k)) j := by
  pointwise [Cert.Reference21Ideal.Read.val_main_v12, Cert.Reference21Ideal.Read.val_main_v11,
    Cert.Reference21Ideal.Read.val_main_v10, Cert.Reference21Ideal.Read.val_main_v9, Cert.Reference21Ideal.Read.val_main_v8,
    Cert.Reference21Ideal.Read.val_main_v7, Cert.Reference21Ideal.Read.val_main_v6, Cert.Reference21Ideal.Read.val_main_v5,
    Cert.Reference21Ideal.Read.val_main_cst_1, Cert.Reference21Ideal.Read.val_main_v4, Cert.Reference21Ideal.Read.val_main_v3,
    Cert.Reference21Ideal.Read.val_main_cst_0, Cert.Reference21Ideal.Read.val_main_v2, Cert.Reference21Ideal.Read.val_main_v1,
    Cert.Reference21Ideal.Read.val_main_cst, Cert.Reference21Ideal.Read.val_main_v0]
  rfl

/-- A row of the product with its bias. -/
def refOut (r : Fin 8192) (j : Fin 2048) : EReal :=
  ∑ k : Fin 1024, RowNorm.gained (fun k => x0 (ix2 r k)) (fun k => x3 (ix1 k)) k * x1 (ix3 0 k j) + x2 (ix1 j)

theorem ref_out (r : Fin 8192) (j : Fin 2048) :
    Cert.Reference21Ideal.Read.val_main_v18 (F := Ideal) x0 x1 x2 x3 (ix2 r j) = refOut x0 x1 x2 x3 r j := by
  pointwise [Cert.Reference21Ideal.Read.val_main_v18, Cert.Reference21Ideal.Read.val_main_v17,
    Cert.Reference21Ideal.Read.val_main_v16, Cert.Reference21Ideal.Read.val_main_v15, Cert.Reference21Ideal.Read.val_main_v14,
    Cert.Reference21Ideal.Read.val_main_v13]
  simp only [ref_norm]
  rfl

/-- The left half of a row, -/
def lo (j : Fin 1024) : Fin 2048 := ⟨j, by omega⟩

/-- and the right half. -/
def hi (j : Fin 1024) : Fin 2048 := ⟨1024 + j, by omega⟩

theorem ref_left (r : Fin 8192) (j : Fin 1024) :
    Cert.Reference21Ideal.Read.val_main_v19 (F := Ideal) x0 x1 x2 x3 (ix2 r j) = refOut x0 x1 x2 x3 r (lo j) := by
  pointwise [Cert.Reference21Ideal.Read.val_main_v19]
  refine Eq.trans (congrArg _ ?_) (ref_out x0 x1 x2 x3 r (lo j))
  blk_ext [lo]

theorem ref_right (r : Fin 8192) (j : Fin 1024) :
    Cert.Reference21Ideal.Read.val_main_v20 (F := Ideal) x0 x1 x2 x3 (ix2 r j) = refOut x0 x1 x2 x3 r (hi j) := by
  pointwise [Cert.Reference21Ideal.Read.val_main_v20]
  refine Eq.trans (congrArg _ ?_) (ref_out x0 x1 x2 x3 r (hi j))
  blk_ext [hi]

theorem ref_glu (r : Fin 8192) (j : Fin 1024) : Cert.Reference21Ideal.Read.val_main_v27 (F := Ideal) x0 x1 x2 x3 (ix2 r j)
    = glu (refOut x0 x1 x2 x3 r (lo j)) (refOut x0 x1 x2 x3 r (hi j)) := by
  pointwise [Cert.Reference21Ideal.Read.val_main_v27, Cert.Reference21Ideal.Read.val_main_v26,
    Cert.Reference21Ideal.Read.val_main_v25, Cert.Reference21Ideal.Read.val_main_cst_3,
    Cert.Reference21Ideal.Read.val_main_v24, Cert.Reference21Ideal.Read.val_main_v23,
    Cert.Reference21Ideal.Read.val_main_cst_2, Cert.Reference21Ideal.Read.val_main_v22,
    Cert.Reference21Ideal.Read.val_main_v21]
  rw [ref_left, ref_right]
  rfl

theorem ref_pair_left (r : Fin 8192) (j : Fin 1024) : Cert.Reference21Ideal.Read.val_main_v30 (F := Ideal) x0 x1 x2 x3 (ix3 0 r j)
    = refOut x0 x1 x2 x3 r (lo j) := by
  pointwise [Cert.Reference21Ideal.Read.val_main_v30, Cert.Reference21Ideal.Read.val_main_v29,
    Cert.Reference21Ideal.Read.val_main_v28]
  exact ref_left x0 x1 x2 x3 r j

theorem ref_pair_right (r : Fin 8192) (j : Fin 1024) : Cert.Reference21Ideal.Read.val_main_v30 (F := Ideal) x0 x1 x2 x3 (ix3 1 r j)
    = refOut x0 x1 x2 x3 r (hi j) := by
  pointwise [Cert.Reference21Ideal.Read.val_main_v30, Cert.Reference21Ideal.Read.val_main_v29,
    Cert.Reference21Ideal.Read.val_main_v28]
  exact ref_right x0 x1 x2 x3 r j

end reference

/-! ## The two together -/

variable (m : (ℓ : Loc nD τ sig) → Buf (Elt Ideal) ℓ) (c : Dev nD)

theorem idx : ∀ t : Fin cfg0.N, win0_0.index t = ![t.val, 0] ∧ win0_1.index t = ![0, 0, 0] ∧ win0_2.index t = ![0, 0, 1]
    ∧ win0_3.index t = ![0, 0] ∧ win0_4.index t = ![0, 1] ∧ win0_5.index t = ![0, 0] ∧ win0_6.index t = ![0, t.val, 0]
    ∧ win0_7.index t = ![t.val, 0] ∧ win0_8.index t = ![t.val, 0] :=
  (by decide +kernel : ∀ t : Fin grid0.N, _)

/-- The grid has sixteen points. -/
theorem lt16 (t : Fin cfg0.N) : t.val < 16 := lt_of_lt_of_eq t.isLt N_0

/-- The row of the array at row `r` of the block of point `t`. -/
def row (t : Fin cfg0.N) (r : Fin 512) : Fin 8192 := ⟨t.val * 512 + r, by have := lt16 t; omega⟩

/-- The bias, as a row. -/
theorem entry_bias : V m c main_v0 = shapeCast S1x2048 (m ((c : Thread nD τ).loc main_arg2)) shapeCasts_S2048_S1x2048 := by
  unfold_abbrev_sides
  after_results
  try rfl

/-- The gain, as a row. -/
theorem entry_gain : V m c main_v1 = shapeCast S1x1024 (m ((c : Thread nD τ).loc main_arg3)) shapeCasts_S1024_S1x1024 := by
  unfold_abbrev_sides
  after_results
  try rfl

theorem blk_gain (t : Fin cfg0.N) (j : Fin 1024) : iblk m c 5 t (ix2 0 j) = m ((c : Thread nD τ).loc main_arg3) (ix1 j) := by
  show V m c main_v1 ((win0_5.blk t).view.emb (ix2 0 j)) = _
  rw [entry_gain]
  refine shapeCast_apply _ _ _ _ ?_
  refine (Shape.rowMajor_val_one _).trans (Eq.trans ?_ (Shape.rowMajor_val_two _).symm)
  blk_simp [idx t]
  exact (show (j : ℕ) = 0 * 1024 + j by omega)

theorem blk_bias_left (t : Fin cfg0.N) (j : Fin 1024) :
    iblk m c 3 t (ix2 0 j) = m ((c : Thread nD τ).loc main_arg2) (ix1 (lo j)) := by
  show V m c main_v0 ((win0_3.blk t).view.emb (ix2 0 j)) = _
  rw [entry_bias]
  refine shapeCast_apply _ _ _ _ ?_
  refine (Shape.rowMajor_val_one _).trans (Eq.trans ?_ (Shape.rowMajor_val_two _).symm)
  blk_simp [idx t, lo]
  exact (show (j : ℕ) = 0 * 2048 + j by omega)

theorem blk_bias_right (t : Fin cfg0.N) (j : Fin 1024) :
    iblk m c 4 t (ix2 0 j) = m ((c : Thread nD τ).loc main_arg2) (ix1 (hi j)) := by
  show V m c main_v0 ((win0_4.blk t).view.emb (ix2 0 j)) = _
  rw [entry_bias]
  refine shapeCast_apply _ _ _ _ ?_
  refine (Shape.rowMajor_val_one _).trans (Eq.trans ?_ (Shape.rowMajor_val_two _).symm)
  blk_simp [idx t, hi]
  exact (show 1024 + (j : ℕ) = 0 * 2048 + (1024 + j) by omega)

/-- A row of the blocks of a point, normalised. -/
theorem blk_norm (t : Fin cfg0.N) (r : Fin 512) (j : Fin 1024) :
    RowNorm.gained (fun k => iblk m c 0 t (ix2 r k)) (fun k => iblk m c 5 t (ix2 0 k)) j
      = RowNorm.gained (fun k => m ((c : Thread nD τ).loc main_arg0) (ix2 (row t r) k))
          (fun k => m ((c : Thread nD τ).loc main_arg3) (ix1 k)) j := by
  refine RowNorm.gained_congr (fun k => ?_) (fun k => blk_gain m c t k) rfl
  blk_ext [iblk, V, idx t, row]

/-- The rows of the product at a point. -/
theorem blk_left (t : Fin cfg0.N) (r : Fin 512) (j : Fin 1024) :
    out (iblk m c 0 t) (iblk m c 5 t) (iblk m c 1 t) (iblk m c 3 t) r j
      = refOut (m ((c : Thread nD τ).loc main_arg0)) (m ((c : Thread nD τ).loc main_arg1)) (m ((c : Thread nD τ).loc main_arg2)) (m ((c : Thread nD τ).loc main_arg3))
          (row t r) (lo j) := by
  refine congrArg₂ (fun a b : EReal => a + b) (Finset.sum_congr rfl fun k _ => congrArg₂ (fun a b : EReal => a * b)
    (blk_norm m c t r k) ?_) (blk_bias_left m c t j)
  blk_ext [iblk, V, idx t, lo]

theorem blk_right (t : Fin cfg0.N) (r : Fin 512) (j : Fin 1024) :
    out (iblk m c 0 t) (iblk m c 5 t) (iblk m c 2 t) (iblk m c 4 t) r j
      = refOut (m ((c : Thread nD τ).loc main_arg0)) (m ((c : Thread nD τ).loc main_arg1)) (m ((c : Thread nD τ).loc main_arg2)) (m ((c : Thread nD τ).loc main_arg3))
          (row t r) (hi j) := by
  refine congrArg₂ (fun a b : EReal => a + b) (Finset.sum_congr rfl fun k _ => congrArg₂ (fun a b : EReal => a * b)
    (blk_norm m c t r k) ?_) (blk_bias_right m c t j)
  blk_ext [iblk, V, idx t, hi]

/-- The two halves of the product, after the run. -/
theorem final_pair : (dats m 0 c).arrAt 6 cfg0.N = Cert.Reference21Ideal.Read.val_main_v30 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  obtain ⟨b, r, j, rfl⟩ : ∃ (b : Fin 2) (r : Fin 512) (j : Fin 1024), y = ix3 b r j := ⟨_, _, _, eq_ix3 y⟩
  rw [after0_6]
  have e : (win0_6.blk t).view.emb (ix3 b r j) = ix3 b (row t r) j := by
    blk_ext [idx t, row]
  refine Eq.trans ?_ (congrArg _ e).symm
  fin_cases b
  · exact (tile_pair _ _ _ _ _ _ (ix3 0 r j)).trans ((blk_left m c t r j).trans (ref_pair_left _ _ _ _ (row t r) j).symm)
  · exact (tile_pair _ _ _ _ _ _ (ix3 1 r j)).trans ((blk_right m c t r j).trans (ref_pair_right _ _ _ _ (row t r) j).symm)

/-- The gated linear unit, after the run. -/
theorem final_glu : (dats m 0 c).arrAt 7 cfg0.N = Cert.Reference21Ideal.Read.val_main_v27 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  obtain ⟨r, j, rfl⟩ : ∃ (r : Fin 512) (j : Fin 1024), y = ix2 r j := ⟨_, _, eq_ix2 y⟩
  have e : (win0_7.blk t).view.emb (ix2 r j) = ix2 (row t r) j := by
    blk_ext [idx t, row]
  rw [after0_7, tile_glu, blk_left, blk_right]
  exact ((congrArg _ e).trans (ref_glu _ _ _ _ (row t r) j)).symm

/-- The normalised rows, after the run. -/
theorem final_norm : (dats m 0 c).arrAt 8 cfg0.N = Cert.Reference21Ideal.Read.val_main_v31 (F := Ideal)
    (m ((c : Thread nD τ).loc main_arg0)) (m ((c : Thread nD τ).loc main_arg3)) := by
  refine (dats m 0 c).arrAt_eq_of_covers 8 _ (by decide +kernel) fun t hf y => ?_
  blk_simp
  obtain ⟨r, j, rfl⟩ : ∃ (r : Fin 512) (j : Fin 1024), y = ix2 r j := ⟨_, _, eq_ix2 y⟩
  have e : (win0_8.blk t).view.emb (ix2 r j) = ix2 (row t r) j := by
    blk_ext [idx t, row]
  rw [after0_8, tile_norm, blk_norm]
  exact ((congrArg _ e).trans (ref_norm _ _ (row t r) j)).symm

end Cert.Kernel21Ideal.Value

end
-- ==== Proof.Attend.lean ====
module

public import proofs.«01_k».proof.Proof.Gen.Kernel26Ideal.Value
public import proofs.«01_k».proof.Proof.Gen.Reference26Ideal.Read
public import proofs.«01_k».proof.Proof.Gen.Reference26Ideal.Run
public import proofs.«01_k».proof.Proof.Gen.Pre_finite26
public import proofs.«01_k».proof.Proof.Block
public import proofs.«01_k».proof.Proof.RefValue
public import proofs.«01_k».proof.Proof.Finite
public import proofs.«01_k».proof.Defs
public import Idealize.ShloMosaic.Lib.Pipeline.ReadBack

/-! The cross-attention: each point of the grid takes 512 query rows of a batch entry, head by head. The kernel, the reference,
and the two together. -/

@[expose] public section

set_option maxRecDepth 16384

noncomputable section

open Idealize.ShloMosaic Idealize.ShloMosaic.TcCoe Idealize.SL.Sem Proofs.Reals Proofs

namespace Proofs.Attend

/-- The attention of the row `q` over the memory tokens. -/
def out (q : Fin 1024 → ℝ) (kv : Fin 256 → Fin 2048 → ℝ) (c : Fin 1024) : ℝ :=
  ∑ i, Row.pr (Model.hd q ⟨c / 256, by omega⟩) (Model.keys kv ⟨c / 256, by omega⟩) i
    * Model.vals kv ⟨c / 256, by omega⟩ i ⟨c % 256, by omega⟩

theorem out_at {q : Fin 1024 → ℝ} {kv : Fin 256 → Fin 2048 → ℝ} (h : Fin 4) (d : Fin 256) (c : Fin 1024)
    (hc : (c : ℕ) = 256 * h + d) : out q kv c = ∑ i, Row.pr (Model.hd q h) (Model.keys kv h) i * Model.vals kv h i d := by
  obtain ⟨h1, h2, -⟩ := Model.col_of hc
  rw [out, h1, h2]

end Proofs.Attend

namespace Cert.Kernel26Ideal.Value

open Cert.Kernel26Ideal Cert.Kernel26Ideal.Gen

/-! ## One head of a block -/

section head

variable (q : Vec Ideal S1x512x256 .bf16) (k v : Vec Ideal S1x256x256 .bf16)

/-- One head of the rows. -/
theorem head_at {Q : Fin 512 → Fin 256 → ℝ} {K V : Fin 256 → Fin 256 → ℝ} (hq : ∀ r d, q (ix3 0 r d) = ↑(Q r d))
    (hk : ∀ i d, k (ix3 0 i d) = ↑(K i d)) (hv : ∀ i d, v (ix3 0 i d) = ↑(V i d)) (r : Fin 512) (d : Fin 256) :
    k0_pay3 (F := Ideal) q k v (ix3 0 r d) = ↑(∑ i, Row.pr (Q r) K i * V i d) := by
  have hs : ∀ j, (∑ x, q (ix3 0 r x) * k (ix3 0 j x)) * Ideal.ofBits FTy.f32 0x3D800000#32
      = ((Row.sc (Q r) K j : ℝ) : EReal) := by
    intro j
    rw [sixteenth]
    simp only [hq, hk, ← EReal.coe_mul, ← coe_sum]
    rfl
  obtain ⟨M, hM⟩ := fold_max_coe (Finset.univ : Finset (Fin 256)) Finset.univ_nonempty (fun x => Row.sc (Q r) K x)
  pointwise [k0_pay3]
  simp only [hs]
  rw [minus_infinity, hM]
  simp only [Row.softmax_coe, hv, ← EReal.coe_mul, ← coe_sum]
  rfl

/-! The other heads store the same function of their own blocks. -/

theorem head1 : k0_pay5 (F := Ideal) (k0_pay4 q k) v = k0_pay3 q k v := rfl

theorem head2 : k0_pay1 (F := Ideal) (k0_pay6 q k v) = k0_pay3 q k v := rfl

theorem head3 : k0_pay2 (F := Ideal) q k v = k0_pay3 q k v := rfl

end head

/-! ## A block -/

section block

variable {q : Vec Ideal S1x512x1024 .bf16} {kv : Vec Ideal S1x256x2048 .bf16}
variable {Q : Fin 512 → Fin 1024 → ℝ} {KV : Fin 256 → Fin 2048 → ℝ}

/-- Head `h` of the rows of a block. -/
theorem head_store (hq : ∀ r c, q (ix3 0 r c) = ↑(Q r c)) (hkv : ∀ i c, kv (ix3 0 i c) = ↑(KV i c)) (h : Fin 4) {f g : ℕ}
    (e : f = 256 * (h : ℕ)) (e' : g = 1024 + 256 * (h : ℕ)) (i1 i2 i3) (x : S1x512x256.Idx) (r : Fin 512) (c : Fin 1024)
    (hr : (r : ℕ) = x 1) (hc : (c : ℕ) = f + x 2) :
    k0_pay3 (F := Ideal) (View.ld q (Rect.unit (s := S1x512x1024) ![0, 0, f] ![1, 512, 256] i1))
      (View.ld kv (Rect.unit (s := S1x256x2048) ![0, 0, f] ![1, 256, 256] i2))
      (View.ld kv (Rect.unit (s := S1x256x2048) ![0, 0, g] ![1, 256, 256] i3)) x = ↑(Attend.out (Q r) KV c) := by
  have hx : x = ix3 0 r ⟨x 2, (x 2).isLt⟩ := by blk_ext
  rw [Attend.out_at h ⟨x 2, (x 2).isLt⟩ c (by rw [hc, e]), hx]
  exact head_at _ _ _ (Cert.KernelIdeal.Block.ld_rows hq h e i1) (Cert.KernelIdeal.Block.ld_keys hkv h e i2)
    (Cert.KernelIdeal.Block.ld_vals hkv h e' i3) _ _

/-- The rows of a block. -/
theorem block_at (hq : ∀ r c, q (ix3 0 r c) = ↑(Q r c)) (hkv : ∀ i c, kv (ix3 0 i c) = ↑(KV i c)) (y : S1x512x1024.Idx) :
    out0_2 (F := Ideal) q kv y = ↑(Attend.out (Q (y 1)) KV (y 2)) := by
  unfold out0_2
  canon_tiles x h
  · rw [head3]
    exact head_store hq hkv 3 rfl rfl _ _ _ x _ _ h1 h2
  · rw [head2]
    exact head_store hq hkv 2 rfl rfl _ _ _ x _ _ h1 h2
  · rw [head1]
    exact head_store hq hkv 1 rfl rfl _ _ _ x _ _ h1 h2
  · exact head_store hq hkv 0 rfl rfl _ _ _ x _ _ h1 (h2.trans (Nat.zero_add _).symm)

end block

/-! ## The arrays -/

/-- The block indices of the windows at each point of the grid. -/
theorem idx : ∀ t : Fin cfg0.N, win0_0.index t = ![t.val / 4, t.val % 4, 0] ∧ win0_1.index t = ![t.val / 4, 0, 0]
    ∧ win0_2.index t = ![t.val / 4, t.val % 4, 0] :=
  (by decide +kernel : ∀ t : Fin grid0.N, _)

/-- The grid has sixteen points. -/
theorem lt16 (t : Fin cfg0.N) : t.val < 16 := lt_of_lt_of_eq t.isLt N_0

/-- The batch entry of a point. -/
def bat (t : Fin cfg0.N) : Fin 4 := ⟨t.val / 4, by have := lt16 t; omega⟩

/-- The row of the array at row `r` of a point's block. -/
def row (t : Fin cfg0.N) (r : Fin 512) : Fin 2048 := ⟨t.val % 4 * 512 + r, by omega⟩

variable (m : (ℓ : Loc nD τ sig) → Buf (Elt Ideal) ℓ) (c : Dev nD)
variable (X0 : Fin 4 → Fin 2048 → Fin 1024 → ℝ) (X1 : Fin 4 → Fin 256 → Fin 2048 → ℝ)

/-- The arguments of the kernel are the real arrays `X0` and `X1`. -/
def Args : Prop :=
  (∀ b r d, m ((c : Thread nD τ).loc main_arg0) (ix3 b r d) = ((X0 b r d : ℝ) : EReal))
  ∧ (∀ b i d, m ((c : Thread nD τ).loc main_arg1) (ix3 b i d) = ((X1 b i d : ℝ) : EReal))

variable {m c X0 X1}

theorem blk_q (H : Args m c X0 X1) (t : Fin cfg0.N) (r : Fin 512) (d : Fin 1024) :
    iblk m c 0 t (ix3 0 r d) = ((X0 (bat t) (row t r) d : ℝ) : EReal) := by
  rw [← H.1]; blk_ext [iblk, V, idx t, bat, row]

theorem blk_kv (H : Args m c X0 X1) (t : Fin cfg0.N) (i : Fin 256) (d : Fin 2048) :
    iblk m c 1 t (ix3 0 i d) = ((X1 (bat t) i d : ℝ) : EReal) := by
  rw [← H.2]; blk_ext [iblk, V, idx t, bat]

/-- The attention, after the run. -/
theorem final (H : Args m c X0 X1) (b : Fin 4) (r : Fin 2048) (j : Fin 1024) :
    (dats m 0 c).arrAt 2 cfg0.N (ix3 b r j) = ((Attend.out (X0 b r) (X1 b) j : ℝ) : EReal) := by
  suffices h : (dats m 0 c).arrAt 2 cfg0.N
      = fun i : S4x2048x1024.Idx => ((Attend.out (X0 (i 0) (i 1)) (X1 (i 0)) (i 2) : ℝ) : EReal) by
    rw [h]; rfl
  refine (dats m 0 c).arrAt_eq_of_covers 2 _ (by decide +kernel) fun t hf y => ?_
  blk_simp
  obtain ⟨i, r, j, rfl⟩ : ∃ (i : Fin 1) (r : Fin 512) (j : Fin 1024), y = ix3 i r j := ⟨_, _, _, eq_ix3 y⟩
  have e : (win0_2.blk t).view.emb (ix3 i r j) = ix3 (bat t) (row t r) j := by
    blk_ext [idx t, bat, row]
  rw [after0_2, block_at (blk_q H t) (blk_kv H t)]
  exact (congrArg (fun i : S4x2048x1024.Idx => ((Attend.out (X0 (i 0) (i 1)) (X1 (i 0)) (i 2) : ℝ) : EReal)) e).symm

end Cert.Kernel26Ideal.Value

/-! ## The reference -/

namespace Cert.Reference26Ideal.Value

open Cert.Reference26Ideal Cert.Reference26Ideal.Gen Cert.Reference26Ideal.Read

variable {x0 : FVec Ideal S4x2048x1024 .bf16} {x1 : FVec Ideal S4x256x2048 .bf16}
variable {X0 : Fin 4 → Fin 2048 → Fin 1024 → ℝ} {X1 : Fin 4 → Fin 256 → Fin 2048 → ℝ}

/-- The values. -/
theorem v8_at (H1 : ∀ b i d, x1 (ix3 b i d) = ((X1 b i d : ℝ) : EReal)) (b : Fin 4) (i : Fin 256) (h : Fin 4) (d : Fin 256) :
    val_main_v8 (F := Ideal) x1 (ix4 b i h d) = ((Model.vals (X1 b) h i d : ℝ) : EReal) :=
  Cert.ReferenceIdeal.Value.v9_at H1 b i h d

/-- The attention weights. -/
theorem weight_at (H0 : ∀ b r d, x0 (ix3 b r d) = ((X0 b r d : ℝ) : EReal)) (H1 : ∀ b i d, x1 (ix3 b i d) = ((X1 b i d : ℝ) : EReal))
    (b h : Fin 4) (r : Fin 2048) (i : Fin 256) : val_main_v20 (F := Ideal) x0 x1 (ix4 b h r i)
      = ((Row.pr (Model.hd (X0 b r) h) (Model.keys (X1 b) h) i : ℝ) : EReal) :=
  Cert.ReferenceIdeal.Value.weight_at H0 H1 b h r i

/-- The attention. -/
theorem out_at (H0 : ∀ b r d, x0 (ix3 b r d) = ((X0 b r d : ℝ) : EReal)) (H1 : ∀ b i d, x1 (ix3 b i d) = ((X1 b i d : ℝ) : EReal))
    (b : Fin 4) (r : Fin 2048) (c : Fin 1024) :
    val_main_v24 (F := Ideal) x0 x1 (ix3 b r c) = ((Attend.out (X0 b r) (X1 b) c : ℝ) : EReal) := by
  have h21 : ∀ (h : Fin 4) (d : Fin 256), val_main_v21 (F := Ideal) x0 x1 (ix4 b h d r)
      = ((∑ i, Row.pr (Model.hd (X0 b r) h) (Model.keys (X1 b) h) i * Model.vals (X1 b) h i d : ℝ) : EReal) := by
    intro h d
    pointwise [val_main_v21]
    simp only [v8_at H1, weight_at H0 H1, ← EReal.coe_mul, ← coe_sum, mul_comm]
  pointwise [val_main_v24, val_main_v23, val_main_v22]
  rw [h21]
  rfl

end Cert.Reference26Ideal.Value

/-! ## The two together -/

namespace Cert.Attend

open Cert.Kernel26Ideal Cert.Kernel26Ideal.Gen

variable (m : (ℓ : Loc nD τ sig) → Buf (Elt Ideal) ℓ) (c : Dev nD)

/-- The results agree under the precondition. -/
theorem out (h : Cert.Pre_Kernel26Ideal_finite26 m) : Cert.Reference26Ideal.Read.val_main_v24 (F := Ideal)
    (m ((c : Thread nD τ).loc main_arg0)) (m ((c : Thread nD τ).loc main_arg1)) = (dats m 0 c).arrAt 2 cfg0.N := by
  obtain ⟨h0, h1⟩ := h c
  have e0 := Proofs.Finite.real_of_cmp _ _ h0
  have e1 := Proofs.Finite.real_of_cmp _ _ h1
  have H : Cert.Kernel26Ideal.Value.Args m c (fun b r d => (e0 (ix3 b r d)).choose) (fun b r d => (e1 (ix3 b r d)).choose) :=
    ⟨fun b r d => (e0 (ix3 b r d)).choose_spec, fun b r d => (e1 (ix3 b r d)).choose_spec⟩
  funext j
  obtain ⟨b, r, d, rfl⟩ : ∃ b r d, j = ix3 b r d := ⟨_, _, _, eq_ix3 j⟩
  exact (Cert.Reference26Ideal.Value.out_at H.1 H.2 b r d).trans (Cert.Kernel26Ideal.Value.final H b r d).symm

end Cert.Attend

end
-- ==== Proof.NormedKernel.lean ====
module

public import proofs.«01_k».proof.Proof.Gen.Kernel3Ideal.Value
public import proofs.«01_k».proof.Proof.Normed
public import Idealize.ShloMosaic.Lib.Pipeline.ReadBack
public import Idealize.ShloMosaic.Lib.StableHlo.Run

/-! The gradient through the norm and the first product of the feed-forward block, as the kernel computes it over real
arguments: each point of the grid multiplies one half of the cotangent by one half of the weight, for 512 rows. -/

@[expose] public section

set_option maxRecDepth 16384

noncomputable section

open Idealize.ShloMosaic Idealize.ShloMosaic.TcCoe Idealize.SL.Sem

namespace Cert.Kernel3Ideal.Value

open Cert.Kernel3Ideal Cert.Kernel3Ideal.Gen Proofs.Reals Proofs

/-! ## One block -/

section block

variable {x0 : Vec Ideal S1x512x2816 .bf16} {x1 : Vec Ideal S1x1024x2816 .bf16} {d x2 : Vec Ideal S512x1024 .f32}
variable {x3 p : Vec Ideal S1x1024 .f32} {x4 : Vec Ideal S512x1024 .f32}
variable {U : Fin 512 → Fin 2816 → ℝ} {W : Fin 1024 → Fin 2816 → ℝ} {D X : Fin 512 → Fin 1024 → ℝ}
variable {G P : Fin 1024 → ℝ} {E : Fin 512 → Fin 1024 → ℝ}

/-- The product of a half of the cotangent and a half of the weight. -/
theorem half_at (h0 : ∀ r k, x0 (ix3 0 r k) = ↑(U r k)) (h1 : ∀ j k, x1 (ix3 0 j k) = ↑(W j k)) (r : Fin 512) (j : Fin 1024) :
    k0_pay1 (F := Ideal) x0 x1 (ix2 r j) = ((∑ k, U r k * W j k : ℝ) : EReal) := by
  pointwise [k0_pay1]
  simp only [h0, h1, ← EReal.coe_mul, ← coe_sum]

theorem store_at (h0 : ∀ r k, x0 (ix3 0 r k) = ↑(U r k)) (h1 : ∀ j k, x1 (ix3 0 j k) = ↑(W j k)) (r : Fin 512) (j : Fin 1024) :
    k0_pay2 (F := Ideal) x0 x1 (ix2 r j) = ((∑ k, U r k * W j k : ℝ) : EReal) := by
  pointwise [k0_pay2]
  exact half_at h0 h1 r j

theorem add_at (h0 : ∀ r k, x0 (ix3 0 r k) = ↑(U r k)) (h1 : ∀ j k, x1 (ix3 0 j k) = ↑(W j k)) (hd : ∀ r j, d (ix2 r j) = ↑(D r j))
    (r : Fin 512) (j : Fin 1024) :
    k0_pay3 (F := Ideal) x0 x1 d (ix2 r j) = ((D r j + ∑ k, U r k * W j k : ℝ) : EReal) := by
  pointwise [k0_pay3]
  rw [half_at h0 h1, hd, ← EReal.coe_add]

/-- The reciprocal of the norm of a row. -/
theorem rho_at (h2 : ∀ r j, x2 (ix2 r j) = ↑(X r j)) (r : Fin 512) :
    k0_pay5 (F := Ideal) x2 (ix2 r 0) = ↑(Normed.rho (X r)) := by
  rw [← Normed.rsqrt_ms]
  pointwise [k0_pay5]
  simp only [h2, Normed.eps_bits, Normed.length_bits, ← EReal.coe_mul, ← coe_sum, zero_add]
  rw [div_coe_coe _ (by norm_num), ← EReal.coe_add]
  rfl

/-- The rows, normalised. -/
theorem normed_at (h2 : ∀ r j, x2 (ix2 r j) = ↑(X r j)) (r : Fin 512) (j : Fin 1024) :
    k0_pay6 (F := Ideal) x2 (ix2 r j) = ↑(X r j * Normed.rho (X r)) := by
  pointwise [k0_pay6]
  rw [h2, rho_at h2, ← EReal.coe_mul]

/-- What the rows of a block add to the cotangent of the gain. -/
theorem gain_at (hd : ∀ r j, d (ix2 r j) = ↑(D r j)) (h2 : ∀ r j, x2 (ix2 r j) = ↑(X r j)) (hp : ∀ j, p (ix2 0 j) = ↑(P j))
    (j : Fin 1024) :
    k0_pay7 (F := Ideal) d x2 p (ix2 0 j) = ((P j + ∑ r, D r j * (X r j * Normed.rho (X r)) : ℝ) : EReal) := by
  pointwise [k0_pay7]
  simp only [hd, normed_at h2, hp, ← EReal.coe_mul, ← coe_sum, zero_add]
  rw [← EReal.coe_add]

/-- The cotangent of the rows. -/
theorem rows_at (hd : ∀ r j, d (ix2 r j) = ↑(D r j)) (h2 : ∀ r j, x2 (ix2 r j) = ↑(X r j)) (h3 : ∀ j, x3 (ix2 0 j) = ↑(G j))
    (h4 : ∀ r j, x4 (ix2 r j) = ↑(E r j)) (r : Fin 512) (j : Fin 1024) :
    k0_pay8 (F := Ideal) d x2 x3 x4 (ix2 r j) = ↑(Normed.dx (D r) G (X r) (E r j) j) := by
  pointwise [k0_pay8]
  simp only [hd, h2, h3, h4, normed_at h2, rho_at h2, Normed.length_bits, ← EReal.coe_mul, ← coe_sum, zero_add]
  rw [div_coe_coe _ (by norm_num)]
  simp only [← EReal.coe_mul, ← EReal.coe_sub, ← EReal.coe_add]
  rfl

theorem zero_at (j : Fin 1024) : k0_pay4 (F := Ideal) (ix2 0 j) = ((0 : ℝ) : EReal) := by
  pointwise [k0_pay4]
  rfl

end block

/-! ## The points of the grid -/

variable (m : (ℓ : Loc nD τ sig) → Buf (Elt Ideal) ℓ) (c : Dev nD)

/-- At the first of a block's two points, the scratch is the first half of the product. -/
theorem scratch_A (t : Fin cfg0.N) (h : t.val % 2 = 0) :
    (outsAt0 m c t.val t.isLt).2.2 = k0_pay2 (F := Ideal) (iblk m c 0 t) (iblk m c 1 t) := by
  rw [outsAt0_A m c t h (by omega) (by omega)]
  frame_out

/-- The cotangent of the gain is carried over that point. -/
theorem gain_A (t : Fin cfg0.N) (h : t.val % 2 = 0) :
    (outsAt0 m c t.val t.isLt).2.1 = (outsAt0 m c (t.val - 1) (Nat.lt_of_le_of_lt (Nat.sub_le _ _) t.isLt)).2.1 := by
  rw [outsAt0_A m c t h (by omega) (by omega)]
  unfold out0_A_6
  rfl

/-- At the second, both halves are there, and the cotangent of the rows is written; in the first block of rows -/
theorem rows_B (t : Fin cfg0.N) (h : t.val % 2 = 1) (h' : t.val < 2) :
    (outsAt0 m c t.val t.isLt).1 = k0_pay8 (F := Ideal) (k0_pay3 (F := Ideal) (iblk m c 0 t) (iblk m c 1 t)
      (outsAt0 m c (t.val - 1) (Nat.lt_of_le_of_lt (Nat.sub_le _ _) t.isLt)).2.2) (iblk m c 2 t) (iblk m c 3 t) (iblk m c 4 t) := by
  rw [outsAt0_B m c t (by omega) h h h']
  frame_open
  simp (disch := decide) only [↓ View.readCov_skip, ↓ View.readCov_cons_toLoadRect, ↓ View.readCov_fill]
  frame_out
  rw [Idealize.ShloMosaic.read_unread_whole]

/-- the cotangent of the gain starts from zero, -/
theorem gain_B (t : Fin cfg0.N) (h : t.val % 2 = 1) (h' : t.val < 2) :
    (outsAt0 m c t.val t.isLt).2.1 = k0_pay7 (F := Ideal) (k0_pay3 (F := Ideal) (iblk m c 0 t) (iblk m c 1 t)
      (outsAt0 m c (t.val - 1) (Nat.lt_of_le_of_lt (Nat.sub_le _ _) t.isLt)).2.2) (iblk m c 2 t) (k0_pay4 (F := Ideal)) := by
  rw [outsAt0_B m c t (by omega) h h h']
  frame_open
  simp (disch := decide) only [↓ View.readCov_skip, ↓ View.readCov_cons_toLoadRect, ↓ View.readCov_fill]
  frame_out
  rw [Idealize.ShloMosaic.read_unread_whole]

/-- and in the others -/
theorem rows_C (t : Fin cfg0.N) (h : t.val % 2 = 1) (h' : ¬ t.val < 2) :
    (outsAt0 m c t.val t.isLt).1 = k0_pay8 (F := Ideal) (k0_pay3 (F := Ideal) (iblk m c 0 t) (iblk m c 1 t)
      (outsAt0 m c (t.val - 1) (Nat.lt_of_le_of_lt (Nat.sub_le _ _) t.isLt)).2.2) (iblk m c 2 t) (iblk m c 3 t) (iblk m c 4 t) := by
  rw [outsAt0_C m c t (by omega) h h h']
  frame_open
  simp (disch := decide) only [↓ View.readCov_skip, ↓ View.readCov_cons_toLoadRect, ↓ View.readCov_fill]
  frame_out
  rw [Idealize.ShloMosaic.read_unread_whole]

/-- it is added to. -/
theorem gain_C (t : Fin cfg0.N) (h : t.val % 2 = 1) (h' : ¬ t.val < 2) :
    (outsAt0 m c t.val t.isLt).2.1 = k0_pay7 (F := Ideal) (k0_pay3 (F := Ideal) (iblk m c 0 t) (iblk m c 1 t)
      (outsAt0 m c (t.val - 1) (Nat.lt_of_le_of_lt (Nat.sub_le _ _) t.isLt)).2.2) (iblk m c 2 t)
      (outsAt0 m c (t.val - 1) (Nat.lt_of_le_of_lt (Nat.sub_le _ _) t.isLt)).2.1 := by
  rw [outsAt0_C m c t (by omega) h h h']
  frame_open
  simp (disch := decide) only [↓ View.readCov_skip, ↓ View.readCov_cons_toLoadRect, ↓ View.readCov_fill]
  frame_out
  rw [Idealize.ShloMosaic.read_unread_whole]

/-! ## The arrays -/

variable (U : Fin 8192 → Fin 2 → Fin 2816 → ℝ) (W : Fin 1024 → Fin 5632 → ℝ) (X : Fin 8192 → Fin 1024 → ℝ)
variable (G : Fin 1024 → ℝ) (E : Fin 8192 → Fin 1024 → ℝ)

/-- The arguments of the kernel are the real arrays `U`, `W`, `X`, `G` and `E`. -/
def Args : Prop :=
  (∀ b r k, m ((c : Thread nD τ).loc main_arg0) (ix3 b r k) = ((U r b k : ℝ) : EReal))
  ∧ (∀ j k, m ((c : Thread nD τ).loc main_arg1) (ix3 0 j k) = ((W j k : ℝ) : EReal))
  ∧ (∀ r j, m ((c : Thread nD τ).loc main_arg2) (ix2 r j) = ((X r j : ℝ) : EReal))
  ∧ (∀ j, m ((c : Thread nD τ).loc main_arg3) (ix1 j) = ((G j : ℝ) : EReal))
  ∧ (∀ r j, m ((c : Thread nD τ).loc main_arg4) (ix2 r j) = ((E r j : ℝ) : EReal))

variable {m c U W X G E}

/-- The block indices of the windows at each point of the grid. -/
theorem idx : ∀ t : Fin cfg0.N, win0_0.index t = ![t.val % 2, t.val / 2, 0] ∧ win0_1.index t = ![0, 0, t.val % 2]
    ∧ win0_2.index t = ![t.val / 2, 0] ∧ win0_3.index t = ![0, 0] ∧ win0_4.index t = ![t.val / 2, 0]
    ∧ win0_5.index t = ![t.val / 2, 0] ∧ win0_6.index t = ![0, 0] :=
  (by decide +kernel : ∀ t : Fin grid0.N, _)

/-- The grid has thirty-two points. -/
theorem lt32 (t : Fin cfg0.N) : t.val < 32 := lt_of_lt_of_eq t.isLt N_0

/-- The row of the array at row `r` of block `b`. -/
def row (b : ℕ) (hb : b < 16) (r : Fin 512) : Fin 8192 := ⟨b * 512 + r, by omega⟩

/-- The block of rows of a point. -/
theorem half_lt (t : Fin cfg0.N) : t.val / 2 < 16 := by have := lt32 t; omega

theorem blk0 (H : Args m c U W X G E) (t : Fin cfg0.N) (s : Fin 2) (hs : t.val % 2 = s) (r : Fin 512) (k : Fin 2816) :
    iblk m c 0 t (ix3 0 r k) = ((U (row (t.val / 2) (half_lt t) r) s k : ℝ) : EReal) := by
  rw [← H.1]; blk_ext [iblk, V, idx t, row, hs]

theorem blk1 (H : Args m c U W X G E) (t : Fin cfg0.N) (s : Fin 2) (hs : t.val % 2 = s) (j : Fin 1024) (k : Fin 2816) :
    iblk m c 1 t (ix3 0 j k) = ((W j ⟨s * 2816 + k, by omega⟩ : ℝ) : EReal) := by
  rw [← H.2.1]; blk_ext [iblk, V, idx t, hs]

theorem blk2 (H : Args m c U W X G E) (t : Fin cfg0.N) (r : Fin 512) (j : Fin 1024) :
    iblk m c 2 t (ix2 r j) = ((X (row (t.val / 2) (half_lt t) r) j : ℝ) : EReal) := by
  rw [← H.2.2.1]; blk_ext [iblk, V, idx t, row]

/-- The gain, as a row. -/
theorem entry_gain (m : (ℓ : Loc nD τ sig) → Buf (Elt Ideal) ℓ) (c : Dev nD) : V m c main_v0
    = shapeCast S1x1024 (m ((c : Thread nD τ).loc main_arg3)) shapeCasts_S1024_S1x1024 := by
  unfold_abbrev_sides
  after_results
  try rfl

theorem blk3 (H : Args m c U W X G E) (t : Fin cfg0.N) (j : Fin 1024) :
    iblk m c 3 t (ix2 0 j) = ((G j : ℝ) : EReal) := by
  rw [← H.2.2.2.1]
  show V m c main_v0 ((win0_3.blk t).view.emb (ix2 0 j)) = _
  rw [entry_gain]
  refine shapeCast_apply _ _ _ _ ?_
  refine (Shape.rowMajor_val_one _).trans (Eq.trans ?_ (Shape.rowMajor_val_two _).symm)
  blk_simp [idx t]
  exact (show (j : ℕ) = 0 * 1024 + j by omega)

theorem blk4 (H : Args m c U W X G E) (t : Fin cfg0.N) (r : Fin 512) (j : Fin 1024) :
    iblk m c 4 t (ix2 r j) = ((E (row (t.val / 2) (half_lt t) r) j : ℝ) : EReal) := by
  rw [← H.2.2.2.2]; blk_ext [iblk, V, idx t, row]

/-- The cotangent of the normalised rows, at the second point of a block. -/
theorem dh_at (H : Args m c U W X G E) (t : Fin cfg0.N) (h : t.val % 2 = 1) (r : Fin 512) (j : Fin 1024) :
    k0_pay3 (F := Ideal) (iblk m c 0 t) (iblk m c 1 t) (outsAt0 m c (t.val - 1) (Nat.lt_of_le_of_lt (Nat.sub_le _ _) t.isLt)).2.2
      (ix2 r j) = ((Normed.dh (Normed.cat (U (row (t.val / 2) (half_lt t) r))) (W j) : ℝ) : EReal) := by
  have e : (t.val - 1) / 2 = t.val / 2 := by omega
  have first := fun (r : Fin 512) (j : Fin 1024) =>
    (congrFun (scratch_A m c ⟨t.val - 1, Nat.lt_of_le_of_lt (Nat.sub_le _ _) t.isLt⟩ (show (t.val - 1) % 2 = 0 by omega)) (ix2 r j)).trans
      (store_at (blk0 H _ 0 (show (t.val - 1) % 2 = 0 by omega)) (blk1 H _ 0 (show (t.val - 1) % 2 = 0 by omega)) r j)
  rw [add_at (blk0 H t 1 h) (blk1 H t 1 h) first, ← Normed.dh_halves]
  simp only [e]
  rfl

/-- What each point writes of the cotangent of the rows. -/
theorem rows (H : Args m c U W X G E) (t : Fin cfg0.N) (h : t.val % 2 = 1) (r : Fin 512) (j : Fin 1024) :
    (outsAt0 m c t.val t.isLt).1 (ix2 r j)
      = ((Normed.dx (fun k => Normed.dh (Normed.cat (U (row (t.val / 2) (half_lt t) r))) (W k)) G
        (X (row (t.val / 2) (half_lt t) r)) (E (row (t.val / 2) (half_lt t) r) j) j : ℝ) : EReal) := by
  by_cases h' : t.val < 2
  · rw [rows_B m c t h h']
    exact rows_at (dh_at H t h) (blk2 H t) (blk3 H t) (blk4 H t) r j
  · rw [rows_C m c t h h']
    exact rows_at (dh_at H t h) (blk2 H t) (blk3 H t) (blk4 H t) r j

/-- What a row adds to the cotangent of the gain. -/
def gain (U : Fin 8192 → Fin 2 → Fin 2816 → ℝ) (W : Fin 1024 → Fin 5632 → ℝ) (X : Fin 8192 → Fin 1024 → ℝ) (j : Fin 1024)
    (r : Fin 8192) : ℝ := Normed.dh (Normed.cat (U r)) (W j) * (X r j * Normed.rho (X r))

/-- The cotangent of the gain after the blocks of rows up to `b`. -/
theorem gains (H : Args m c U W X G E) (b : ℕ) : ∀ (hb : b < 16) (t : Fin cfg0.N) (_ : t.val = 2 * b + 1) (j : Fin 1024),
    (outsAt0 m c t.val t.isLt).2.1 (ix2 0 j) = ((Normed.blocks (gain U W X j) b hb : ℝ) : EReal) := by
  induction b with
  | zero =>
    intro hb t ht j
    have h : t.val % 2 = 1 := by omega
    have e : t.val / 2 = 0 := by omega
    rw [gain_B m c t h (by omega), gain_at (dh_at H t h) (blk2 H t) zero_at, Normed.blocks_zero]
    simp only [e]
    rfl
  | succ b ih =>
    intro hb t ht j
    have h : t.val % 2 = 1 := by omega
    have e : t.val / 2 = b + 1 := by omega
    have hp : t.val - 1 < cfg0.N := Nat.lt_of_le_of_lt (Nat.sub_le _ _) t.isLt
    have prev := fun j : Fin 1024 => (congrFun (gain_A m c ⟨t.val - 1, hp⟩ (show (t.val - 1) % 2 = 0 by omega)) (ix2 0 j)).trans
      (ih (by omega) ⟨t.val - 1 - 1, Nat.lt_of_le_of_lt (Nat.sub_le _ _) hp⟩ (show t.val - 1 - 1 = _ by omega) j)
    rw [gain_C m c t h (by omega), gain_at (dh_at H t h) (blk2 H t) prev, Normed.blocks_succ]
    simp only [e]
    rfl

theorem dx_congr {r r' : Fin 8192} {j j' : Fin 1024} (hr : r = r') (hj : j = j') :
    ((Normed.dx (fun k => Normed.dh (Normed.cat (U r)) (W k)) G (X r) (E r j) j : ℝ) : EReal)
      = ((Normed.dx (fun k => Normed.dh (Normed.cat (U r')) (W k)) G (X r') (E r' j') j' : ℝ) : EReal) := by
  subst hr hj; rfl

/-- The cotangent of the rows, after the run. -/
theorem final_rows (H : Args m c U W X G E) (r : Fin 8192) (j : Fin 1024) :
    (dats m 0 c).arrAt 5 cfg0.N (ix2 r j)
      = ((Normed.dx (fun k => Normed.dh (Normed.cat (U r)) (W k)) G (X r) (E r j) j : ℝ) : EReal) := by
  suffices h : (dats m 0 c).arrAt 5 cfg0.N = fun i : S8192x1024.Idx =>
      ((Normed.dx (fun k => Normed.dh (Normed.cat (U (i 0))) (W k)) G (X (i 0)) (E (i 0) (i 1)) (i 1) : ℝ) : EReal) by
    rw [h]; rfl
  refine (dats m 0 c).arrAt_eq_of_covers 5 _ (by decide +kernel) fun t hf y => ?_
  blk_simp
  obtain ⟨r, j, rfl⟩ : ∃ (r : Fin 512) (j : Fin 1024), y = ix2 r j := ⟨_, _, eq_ix2 y⟩
  rw [after0_5, rows H t ((flush0_5 t).mp hf)]
  refine dx_congr (Fin.ext ?_) (Fin.ext ?_)
  all_goals (blk_simp [idx t, row] <;> first | omega | (dsimp only; omega))

/-- The cotangent of the gain, after the run. -/
theorem final_gain (H : Args m c U W X G E) (j : Fin 1024) :
    (dats m 0 c).arrAt 6 cfg0.N (ix2 0 j) = ((∑ r, gain U W X j r : ℝ) : EReal) := by
  suffices h : (dats m 0 c).arrAt 6 cfg0.N = fun i : S1x1024.Idx => ((∑ r, gain U W X (i 1) r : ℝ) : EReal) by
    rw [h]; rfl
  refine (dats m 0 c).arrAt_eq_of_covers 6 _ (by decide +kernel) fun t hf y => ?_
  have ht : t.val = 31 := by have := (flush0_6 t).mp hf; have := lt32 t; omega
  blk_simp
  obtain ⟨i, j, rfl⟩ : ∃ (i : Fin 1) (j : Fin 1024), y = ix2 i j := ⟨_, _, eq_ix2 y⟩
  obtain rfl : i = 0 := Subsingleton.elim _ _
  rw [after0_6, gains H 15 (by omega) t ht j, Normed.blocks_last]
  refine congrArg (fun j => ((∑ r, gain U W X j r : ℝ) : EReal)) (Fin.ext ?_)
  blk_simp [idx t] <;> first | omega | (dsimp only; omega)

end Cert.Kernel3Ideal.Value

end
-- ==== Proof.NormedRef.lean ====
module

public import proofs.«01_k».proof.Proof.Gen.Reference3Ideal.Read
public import proofs.«01_k».proof.Proof.Gen.Reference3Ideal.Run
public import proofs.«01_k».proof.Proof.Normed
public import Idealize.ShloMosaic.Lib.Pipeline.ValueKit
public import Idealize.ShloMosaic.Lib.Pipeline.Value
public import Idealize.ShloMosaic.Lib.KernelVsHost

/-! The gradient through the norm and the first product of the feed-forward block, as the reference computes it over real
arguments. -/

@[expose] public section

set_option maxRecDepth 16384

noncomputable section

open Idealize.ShloMosaic Idealize.ShloMosaic.TcCoe Idealize.SL.Sem

namespace Cert.Reference3Ideal.Value

open Cert.Reference3Ideal Cert.Reference3Ideal.Gen Cert.Reference3Ideal.Read Proofs.Reals Proofs

variable {x0 : FVec Ideal S2x8192x2816 .bf16} {x1 : FVec Ideal S1x1024x5632 .bf16} {x2 : FVec Ideal S8192x1024 .f32}
variable {x3 : FVec Ideal S1024 .f32} {x4 : FVec Ideal S8192x1024 .f32}
variable {U : Fin 8192 → Fin 2 → Fin 2816 → ℝ} {W : Fin 1024 → Fin 5632 → ℝ} {X : Fin 8192 → Fin 1024 → ℝ}
variable {G : Fin 1024 → ℝ} {E : Fin 8192 → Fin 1024 → ℝ}

/-- The halves of the cotangent, one after the other. -/
theorem v5_at (h0 : ∀ b r j, x0 (ix3 b r j) = ((U r b j : ℝ) : EReal)) (r : Fin 8192) (k : Fin 5632) :
    val_main_v5 (F := Ideal) x0 (ix2 r k) = ((Normed.cat (U r) k : ℝ) : EReal) := by
  pointwise [val_main_v5]
  unfold val_main_v4
  by_cases hk : (k : ℕ) < 2816
  · refine (concatenate_pair_apply_left (s₁ := S8192x2816) 1 _ _ _ (ix2 r k) rfl (ix2 r ⟨k, hk⟩) fun b => match b with
      | 0 => rfl
      | 1 => rfl).trans ?_
    pointwise [val_main_v1, val_main_v0]
    rw [h0, Normed.cat_at (U r) 0 ⟨k, hk⟩ k (by simp)]
  · refine (concatenate_pair_apply_right (s₁ := S8192x2816) (s₂ := S8192x2816) 1 _ _ _ (ix2 r k) rfl rfl
      (ix2 r ⟨k - 2816, by omega⟩) (fun b hb => match b, hb with
        | 0, _ => rfl
        | 1, hb => absurd rfl hb) (show _ = _ from (Nat.sub_add_cancel (not_lt.mp hk)))).trans ?_
    pointwise [val_main_v3, val_main_v2]
    rw [h0, Normed.cat_at (U r) 1 ⟨k - 2816, by omega⟩ k (by simp; omega)]

/-- The cotangent of the normalised rows. -/
theorem v25_at (h0 : ∀ b r j, x0 (ix3 b r j) = ((U r b j : ℝ) : EReal)) (h1 : ∀ j k, x1 (ix3 0 j k) = ((W j k : ℝ) : EReal))
    (r : Fin 8192) (j : Fin 1024) :
    val_main_v25 (F := Ideal) x0 x1 (ix2 r j) = ((Normed.dh (Normed.cat (U r)) (W j) : ℝ) : EReal) := by
  pointwise [val_main_v25, val_main_v7, val_main_v6]
  simp only [v5_at h0, h1, ← EReal.coe_mul, ← coe_sum]
  rfl

/-- The mean square of a row. -/
theorem v14_at (h2 : ∀ r j, x2 (ix2 r j) = ((X r j : ℝ) : EReal)) (r : Fin 8192) :
    val_main_v14 (F := Ideal) x2 (ix2 r 0) = ((Normed.ms (X r) : ℝ) : EReal) := by
  pointwise [val_main_v14, val_main_v13, val_main_cst_1, val_main_v12, val_main_v11, val_main_cst_0, val_main_v10, val_main_v9,
    val_main_cst, val_main_v8]
  simp only [h2, Normed.eps_bits, Normed.length_bits, ← EReal.coe_mul, ← coe_sum, zero_add]
  rw [div_coe_coe _ (by norm_num), ← EReal.coe_add]
  rfl

/-- The reciprocal of the norm of a row. -/
theorem v15_at (h2 : ∀ r j, x2 (ix2 r j) = ((X r j : ℝ) : EReal)) (r : Fin 8192) :
    val_main_v15 (F := Ideal) x2 (ix2 r 0) = ((Normed.rho (X r) : ℝ) : EReal) := by
  pointwise [val_main_v15]
  rw [v14_at h2, Normed.rsqrt_ms]

/-- The derivative of the reciprocal of the norm. -/
theorem v18_at (h2 : ∀ r j, x2 (ix2 r j) = ((X r j : ℝ) : EReal)) (r : Fin 8192) :
    val_main_v18 (F := Ideal) x2 (ix2 r 0) = ((-(1 / 2) * (Normed.rho (X r) / Normed.ms (X r)) : ℝ) : EReal) := by
  pointwise [val_main_v18, val_main_v17, val_main_cst_2, val_main_v16]
  rw [v14_at h2, v15_at h2, Normed.half_bits, div_coe_coe _ (Normed.ms_pos _).ne', ← EReal.coe_mul]

/-- The cotangent of the rows before the gain. -/
theorem v30_at (h0 : ∀ b r j, x0 (ix3 b r j) = ((U r b j : ℝ) : EReal)) (h1 : ∀ j k, x1 (ix3 0 j k) = ((W j k : ℝ) : EReal))
    (h3 : ∀ j, x3 (ix1 j) = ((G j : ℝ) : EReal)) (r : Fin 8192) (j : Fin 1024) :
    val_main_v30 (F := Ideal) x0 x1 x3 (ix2 r j) = ((Normed.dh (Normed.cat (U r)) (W j) * G j : ℝ) : EReal) := by
  pointwise [val_main_v30, val_main_v29, val_main_v21]
  rw [v25_at h0 h1, h3, ← EReal.coe_mul]

/-- The cotangent of the mean square, over the length of the row. -/
theorem v42_at (h0 : ∀ b r j, x0 (ix3 b r j) = ((U r b j : ℝ) : EReal)) (h1 : ∀ j k, x1 (ix3 0 j k) = ((W j k : ℝ) : EReal))
    (h2 : ∀ r j, x2 (ix2 r j) = ((X r j : ℝ) : EReal)) (h3 : ∀ j, x3 (ix1 j) = ((G j : ℝ) : EReal))
    (r : Fin 8192) (j : Fin 1024) :
    val_main_v42 (F := Ideal) x0 x1 x2 x3 (ix2 r j)
      = ((Normed.dms (fun k => Normed.dh (Normed.cat (U r)) (W k)) G (X r) : ℝ) : EReal) := by
  pointwise [val_main_v42, val_main_v41, val_main_cst_7, val_main_v40, val_main_v39, val_main_cst_6, val_main_v38, val_main_v34,
    val_main_v33, val_main_cst_5, val_main_v32]
  simp only [Fin.sum_univ_one, h2, v18_at h2, v30_at h0 h1 h3, Normed.length_bits, ← EReal.coe_mul, ← coe_sum, zero_add]
  rw [div_coe_coe _ (by norm_num)]
  rfl

/-- The cotangent of the input of the block. -/
theorem dx_at (h0 : ∀ b r j, x0 (ix3 b r j) = ((U r b j : ℝ) : EReal)) (h1 : ∀ j k, x1 (ix3 0 j k) = ((W j k : ℝ) : EReal))
    (h2 : ∀ r j, x2 (ix2 r j) = ((X r j : ℝ) : EReal)) (h3 : ∀ j, x3 (ix1 j) = ((G j : ℝ) : EReal))
    (h4 : ∀ r j, x4 (ix2 r j) = ((E r j : ℝ) : EReal)) (r : Fin 8192) (j : Fin 1024) :
    val_main_v46 (F := Ideal) x0 x1 x2 x3 x4 (ix2 r j)
      = ((Normed.dx (fun k => Normed.dh (Normed.cat (U r)) (W k)) G (X r) (E r j) j : ℝ) : EReal) := by
  pointwise [val_main_v46, val_main_v45, val_main_v44, val_main_v43, val_main_v37, val_main_v36, val_main_v35]
  simp only [h2, h4, v15_at h2, v30_at h0 h1 h3, v42_at h0 h1 h2 h3, ← EReal.coe_mul, ← EReal.coe_add]
  rw [← Normed.dx_eq]

/-- The cotangent of the gain. -/
theorem dg_at (h0 : ∀ b r j, x0 (ix3 b r j) = ((U r b j : ℝ) : EReal)) (h1 : ∀ j k, x1 (ix3 0 j k) = ((W j k : ℝ) : EReal))
    (h2 : ∀ r j, x2 (ix2 r j) = ((X r j : ℝ) : EReal)) (j : Fin 1024) :
    val_main_v47 (F := Ideal) x0 x1 x2 (ix2 0 j)
      = ((∑ r, Normed.dh (Normed.cat (U r)) (W j) * (X r j * Normed.rho (X r)) : ℝ) : EReal) := by
  pointwise [val_main_v47, val_main_v31, val_main_cst_4, val_main_v28, val_main_v27, val_main_cst_3, val_main_v26, val_main_v20,
    val_main_v19]
  simp only [Fin.sum_univ_one, h2, v15_at h2, v25_at h0 h1, ← EReal.coe_mul, ← coe_sum, zero_add]
  exact congrArg _ (Finset.sum_congr rfl fun r _ => mul_comm _ _)

end Cert.Reference3Ideal.Value

end
-- ==== Proof.NormedPair.lean ====
module

public import proofs.«01_k».proof.Proof.Finite
public import proofs.«01_k».proof.Proof.NormedKernel
public import proofs.«01_k».proof.Proof.NormedRef
public import proofs.«01_k».proof.Proof.Gen.Pre_finite3
public import proofs.«01_k».proof.Defs

/-! The gradient through the norm and the first product of the feed-forward block, kernel and reference together: under the
precondition the arguments are arrays of real numbers, and on such arguments the two programs agree. -/

@[expose] public section

set_option maxRecDepth 16384

noncomputable section

open Idealize.ShloMosaic Idealize.ShloMosaic.TcCoe Idealize.SL.Sem Proofs

namespace Cert.NormedPair

open Cert.Kernel3Ideal Cert.Kernel3Ideal.Gen

variable (m : (ℓ : Loc nD τ sig) → Buf (Elt Ideal) ℓ) (c : Dev nD)

/-- The arguments are real under the precondition. -/
theorem args (h : Cert.Pre_Kernel3Ideal_finite3 m) :
    ∃ (U : Fin 8192 → Fin 2 → Fin 2816 → ℝ) (W : Fin 1024 → Fin 5632 → ℝ) (X : Fin 8192 → Fin 1024 → ℝ) (G : Fin 1024 → ℝ)
      (E : Fin 8192 → Fin 1024 → ℝ), Cert.Kernel3Ideal.Value.Args m c U W X G E := by
  obtain ⟨h0, h1, h2, h3, h4⟩ := h c
  have e0 := Proofs.Finite.real_of_cmp _ _ h0
  have e1 := Proofs.Finite.real_of_cmp _ _ h1
  have e2 := Proofs.Finite.real_of_cmp _ _ h2
  have e3 := Proofs.Finite.real_of_cmp _ _ h3
  have e4 := Proofs.Finite.real_of_cmp _ _ h4
  exact ⟨fun r b k => (e0 (ix3 b r k)).choose, fun j k => (e1 (ix3 0 j k)).choose, fun r j => (e2 (ix2 r j)).choose,
    fun j => (e3 (ix1 j)).choose, fun r j => (e4 (ix2 r j)).choose,
    fun b r k => (e0 (ix3 b r k)).choose_spec, fun j k => (e1 (ix3 0 j k)).choose_spec, fun r j => (e2 (ix2 r j)).choose_spec,
    fun j => (e3 (ix1 j)).choose_spec, fun r j => (e4 (ix2 r j)).choose_spec⟩

/-- The cotangents of the rows agree. -/
theorem dx (h : Cert.Pre_Kernel3Ideal_finite3 m) : Cert.Reference3Ideal.Read.val_main_v46 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) = (dats m 0 c).arrAt 5 cfg0.N := by
  obtain ⟨U, W, X, G, E, H⟩ := args m c h
  obtain ⟨h0, h1, h2, h3, h4⟩ := id H
  funext i
  obtain ⟨r, j, rfl⟩ : ∃ r j, i = ix2 r j := ⟨_, _, eq_ix2 i⟩
  exact (Cert.Reference3Ideal.Value.dx_at h0 h1 h2 h3 h4 r j).trans (Cert.Kernel3Ideal.Value.final_rows H r j).symm

/-- The cotangents of the gain agree. -/
theorem dg (h : Cert.Pre_Kernel3Ideal_finite3 m) : Cert.Reference3Ideal.Read.val_main_v47 (F := Ideal)
    (m ((c : Thread nD τ).loc main_arg0)) (m ((c : Thread nD τ).loc main_arg1)) (m ((c : Thread nD τ).loc main_arg2))
      = (dats m 0 c).arrAt 6 cfg0.N := by
  obtain ⟨U, W, X, G, E, H⟩ := args m c h
  obtain ⟨h0, h1, h2, h3, h4⟩ := id H
  funext i
  obtain ⟨z, j, rfl⟩ : ∃ (z : Fin 1) (j : Fin 1024), i = ix2 z j := ⟨_, _, eq_ix2 i⟩
  obtain rfl : z = 0 := Subsingleton.elim _ _
  exact (Cert.Reference3Ideal.Value.dg_at h0 h1 h2 j).trans (Cert.Kernel3Ideal.Value.final_gain H j).symm

end Cert.NormedPair

end
-- ==== Proof.lean ====
module

public import proofs.«01_k».proof.Defs
public import proofs.«01_k».proof.Proof.Pair
public import proofs.«01_k».proof.Proof.GatedPair
public import proofs.«01_k».proof.Proof.WeightGate
public import proofs.«01_k».proof.Proof.WeightDown
public import proofs.«01_k».proof.Proof.WeightUp
public import proofs.«01_k».proof.Proof.WeightOut
public import proofs.«01_k».proof.Proof.LayerPair
public import proofs.«01_k».proof.Proof.HeadPair
public import proofs.«01_k».proof.Proof.WeightQuery
public import proofs.«01_k».proof.Proof.WeightConv
public import proofs.«01_k».proof.Proof.WeightEven
public import proofs.«01_k».proof.Proof.QueryBack
public import proofs.«01_k».proof.Proof.NormQuery
public import proofs.«01_k».proof.Proof.NormConv
public import proofs.«01_k».proof.Proof.Memory
public import proofs.«01_k».proof.Proof.MemoryNorm
public import proofs.«01_k».proof.Proof.Columns
public import proofs.«01_k».proof.Proof.Residual
public import proofs.«01_k».proof.Proof.Queries
public import proofs.«01_k».proof.Proof.ConvIn
public import proofs.«01_k».proof.Proof.Attend
public import proofs.«01_k».proof.Proof.NormedPair
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Pre_finite
public import proofs.«01_k».proof.Proof.Gen.Pre_finite2
public import proofs.«01_k».proof.Proof.Gen.Pre_finite3
public import proofs.«01_k».proof.Proof.Gen.Pre_finite8
public import proofs.«01_k».proof.Proof.Gen.Pre_finite9
public import proofs.«01_k».proof.Proof.Gen.Pre_finite14
public import proofs.«01_k».proof.Proof.Gen.Pre_finite15
public import proofs.«01_k».proof.Proof.Gen.Pre_finite26
public import Idealize.ShloMosaic.Adequacy
public import Idealize.ShloMosaic.Init

/-! The claims: the frames, and the agreement of kernel and reference. -/

@[expose] public section

noncomputable section

namespace Cert.Proof

open Idealize.ShloMosaic Idealize.SL.Sem

/-- A machine that declares no semaphore has all its counters at zero. -/
theorem no_counter {nD : ℕ} {τ : Topo} {sig : RefSig} (h : sig.nSem = 0) (h' : sig.nDmaSem = 0) (f : GSem nD τ sig → ℤ) :
    f = fun _ => 0 := by
  funext ⟨_, s⟩
  cases s with
  | reg s => exact (Fin.cast h s).elim0
  | dma s => exact (Fin.cast h' s).elim0

/-! ## The references leave their arguments and the counters -/

theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) ∧ r.2.sem = fun _ => 0) :=
  (θ_run Cert.ReferenceIdeal.defs _ _).mono (fun r h => ⟨fun c => (h c).2.2, no_counter rfl rfl _⟩) (Cert.ReferenceIdeal.Value.run m g)

theorem frame_reference2 (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)) ∧ r.2.sem = fun _ => 0) :=
  (θ_run Cert.Reference2Ideal.defs _ _).mono (fun r h => ⟨fun c => (h c).2, no_counter rfl rfl _⟩) (Cert.Reference2Ideal.Value.run m g)

theorem frame_reference3 (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
        ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)) ∧ r.2.sem = fun _ => 0) :=
  (θ_run Cert.Reference3Ideal.defs _ _).mono (fun r h => ⟨fun c => (h c).2.2, no_counter rfl rfl _⟩) (Cert.Reference3Ideal.Value.run m g)

theorem frame_reference4 (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)) ∧ r.2.sem = fun _ => 0) :=
  (θ_run Cert.Reference4Ideal.defs _ _).mono (fun r h => ⟨fun c => (h c).2, no_counter rfl rfl _⟩) (Cert.Reference4Ideal.Value.run m g)

theorem frame_reference5 (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
        r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)) ∧ r.2.sem = fun _ => 0) :=
  (θ_run Cert.Reference5Ideal.defs _ _).mono (fun r h => ⟨fun c => (h c).2, no_counter rfl rfl _⟩) (Cert.Reference5Ideal.Value.run m g)

theorem frame_reference6 (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
        r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
        ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)) ∧ r.2.sem = fun _ => 0) :=
  (θ_run Cert.Reference6Ideal.defs _ _).mono (fun r h => ⟨fun c => (h c).2, no_counter rfl rfl _⟩) (Cert.Reference6Ideal.Value.run m g)

theorem frame_reference7 (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
        r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
        ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)) ∧ r.2.sem = fun _ => 0) :=
  (θ_run Cert.Reference7Ideal.defs _ _).mono (fun r h => ⟨fun c => (h c).2, no_counter rfl rfl _⟩) (Cert.Reference7Ideal.Value.run m g)

theorem frame_reference8 (m : (ℓ : Loc Cert.Reference8Ideal.nD Cert.Reference8Ideal.τ Cert.Reference8Ideal.sig) → Buf (Elt Ideal) ℓ) (g : Dev Cert.Reference8Ideal.nD → PrngReg) :
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
        r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
        ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
        ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
        ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
        ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)) ∧ r.2.sem = fun _ => 0) :=
  (θ_run Cert.Reference8Ideal.defs _ _).mono (fun r h => ⟨fun c => (h c).2.2.2.2, no_counter rfl rfl _⟩) (Cert.Reference8Ideal.Value.run m g)

theorem frame_reference9 (m : (ℓ : Loc Cert.Reference9Ideal.nD Cert.Reference9Ideal.τ Cert.Reference9Ideal.sig) → Buf (Elt Ideal) ℓ) (g : Dev Cert.Reference9Ideal.nD → PrngReg) :
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
        r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
        ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
        ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
        ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
        ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)) ∧ r.2.sem = fun _ => 0) :=
  (θ_run Cert.Reference9Ideal.defs _ _).mono (fun r h => ⟨fun c => (h c).2.2.2, no_counter rfl rfl _⟩) (Cert.Reference9Ideal.Value.run m g)

theorem frame_reference10 (m : (ℓ : Loc Cert.Reference10Ideal.nD Cert.Reference10Ideal.τ Cert.Reference10Ideal.sig) → Buf (Elt Ideal) ℓ) (g : Dev Cert.Reference10Ideal.nD → PrngReg) :
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
        r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
        ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)) ∧ r.2.sem = fun _ => 0) :=
  (θ_run Cert.Reference10Ideal.defs _ _).mono (fun r h => ⟨fun c => (h c).2, no_counter rfl rfl _⟩) (Cert.Reference10Ideal.Value.run m g)

theorem frame_reference11 (m : (ℓ : Loc Cert.Reference11Ideal.nD Cert.Reference11Ideal.τ Cert.Reference11Ideal.sig) → Buf (Elt Ideal) ℓ) (g : Dev Cert.Reference11Ideal.nD → PrngReg) :
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
        r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
        ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)) ∧ r.2.sem = fun _ => 0) :=
  (θ_run Cert.Reference11Ideal.defs _ _).mono (fun r h => ⟨fun c => (h c).2, no_counter rfl rfl _⟩) (Cert.Reference11Ideal.Value.run m g)

theorem frame_reference12 (m : (ℓ : Loc Cert.Reference12Ideal.nD Cert.Reference12Ideal.τ Cert.Reference12Ideal.sig) → Buf (Elt Ideal) ℓ) (g : Dev Cert.Reference12Ideal.nD → PrngReg) :
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
        r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
        ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)) ∧ r.2.sem = fun _ => 0) :=
  (θ_run Cert.Reference12Ideal.defs _ _).mono (fun r h => ⟨fun c => (h c).2, no_counter rfl rfl _⟩) (Cert.Reference12Ideal.Value.run m g)

theorem frame_reference13 (m : (ℓ : Loc Cert.Reference13Ideal.nD Cert.Reference13Ideal.τ Cert.Reference13Ideal.sig) → Buf (Elt Ideal) ℓ) (g : Dev Cert.Reference13Ideal.nD → PrngReg) :
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
        r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
        ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)) ∧ r.2.sem = fun _ => 0) :=
  (θ_run Cert.Reference13Ideal.defs _ _).mono (fun r h => ⟨fun c => (h c).2, no_counter rfl rfl _⟩) (Cert.Reference13Ideal.Value.run m g)

theorem frame_reference14 (m : (ℓ : Loc Cert.Reference14Ideal.nD Cert.Reference14Ideal.τ Cert.Reference14Ideal.sig) → Buf (Elt Ideal) ℓ) (g : Dev Cert.Reference14Ideal.nD → PrngReg) :
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
        r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
        ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
        ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
        ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
        ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)) ∧ r.2.sem = fun _ => 0) :=
  (θ_run Cert.Reference14Ideal.defs _ _).mono (fun r h => ⟨fun c => (h c).2.2, no_counter rfl rfl _⟩) (Cert.Reference14Ideal.Value.run m g)

theorem frame_reference15 (m : (ℓ : Loc Cert.Reference15Ideal.nD Cert.Reference15Ideal.τ Cert.Reference15Ideal.sig) → Buf (Elt Ideal) ℓ) (g : Dev Cert.Reference15Ideal.nD → PrngReg) :
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
        r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
        ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
        ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
        ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
        ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)) ∧ r.2.sem = fun _ => 0) :=
  (θ_run Cert.Reference15Ideal.defs _ _).mono (fun r h => ⟨fun c => (h c).2.2, no_counter rfl rfl _⟩) (Cert.Reference15Ideal.Value.run m g)

theorem frame_reference16 (m : (ℓ : Loc Cert.Reference16Ideal.nD Cert.Reference16Ideal.τ Cert.Reference16Ideal.sig) → Buf (Elt Ideal) ℓ) (g : Dev Cert.Reference16Ideal.nD → PrngReg) :
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
        r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
        ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)) ∧ r.2.sem = fun _ => 0) :=
  (θ_run Cert.Reference16Ideal.defs _ _).mono (fun r h => ⟨fun c => (h c).2, no_counter rfl rfl _⟩) (Cert.Reference16Ideal.Value.run m g)

theorem frame_reference17 (m : (ℓ : Loc Cert.Reference17Ideal.nD Cert.Reference17Ideal.τ Cert.Reference17Ideal.sig) → Buf (Elt Ideal) ℓ) (g : Dev Cert.Reference17Ideal.nD → PrngReg) :
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
        r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
        ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)) ∧ r.2.sem = fun _ => 0) :=
  (θ_run Cert.Reference17Ideal.defs _ _).mono (fun r h => ⟨fun c => (h c).2, no_counter rfl rfl _⟩) (Cert.Reference17Ideal.Value.run m g)

theorem frame_reference18 (m : (ℓ : Loc Cert.Reference18Ideal.nD Cert.Reference18Ideal.τ Cert.Reference18Ideal.sig) → Buf (Elt Ideal) ℓ) (g : Dev Cert.Reference18Ideal.nD → PrngReg) :
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
        r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
        ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)) ∧ r.2.sem = fun _ => 0) :=
  (θ_run Cert.Reference18Ideal.defs _ _).mono (fun r h => ⟨fun c => (h c).2, no_counter rfl rfl _⟩) (Cert.Reference18Ideal.Value.run m g)

theorem frame_reference19 (m : (ℓ : Loc Cert.Reference19Ideal.nD Cert.Reference19Ideal.τ Cert.Reference19Ideal.sig) → Buf (Elt Ideal) ℓ) (g : Dev Cert.Reference19Ideal.nD → PrngReg) :
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
        r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)) ∧ r.2.sem = fun _ => 0) :=
  (θ_run Cert.Reference19Ideal.defs _ _).mono (fun r h => ⟨fun c => (h c).2, no_counter rfl rfl _⟩) (Cert.Reference19Ideal.Value.run m g)

theorem frame_reference20 (m : (ℓ : Loc Cert.Reference20Ideal.nD Cert.Reference20Ideal.τ Cert.Reference20Ideal.sig) → Buf (Elt Ideal) ℓ) (g : Dev Cert.Reference20Ideal.nD → PrngReg) :
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
        r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
        ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
        ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)) ∧ r.2.sem = fun _ => 0) :=
  (θ_run Cert.Reference20Ideal.defs _ _).mono (fun r h => ⟨fun c => (h c).2.2, no_counter rfl rfl _⟩) (Cert.Reference20Ideal.Value.run m g)

theorem frame_reference21 (m : (ℓ : Loc Cert.Reference21Ideal.nD Cert.Reference21Ideal.τ Cert.Reference21Ideal.sig) → Buf (Elt Ideal) ℓ) (g : Dev Cert.Reference21Ideal.nD → PrngReg) :
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
        r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
        ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
        ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
        ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)) ∧ r.2.sem = fun _ => 0) :=
  (θ_run Cert.Reference21Ideal.defs _ _).mono (fun r h => ⟨fun c => (h c).2.2.2, no_counter rfl rfl _⟩) (Cert.Reference21Ideal.Value.run m g)

theorem frame_reference22 (m : (ℓ : Loc Cert.Reference22Ideal.nD Cert.Reference22Ideal.τ Cert.Reference22Ideal.sig) → Buf (Elt Ideal) ℓ) (g : Dev Cert.Reference22Ideal.nD → PrngReg) :
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
        r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
        ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
        ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)) ∧ r.2.sem = fun _ => 0) :=
  (θ_run Cert.Reference22Ideal.defs _ _).mono (fun r h => ⟨fun c => (h c).2, no_counter rfl rfl _⟩) (Cert.Reference22Ideal.Value.run m g)

theorem frame_reference23 (m : (ℓ : Loc Cert.Reference23Ideal.nD Cert.Reference23Ideal.τ Cert.Reference23Ideal.sig) → Buf (Elt Ideal) ℓ) (g : Dev Cert.Reference23Ideal.nD → PrngReg) :
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
        r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
        ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
        ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
        ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)) ∧ r.2.sem = fun _ => 0) :=
  (θ_run Cert.Reference23Ideal.defs _ _).mono (fun r h => ⟨fun c => (h c).2, no_counter rfl rfl _⟩) (Cert.Reference23Ideal.Value.run m g)

theorem frame_reference24 (m : (ℓ : Loc Cert.Reference24Ideal.nD Cert.Reference24Ideal.τ Cert.Reference24Ideal.sig) → Buf (Elt Ideal) ℓ) (g : Dev Cert.Reference24Ideal.nD → PrngReg) :
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
        r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
        ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)) ∧ r.2.sem = fun _ => 0) :=
  (θ_run Cert.Reference24Ideal.defs _ _).mono (fun r h => ⟨fun c => (h c).2, no_counter rfl rfl _⟩) (Cert.Reference24Ideal.Value.run m g)

theorem frame_reference25 (m : (ℓ : Loc Cert.Reference25Ideal.nD Cert.Reference25Ideal.τ Cert.Reference25Ideal.sig) → Buf (Elt Ideal) ℓ) (g : Dev Cert.Reference25Ideal.nD → PrngReg) :
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
        r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
        ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)) ∧ r.2.sem = fun _ => 0) :=
  (θ_run Cert.Reference25Ideal.defs _ _).mono (fun r h => ⟨fun c => (h c).2, no_counter rfl rfl _⟩) (Cert.Reference25Ideal.Value.run m g)

theorem frame_reference26 (m : (ℓ : Loc Cert.Reference26Ideal.nD Cert.Reference26Ideal.τ Cert.Reference26Ideal.sig) → Buf (Elt Ideal) ℓ) (g : Dev Cert.Reference26Ideal.nD → PrngReg) :
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
        r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
        ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)) ∧ r.2.sem = fun _ => 0) :=
  (θ_run Cert.Reference26Ideal.defs _ _).mono (fun r h => ⟨fun c => (h c).2, no_counter rfl rfl _⟩) (Cert.Reference26Ideal.Value.run m g)

/-! ## The agreement of kernel and reference -/

theorem agree : Cert.algebraic_KernelIdeal_ReferenceIdeal_pre_finite := by
  intro m g m' g' hpre hagree
  refine ⟨fun c => (Cert.KernelIdeal.Gen.dats m 0 c).arrAt 3 Cert.KernelIdeal.cfg0.N, fun c => (Cert.KernelIdeal.Gen.dats m 0 c).arrAt 4 Cert.KernelIdeal.cfg0.N, Cert.KernelIdeal.Value.run_blocks m g, ?_⟩
  refine (θ_run Cert.ReferenceIdeal.defs _ _).mono (fun r h c => ?_) (Cert.ReferenceIdeal.Value.run m' g')
  obtain ⟨h69, h65, hargs⟩ := h c
  obtain ⟨a0, a1, a2⟩ := hagree c
  refine ⟨h69.trans ?_, h65.trans ?_, hargs⟩
  · rw [Cert.ReferenceIdeal.Read.val_main_v69_eq, a0, a1, a2]
    exact Cert.Pair.dq m c hpre
  · rw [Cert.ReferenceIdeal.Read.val_main_v65_eq, a0, a1, a2]
    exact Cert.Pair.dkv m c hpre

theorem agree2 : Cert.algebraic_Kernel2Ideal_Reference2Ideal_pre_finite2 := by
  intro m g m' g' hpre hagree
  refine ⟨fun c => (Cert.Kernel2Ideal.Gen.dats m 0 c).arrAt 3 Cert.Kernel2Ideal.cfg0.N, Cert.Kernel2Ideal.Value.run_blocks m g, ?_⟩
  refine (θ_run Cert.Reference2Ideal.defs _ _).mono (fun r h c => ?_) (Cert.Reference2Ideal.Value.run m' g')
  obtain ⟨h19, hargs⟩ := h c
  obtain ⟨a0, a1, a2⟩ := hagree c
  refine ⟨h19.trans ?_, hargs⟩
  · rw [Cert.Reference2Ideal.Read.val_main_v19_eq, a0, a1, a2]
    exact Cert.GatedPair.dgu m c hpre

theorem agree3 : Cert.algebraic_Kernel3Ideal_Reference3Ideal_pre_finite3 := by
  intro m g m' g' hpre hagree
  refine ⟨fun c => (Cert.Kernel3Ideal.Gen.dats m 0 c).arrAt 5 Cert.Kernel3Ideal.cfg0.N, fun c => (Cert.Kernel3Ideal.Gen.dats m 0 c).arrAt 6 Cert.Kernel3Ideal.cfg0.N, Cert.Kernel3Ideal.Value.run_blocks m g, ?_⟩
  refine (θ_run Cert.Reference3Ideal.defs _ _).mono (fun r h c => ?_) (Cert.Reference3Ideal.Value.run m' g')
  obtain ⟨h46, h47, hargs⟩ := h c
  obtain ⟨a0, a1, a2, a3, a4⟩ := hagree c
  refine ⟨h46.trans ?_, h47.trans ?_, hargs⟩
  · rw [Cert.Reference3Ideal.Read.val_main_v46_eq, a0, a1, a2, a3, a4]
    exact Cert.NormedPair.dx m c hpre
  · rw [Cert.Reference3Ideal.Read.val_main_v47_eq, a0, a1, a2]
    exact Cert.NormedPair.dg m c hpre

theorem agree4 : Cert.algebraic_Kernel4Ideal_Reference4Ideal := by
  intro m g m' g' hpre hagree
  refine ⟨fun c => (Cert.Kernel4Ideal.Gen.dats m 0 c).arrAt 2 Cert.Kernel4Ideal.cfg0.N, Cert.Kernel4Ideal.Value.run_blocks m g, ?_⟩
  refine (θ_run Cert.Reference4Ideal.defs _ _).mono (fun r h c => ?_) (Cert.Reference4Ideal.Value.run m' g')
  obtain ⟨h8, hargs⟩ := h c
  obtain ⟨a0, a1⟩ := hagree c
  refine ⟨h8.trans ?_, hargs⟩
  · rw [Cert.Reference4Ideal.Read.val_main_v8_eq, a0, a1]
    exact (Cert.Kernel4Ideal.Value.final m c).symm

theorem agree5 : Cert.algebraic_Kernel5Ideal_Reference5Ideal := by
  intro m g m' g' hpre hagree
  refine ⟨fun c => (Cert.Kernel5Ideal.Gen.dats m 0 c).arrAt 2 Cert.Kernel5Ideal.cfg0.N, Cert.Kernel5Ideal.Value.run_blocks m g, ?_⟩
  refine (θ_run Cert.Reference5Ideal.defs _ _).mono (fun r h c => ?_) (Cert.Reference5Ideal.Value.run m' g')
  obtain ⟨h5, hargs⟩ := h c
  obtain ⟨a0, a1⟩ := hagree c
  refine ⟨h5.trans ?_, hargs⟩
  · rw [Cert.Reference5Ideal.Read.val_main_v5_eq, a0, a1]
    exact (Cert.Kernel5Ideal.Value.final m c).symm

theorem agree6 : Cert.algebraic_Kernel6Ideal_Reference6Ideal := by
  intro m g m' g' hpre hagree
  refine ⟨fun c => (Cert.Kernel6Ideal.Gen.dats m 0 c).arrAt 2 Cert.Kernel6Ideal.cfg0.N, Cert.Kernel6Ideal.Value.run_blocks m g, ?_⟩
  refine (θ_run Cert.Reference6Ideal.defs _ _).mono (fun r h c => ?_) (Cert.Reference6Ideal.Value.run m' g')
  obtain ⟨h8, hargs⟩ := h c
  obtain ⟨a0, a1⟩ := hagree c
  refine ⟨h8.trans ?_, hargs⟩
  · rw [Cert.Reference6Ideal.Read.val_main_v8_eq, a0, a1]
    exact (Cert.Kernel6Ideal.Value.final m c).symm

theorem agree7 : Cert.algebraic_Kernel7Ideal_Reference7Ideal := by
  intro m g m' g' hpre hagree
  refine ⟨fun c => (Cert.Kernel7Ideal.Gen.dats m 0 c).arrAt 2 Cert.Kernel7Ideal.cfg0.N, Cert.Kernel7Ideal.Value.run_blocks m g, ?_⟩
  refine (θ_run Cert.Reference7Ideal.defs _ _).mono (fun r h c => ?_) (Cert.Reference7Ideal.Value.run m' g')
  obtain ⟨h5, hargs⟩ := h c
  obtain ⟨a0, a1⟩ := hagree c
  refine ⟨h5.trans ?_, hargs⟩
  · rw [Cert.Reference7Ideal.Read.val_main_v5_eq, a0, a1]
    exact (Cert.Kernel7Ideal.Value.final m c).symm

theorem agree8 : Cert.algebraic_Kernel8Ideal_Reference8Ideal_pre_finite8 := by
  intro m g m' g' hpre hagree
  refine ⟨fun c => (Cert.Kernel8Ideal.Gen.dats m 0 c).arrAt 5 Cert.Kernel8Ideal.cfg0.N, fun c => (Cert.Kernel8Ideal.Gen.dats m 0 c).arrAt 6 Cert.Kernel8Ideal.cfg0.N, fun c => (Cert.Kernel8Ideal.Gen.dats m 0 c).arrAt 7 Cert.Kernel8Ideal.cfg0.N, fun c => (Cert.Kernel8Ideal.Gen.dats m 0 c).arrAt 8 Cert.Kernel8Ideal.cfg0.N, Cert.Kernel8Ideal.Value.run_blocks m g, ?_⟩
  refine (θ_run Cert.Reference8Ideal.defs _ _).mono (fun r h c => ?_) (Cert.Reference8Ideal.Value.run m' g')
  obtain ⟨h65, h69, h70, h71, hargs⟩ := h c
  obtain ⟨a0, a1, a2, a3, a4⟩ := hagree c
  refine ⟨h65.trans ?_, h69.trans ?_, h70.trans ?_, h71.trans ?_, hargs⟩
  · rw [Cert.Reference8Ideal.Read.val_main_v65_eq]
    change Cert.Reference8Ideal.Read.val_main_v65 (F := Ideal) (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4)) = _
    rw [a0, a1, a2, a3, a4]
    exact Cert.LayerPair.dy m c hpre
  · rw [Cert.Reference8Ideal.Read.val_main_v69_eq]
    change Cert.Reference8Ideal.Read.val_main_v69 (F := Ideal) (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4)) = _
    rw [a0, a1, a2, a3, a4]
    exact Cert.LayerPair.dg m c hpre
  · rw [Cert.Reference8Ideal.Read.val_main_v70_eq]
    change Cert.Reference8Ideal.Read.val_main_v70 (F := Ideal) (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4)) = _
    rw [a0, a1, a2, a3, a4]
    exact Cert.LayerPair.db m c hpre
  · rw [Cert.Reference8Ideal.Read.val_main_v71_eq]
    change Cert.Reference8Ideal.Read.val_main_v71 (F := Ideal) (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4)) = _
    rw [a0, a1, a2, a3, a4]
    exact Cert.LayerPair.ddb m c hpre

theorem agree9 : Cert.algebraic_Kernel9Ideal_Reference9Ideal_pre_finite9 := by
  intro m g m' g' hpre hagree
  refine ⟨fun c => (Cert.Kernel9Ideal.Gen.dats m 0 c).arrAt 5 Cert.Kernel9Ideal.cfg0.N, fun c => (Cert.Kernel9Ideal.Gen.dats m 0 c).arrAt 6 Cert.Kernel9Ideal.cfg0.N, fun c => (Cert.Kernel9Ideal.Gen.dats m 0 c).arrAt 7 Cert.Kernel9Ideal.cfg0.N, Cert.Kernel9Ideal.Value.run_blocks m g, ?_⟩
  refine (θ_run Cert.Reference9Ideal.defs _ _).mono (fun r h c => ?_) (Cert.Reference9Ideal.Value.run m' g')
  obtain ⟨h56, h55, h57, hargs⟩ := h c
  obtain ⟨a0, a1, a2, a3, a4⟩ := hagree c
  refine ⟨h56.trans ?_, h55.trans ?_, h57.trans ?_, hargs⟩
  · rw [Cert.Reference9Ideal.Read.val_main_v56_eq, a0, a1, a2, a3, a4]
    exact Cert.HeadPair.loss m c hpre
  · rw [Cert.Reference9Ideal.Read.val_main_v55_eq, a0, a1, a2, a3, a4]
    exact Cert.HeadPair.dx m c hpre
  · rw [Cert.Reference9Ideal.Read.val_main_v57_eq, a0, a1, a2, a3, a4]
    exact Cert.HeadPair.dg m c hpre

theorem agree10 : Cert.algebraic_Kernel10Ideal_Reference10Ideal := by
  intro m g m' g' hpre hagree
  refine ⟨fun c => (Cert.Kernel10Ideal.Gen.dats m 0 c).arrAt 2 Cert.Kernel10Ideal.cfg0.N, Cert.Kernel10Ideal.Value.run_blocks m g, ?_⟩
  refine (θ_run Cert.Reference10Ideal.defs _ _).mono (fun r h c => ?_) (Cert.Reference10Ideal.Value.run m' g')
  obtain ⟨h6, hargs⟩ := h c
  obtain ⟨a0, a1⟩ := hagree c
  refine ⟨h6.trans ?_, hargs⟩
  · rw [Cert.Reference10Ideal.Read.val_main_v6_eq, a0, a1]
    exact (Cert.Kernel10Ideal.Value.final m c).symm

theorem agree11 : Cert.algebraic_Kernel11Ideal_Reference11Ideal := by
  intro m g m' g' hpre hagree
  refine ⟨fun c => (Cert.Kernel11Ideal.Gen.dats m 0 c).arrAt 2 Cert.Kernel11Ideal.cfg0.N, Cert.Kernel11Ideal.Value.run_blocks m g, ?_⟩
  refine (θ_run Cert.Reference11Ideal.defs _ _).mono (fun r h c => ?_) (Cert.Reference11Ideal.Value.run m' g')
  obtain ⟨h6, hargs⟩ := h c
  obtain ⟨a0, a1⟩ := hagree c
  refine ⟨h6.trans ?_, hargs⟩
  · rw [Cert.Reference11Ideal.Read.val_main_v6_eq, a0, a1]
    exact (Cert.Kernel11Ideal.Value.final m c).symm

theorem agree12 : Cert.algebraic_Kernel12Ideal_Reference12Ideal := by
  intro m g m' g' hpre hagree
  refine ⟨fun c => (Cert.Kernel12Ideal.Gen.dats m 0 c).arrAt 2 Cert.Kernel12Ideal.cfg0.N, Cert.Kernel12Ideal.Value.run_blocks m g, ?_⟩
  refine (θ_run Cert.Reference12Ideal.defs _ _).mono (fun r h c => ?_) (Cert.Reference12Ideal.Value.run m' g')
  obtain ⟨h6, hargs⟩ := h c
  obtain ⟨a0, a1⟩ := hagree c
  refine ⟨h6.trans ?_, hargs⟩
  · rw [Cert.Reference12Ideal.Read.val_main_v6_eq, a0, a1]
    exact (Cert.Kernel12Ideal.Value.final m c).symm

theorem agree13 : Cert.algebraic_Kernel13Ideal_Reference13Ideal := by
  intro m g m' g' hpre hagree
  refine ⟨fun c => (Cert.Kernel13Ideal.Gen.dats m 0 c).arrAt 2 Cert.Kernel13Ideal.cfg0.N, Cert.Kernel13Ideal.Value.run_blocks m g, ?_⟩
  refine (θ_run Cert.Reference13Ideal.defs _ _).mono (fun r h c => ?_) (Cert.Reference13Ideal.Value.run m' g')
  obtain ⟨h5, hargs⟩ := h c
  obtain ⟨a0, a1⟩ := hagree c
  refine ⟨h5.trans ?_, hargs⟩
  · rw [Cert.Reference13Ideal.Read.val_main_v5_eq, a0, a1]
    exact (Cert.Kernel13Ideal.Value.final m c).symm

theorem agree14 : Cert.algebraic_Kernel14Ideal_Reference14Ideal_pre_finite14 := by
  intro m g m' g' hpre hagree
  refine ⟨fun c => (Cert.Kernel14Ideal.Gen.dats m 0 c).arrAt 5 Cert.Kernel14Ideal.cfg0.N, fun c => (Cert.Kernel14Ideal.Gen.dats m 0 c).arrAt 6 Cert.Kernel14Ideal.cfg0.N, Cert.Kernel14Ideal.Value.run_blocks m g, ?_⟩
  refine (θ_run Cert.Reference14Ideal.defs _ _).mono (fun r h c => ?_) (Cert.Reference14Ideal.Value.run m' g')
  obtain ⟨h41, h42, hargs⟩ := h c
  obtain ⟨a0, a1, a2, a3, a4⟩ := hagree c
  refine ⟨h41.trans ?_, h42.trans ?_, hargs⟩
  · rw [Cert.Reference14Ideal.Read.val_main_v41_eq, a0, a1, a2, a3, a4]
    exact Cert.NormQuery.dx m c hpre
  · rw [Cert.Reference14Ideal.Read.val_main_v42_eq, a0, a1, a2]
    exact Cert.NormQuery.dg m c hpre

theorem agree15 : Cert.algebraic_Kernel15Ideal_Reference15Ideal_pre_finite15 := by
  intro m g m' g' hpre hagree
  refine ⟨fun c => (Cert.Kernel15Ideal.Gen.dats m 0 c).arrAt 5 Cert.Kernel15Ideal.cfg0.N, fun c => (Cert.Kernel15Ideal.Gen.dats m 0 c).arrAt 6 Cert.Kernel15Ideal.cfg0.N, Cert.Kernel15Ideal.Value.run_blocks m g, ?_⟩
  refine (θ_run Cert.Reference15Ideal.defs _ _).mono (fun r h c => ?_) (Cert.Reference15Ideal.Value.run m' g')
  obtain ⟨h41, h42, hargs⟩ := h c
  obtain ⟨a0, a1, a2, a3, a4⟩ := hagree c
  refine ⟨h41.trans ?_, h42.trans ?_, hargs⟩
  · rw [Cert.Reference15Ideal.Read.val_main_v41_eq, a0, a1, a2, a3, a4]
    exact Cert.NormConv.dx m c hpre
  · rw [Cert.Reference15Ideal.Read.val_main_v42_eq, a0, a1, a2]
    exact Cert.NormConv.dg m c hpre

theorem agree16 : Cert.algebraic_Kernel16Ideal_Reference16Ideal := by
  intro m g m' g' hpre hagree
  refine ⟨fun c => (Cert.Kernel16Ideal.Gen.dats m 0 c).arrAt 2 Cert.Kernel16Ideal.cfg0.N, Cert.Kernel16Ideal.Value.run_blocks m g, ?_⟩
  refine (θ_run Cert.Reference16Ideal.defs _ _).mono (fun r h c => ?_) (Cert.Reference16Ideal.Value.run m' g')
  obtain ⟨h5, hargs⟩ := h c
  obtain ⟨a0, a1⟩ := hagree c
  refine ⟨h5.trans ?_, hargs⟩
  · rw [Cert.Reference16Ideal.Read.val_main_v5_eq, a0, a1]
    exact (Cert.Kernel16Ideal.Value.final m c).symm

theorem agree17 : Cert.algebraic_Kernel17Ideal_Reference17Ideal := by
  intro m g m' g' hpre hagree
  refine ⟨fun c => (Cert.Kernel17Ideal.Gen.dats m 0 c).arrAt 2 Cert.Kernel17Ideal.cfg0.N, Cert.Kernel17Ideal.Value.run_blocks m g, ?_⟩
  refine (θ_run Cert.Reference17Ideal.defs _ _).mono (fun r h c => ?_) (Cert.Reference17Ideal.Value.run m' g')
  obtain ⟨h4, hargs⟩ := h c
  obtain ⟨a0, a1⟩ := hagree c
  refine ⟨h4.trans ?_, hargs⟩
  · rw [Cert.Reference17Ideal.Read.val_main_v4_eq, a0, a1]
    exact (Cert.Kernel17Ideal.Value.final m c).symm

theorem agree18 : Cert.algebraic_Kernel18Ideal_Reference18Ideal := by
  intro m g m' g' hpre hagree
  refine ⟨fun c => (Cert.Kernel18Ideal.Gen.dats m 0 c).arrAt 2 Cert.Kernel18Ideal.cfg0.N, Cert.Kernel18Ideal.Value.run_blocks m g, ?_⟩
  refine (θ_run Cert.Reference18Ideal.defs _ _).mono (fun r h c => ?_) (Cert.Reference18Ideal.Value.run m' g')
  obtain ⟨h18, hargs⟩ := h c
  obtain ⟨a0, a1⟩ := hagree c
  refine ⟨h18.trans ?_, hargs⟩
  · rw [Cert.Reference18Ideal.Read.val_main_v18_eq, a0, a1]
    exact (Cert.Kernel18Ideal.Value.final m c).symm

theorem agree19 : Cert.algebraic_Kernel19Ideal_Reference19Ideal := by
  intro m g m' g' hpre hagree
  refine ⟨fun c => (Cert.Kernel19Ideal.Gen.dats m 0 c).arrAt 1 Cert.Kernel19Ideal.cfg0.N, Cert.Kernel19Ideal.Value.run_blocks m g, ?_⟩
  refine (θ_run Cert.Reference19Ideal.defs _ _).mono (fun r h c => ?_) (Cert.Reference19Ideal.Value.run m' g')
  obtain ⟨h8, hargs⟩ := h c
  have a0 := hagree c
  refine ⟨h8.trans ?_, hargs⟩
  · rw [Cert.Reference19Ideal.Read.val_main_v8_eq, a0]
    exact (Cert.Kernel19Ideal.Value.final m c).symm

theorem agree20 : Cert.algebraic_Kernel20Ideal_Reference20Ideal := by
  intro m g m' g' hpre hagree
  refine ⟨fun c => (Cert.Kernel20Ideal.Gen.dats m 0 c).arrAt 3 Cert.Kernel20Ideal.cfg0.N, fun c => (Cert.Kernel20Ideal.Gen.dats m 0 c).arrAt 4 Cert.Kernel20Ideal.cfg0.N, Cert.Kernel20Ideal.Value.run_blocks m g, ?_⟩
  refine (θ_run Cert.Reference20Ideal.defs _ _).mono (fun r h c => ?_) (Cert.Reference20Ideal.Value.run m' g')
  obtain ⟨h16, h17, hargs⟩ := h c
  obtain ⟨a0, a1, a2⟩ := hagree c
  refine ⟨h16.trans ?_, h17.trans ?_, hargs⟩
  · rw [Cert.Reference20Ideal.Read.val_main_v16_eq, a0, a1, a2]
    exact (Cert.Kernel20Ideal.Value.final m c).symm
  · rw [Cert.Reference20Ideal.Read.val_main_v17_eq, a0, a2]
    exact (Cert.Kernel20Ideal.Value.final_norm m c).symm

theorem agree21 : Cert.algebraic_Kernel21Ideal_Reference21Ideal := by
  intro m g m' g' hpre hagree
  refine ⟨fun c => (Cert.Kernel21Ideal.Gen.dats m 0 c).arrAt 6 Cert.Kernel21Ideal.cfg0.N, fun c => (Cert.Kernel21Ideal.Gen.dats m 0 c).arrAt 7 Cert.Kernel21Ideal.cfg0.N, fun c => (Cert.Kernel21Ideal.Gen.dats m 0 c).arrAt 8 Cert.Kernel21Ideal.cfg0.N, Cert.Kernel21Ideal.Value.run_blocks m g, ?_⟩
  refine (θ_run Cert.Reference21Ideal.defs _ _).mono (fun r h c => ?_) (Cert.Reference21Ideal.Value.run m' g')
  obtain ⟨h30, h27, h31, hargs⟩ := h c
  obtain ⟨a0, a1, a2, a3⟩ := hagree c
  refine ⟨h30.trans ?_, h27.trans ?_, h31.trans ?_, hargs⟩
  · rw [Cert.Reference21Ideal.Read.val_main_v30_eq, a0, a1, a2, a3]
    exact (Cert.Kernel21Ideal.Value.final_pair m c).symm
  · rw [Cert.Reference21Ideal.Read.val_main_v27_eq, a0, a1, a2, a3]
    exact (Cert.Kernel21Ideal.Value.final_glu m c).symm
  · rw [Cert.Reference21Ideal.Read.val_main_v31_eq, a0, a3]
    exact (Cert.Kernel21Ideal.Value.final_norm m c).symm

theorem agree22 : Cert.algebraic_Kernel22Ideal_Reference22Ideal := by
  intro m g m' g' hpre hagree
  refine ⟨fun c => (Cert.Kernel22Ideal.Gen.dats m 0 c).arrAt 3 Cert.Kernel22Ideal.cfg0.N, Cert.Kernel22Ideal.Value.run_blocks m g, ?_⟩
  refine (θ_run Cert.Reference22Ideal.defs _ _).mono (fun r h c => ?_) (Cert.Reference22Ideal.Value.run m' g')
  obtain ⟨h4, hargs⟩ := h c
  obtain ⟨a0, a1, a2⟩ := hagree c
  refine ⟨h4.trans ?_, hargs⟩
  · rw [Cert.Reference22Ideal.Read.val_main_v4_eq, a0, a1, a2]
    exact (Cert.Kernel22Ideal.Value.final m c).symm

theorem agree23 : Cert.algebraic_Kernel23Ideal_Reference23Ideal := by
  intro m g m' g' hpre hagree
  refine ⟨fun c => (Cert.Kernel23Ideal.Gen.dats m 0 c).arrAt 4 Cert.Kernel23Ideal.cfg0.N, Cert.Kernel23Ideal.Value.run_blocks m g, ?_⟩
  refine (θ_run Cert.Reference23Ideal.defs _ _).mono (fun r h c => ?_) (Cert.Reference23Ideal.Value.run m' g')
  obtain ⟨h7, hargs⟩ := h c
  obtain ⟨a0, a1, a2, a3⟩ := hagree c
  refine ⟨h7.trans ?_, hargs⟩
  · rw [Cert.Reference23Ideal.Read.val_main_v7_eq, a0, a1, a2, a3]
    exact (Cert.Kernel23Ideal.Value.final m c).symm

theorem agree24 : Cert.algebraic_Kernel24Ideal_Reference24Ideal := by
  intro m g m' g' hpre hagree
  refine ⟨fun c => (Cert.Kernel24Ideal.Gen.dats m 0 c).arrAt 2 Cert.Kernel24Ideal.cfg0.N, Cert.Kernel24Ideal.Value.run_blocks m g, ?_⟩
  refine (θ_run Cert.Reference24Ideal.defs _ _).mono (fun r h c => ?_) (Cert.Reference24Ideal.Value.run m' g')
  obtain ⟨h4, hargs⟩ := h c
  obtain ⟨a0, a1⟩ := hagree c
  refine ⟨h4.trans ?_, hargs⟩
  · rw [Cert.Reference24Ideal.Read.val_main_v4_eq, a0, a1]
    exact (Cert.Kernel24Ideal.Value.final m c).symm

theorem agree25 : Cert.algebraic_Kernel25Ideal_Reference25Ideal := by
  intro m g m' g' hpre hagree
  refine ⟨fun c => (Cert.Kernel25Ideal.Gen.dats m 0 c).arrAt 2 Cert.Kernel25Ideal.cfg0.N, Cert.Kernel25Ideal.Value.run_blocks m g, ?_⟩
  refine (θ_run Cert.Reference25Ideal.defs _ _).mono (fun r h c => ?_) (Cert.Reference25Ideal.Value.run m' g')
  obtain ⟨h13, hargs⟩ := h c
  obtain ⟨a0, a1⟩ := hagree c
  refine ⟨h13.trans ?_, hargs⟩
  · rw [Cert.Reference25Ideal.Read.val_main_v13_eq, a0, a1]
    exact (Cert.Kernel25Ideal.Value.final m c).symm

theorem agree26 : Cert.algebraic_Kernel26Ideal_Reference26Ideal_pre_finite26 := by
  intro m g m' g' hpre hagree
  refine ⟨fun c => (Cert.Kernel26Ideal.Gen.dats m 0 c).arrAt 2 Cert.Kernel26Ideal.cfg0.N, Cert.Kernel26Ideal.Value.run_blocks m g, ?_⟩
  refine (θ_run Cert.Reference26Ideal.defs _ _).mono (fun r h c => ?_) (Cert.Reference26Ideal.Value.run m' g')
  obtain ⟨h24, hargs⟩ := h c
  obtain ⟨a0, a1⟩ := hagree c
  refine ⟨h24.trans ?_, hargs⟩
  · rw [Cert.Reference26Ideal.Read.val_main_v24_eq, a0, a1]
    exact Cert.Attend.out m c hpre

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts,
    Cert.Pre_finite.Gen.facts, Cert.Pre_finite2.Gen.facts, Cert.Pre_finite3.Gen.facts, Cert.Pre_finite8.Gen.facts, Cert.Pre_finite9.Gen.facts, Cert.Pre_finite14.Gen.facts, Cert.Pre_finite15.Gen.facts, Cert.Pre_finite26.Gen.facts,
    fun m ρ _ => Cert.Kernel.Gen.frame m ρ, fun m ρ _ => Cert.KernelIdeal.Gen.frame m ρ, fun m ρ _ => Cert.KernelIdeal.Gen.frame m ρ, fun m ρ _ => frame_reference m ρ, fun m ρ _ => frame_reference m ρ,
    fun m ρ _ => Cert.Kernel2.Gen.frame m ρ, fun m ρ _ => Cert.Kernel2Ideal.Gen.frame m ρ, fun m ρ _ => Cert.Kernel2Ideal.Gen.frame m ρ, fun m ρ _ => frame_reference2 m ρ, fun m ρ _ => frame_reference2 m ρ,
    fun m ρ _ => Cert.Kernel3.Gen.frame m ρ, fun m ρ _ => Cert.Kernel3Ideal.Gen.frame m ρ, fun m ρ _ => Cert.Kernel3Ideal.Gen.frame m ρ, fun m ρ _ => frame_reference3 m ρ, fun m ρ _ => frame_reference3 m ρ,
    fun m ρ _ => Cert.Kernel4.Gen.frame m ρ, fun m ρ _ => Cert.Kernel4Ideal.Gen.frame m ρ, fun m ρ _ => frame_reference4 m ρ,
    fun m ρ _ => Cert.Kernel5.Gen.frame m ρ, fun m ρ _ => Cert.Kernel5Ideal.Gen.frame m ρ, fun m ρ _ => frame_reference5 m ρ,
    fun m ρ _ => Cert.Kernel6.Gen.frame m ρ, fun m ρ _ => Cert.Kernel6Ideal.Gen.frame m ρ, fun m ρ _ => frame_reference6 m ρ,
    fun m ρ _ => Cert.Kernel7.Gen.frame m ρ, fun m ρ _ => Cert.Kernel7Ideal.Gen.frame m ρ, fun m ρ _ => frame_reference7 m ρ,
    fun m ρ _ => Cert.Kernel8.Gen.frame m ρ, fun m ρ _ => Cert.Kernel8Ideal.Gen.frame m ρ, fun m ρ _ => Cert.Kernel8Ideal.Gen.frame m ρ, fun m ρ _ => frame_reference8 m ρ, fun m ρ _ => frame_reference8 m ρ,
    fun m ρ _ => Cert.Kernel9.Gen.frame m ρ, fun m ρ _ => Cert.Kernel9Ideal.Gen.frame m ρ, fun m ρ _ => Cert.Kernel9Ideal.Gen.frame m ρ, fun m ρ _ => frame_reference9 m ρ, fun m ρ _ => frame_reference9 m ρ,
    fun m ρ _ => Cert.Kernel10.Gen.frame m ρ, fun m ρ _ => Cert.Kernel10Ideal.Gen.frame m ρ, fun m ρ _ => frame_reference10 m ρ,
    fun m ρ _ => Cert.Kernel11.Gen.frame m ρ, fun m ρ _ => Cert.Kernel11Ideal.Gen.frame m ρ, fun m ρ _ => frame_reference11 m ρ,
    fun m ρ _ => Cert.Kernel12.Gen.frame m ρ, fun m ρ _ => Cert.Kernel12Ideal.Gen.frame m ρ, fun m ρ _ => frame_reference12 m ρ,
    fun m ρ _ => Cert.Kernel13.Gen.frame m ρ, fun m ρ _ => Cert.Kernel13Ideal.Gen.frame m ρ, fun m ρ _ => frame_reference13 m ρ,
    fun m ρ _ => Cert.Kernel14.Gen.frame m ρ, fun m ρ _ => Cert.Kernel14Ideal.Gen.frame m ρ, fun m ρ _ => Cert.Kernel14Ideal.Gen.frame m ρ, fun m ρ _ => frame_reference14 m ρ, fun m ρ _ => frame_reference14 m ρ,
    fun m ρ _ => Cert.Kernel15.Gen.frame m ρ, fun m ρ _ => Cert.Kernel15Ideal.Gen.frame m ρ, fun m ρ _ => Cert.Kernel15Ideal.Gen.frame m ρ, fun m ρ _ => frame_reference15 m ρ, fun m ρ _ => frame_reference15 m ρ,
    fun m ρ _ => Cert.Kernel16.Gen.frame m ρ, fun m ρ _ => Cert.Kernel16Ideal.Gen.frame m ρ, fun m ρ _ => frame_reference16 m ρ,
    fun m ρ _ => Cert.Kernel17.Gen.frame m ρ, fun m ρ _ => Cert.Kernel17Ideal.Gen.frame m ρ, fun m ρ _ => frame_reference17 m ρ,
    fun m ρ _ => Cert.Kernel18.Gen.frame m ρ, fun m ρ _ => Cert.Kernel18Ideal.Gen.frame m ρ, fun m ρ _ => frame_reference18 m ρ,
    fun m ρ _ => Cert.Kernel19.Gen.frame m ρ, fun m ρ _ => Cert.Kernel19Ideal.Gen.frame m ρ, fun m ρ _ => frame_reference19 m ρ,
    fun m ρ _ => Cert.Kernel20.Gen.frame m ρ, fun m ρ _ => Cert.Kernel20Ideal.Gen.frame m ρ, fun m ρ _ => frame_reference20 m ρ,
    fun m ρ _ => Cert.Kernel21.Gen.frame m ρ, fun m ρ _ => Cert.Kernel21Ideal.Gen.frame m ρ, fun m ρ _ => frame_reference21 m ρ,
    fun m ρ _ => Cert.Kernel22.Gen.frame m ρ, fun m ρ _ => Cert.Kernel22Ideal.Gen.frame m ρ, fun m ρ _ => frame_reference22 m ρ,
    fun m ρ _ => Cert.Kernel23.Gen.frame m ρ, fun m ρ _ => Cert.Kernel23Ideal.Gen.frame m ρ, fun m ρ _ => frame_reference23 m ρ,
    fun m ρ _ => Cert.Kernel24.Gen.frame m ρ, fun m ρ _ => Cert.Kernel24Ideal.Gen.frame m ρ, fun m ρ _ => frame_reference24 m ρ,
    fun m ρ _ => Cert.Kernel25.Gen.frame m ρ, fun m ρ _ => Cert.Kernel25Ideal.Gen.frame m ρ, fun m ρ _ => frame_reference25 m ρ,
    fun m ρ _ => Cert.Kernel26.Gen.frame m ρ, fun m ρ _ => Cert.Kernel26Ideal.Gen.frame m ρ, fun m ρ _ => Cert.Kernel26Ideal.Gen.frame m ρ, fun m ρ _ => frame_reference26 m ρ, fun m ρ _ => frame_reference26 m ρ,
    trivial, agree, trivial, agree2, trivial, agree3, trivial, agree4, trivial, agree5, trivial, agree6, trivial, agree7, trivial, agree8, trivial, agree9, trivial, agree10, trivial, agree11, trivial, agree12, trivial, agree13, trivial, agree14, trivial, agree15, trivial, agree16, trivial, agree17, trivial, agree18, trivial, agree19, trivial, agree20, trivial, agree21, trivial, agree22, trivial, agree23, trivial, agree24, trivial, agree25, trivial, agree26⟩

end Cert.Proof

end
